-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S1x1024x1024 1 × IVec S1024x1024 1 × IVec S1x1024x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x1024x8x128 .bf16 := Host.absf main_arg2
  let main_cst_1 : FVec F S_ .bf16 := constant S_ .bf16 0x7F80#16
  let main_v7 : FVec F S1x1024x8x128 .bf16 := broadcastInDim S1x1024x8x128 ![] bcast_S_S1x1024x8x128 main_cst_1
  let main_v8 : IVec S1x1024x8x128 1 := cmpf .olt main_v6 main_v7
  (main_v2, main_v5, main_v8)
-- ==== Pre_scores_finite_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x1024x1024 .bf16) (main_arg1 : FVec F S1024x1024 .bf16) (main_arg2 : FVec F S1x8192x8x128 .bf16) (main_arg3 : FVec F S1x8192x8x128 .bf16) (main_arg4 : FVec F S1024x1024 .bf16) : IVec S1x1024x1024 1 × IVec S1024x1024 1 × IVec S1x8192x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x8192x8x128 .bf16 := Host.absf main_arg2
  let main_cst_1 : FVec F S_ .bf16 := constant S_ .bf16 0x7F80#16
  let main_v7 : FVec F S1x8192x8x128 .bf16 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S8x1024x128 : Shape := ⟨3, ![8, 1024, 128]⟩
abbrev S8x1032x128 : Shape := ⟨3, ![8, 1032, 128]⟩
abbrev S8 : Shape := ⟨1, ![8]⟩
abbrev S_ : Shape := ⟨0, ![]⟩
abbrev S1024x128 : Shape := ⟨2, ![1024, 128]⟩
abbrev S1x1024x128 : Shape := ⟨3, ![1, 1024, 128]⟩
abbrev S1x1024 : Shape := ⟨2, ![1, 1024]⟩
abbrev S128x128 : Shape := ⟨2, ![128, 128]⟩
abbrev S128x1024 : Shape := ⟨2, ![128, 1024]⟩
abbrev S1x128 : Shape := ⟨2, ![1, 128]⟩
abbrev S8x128 : Shape := ⟨2, ![8, 128]⟩
abbrev S1032x128 : Shape := ⟨2, ![1032, 128]⟩
abbrev S1x1032x128 : Shape := ⟨3, ![1, 1032, 128]⟩
abbrev S1 : Shape := ⟨1, ![1]⟩
abbrev S128x8 : Shape := ⟨2, ![128, 8]⟩
abbrev S128x1 : Shape := ⟨2, ![128, 1]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1024x1024, .bf16⟩
  | .hbm, ⟨6, _⟩ => ⟨S1024x8x128, .bf16⟩
  | .hbm, ⟨7, _⟩ => ⟨S1024x1024, .bf16⟩
  | .hbm, ⟨8, _⟩ => ⟨S1024x8x128, .bf16⟩
  | .hbm, ⟨9, _⟩ => ⟨S1024x1024, .bf16⟩
  | .hbm, ⟨10, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .f32⟩
  | .local _ .vmem, ⟨6, _⟩ => ⟨S8x1024x128, .bf16⟩
  | .local _ .vmem, ⟨7, _⟩ => ⟨S8x1024x128, .bf16⟩
  | .local _ .vmem, ⟨8, _⟩ => ⟨S8x1024x128, .bf16⟩
  | .local _ .vmem, ⟨9, _⟩ => ⟨S8x1032x128, .bf16⟩
  | .local _ .vmem, ⟨10, _⟩ => ⟨S8x1032x128, .bf16⟩
  | .local _ .vmem, ⟨11, _⟩ => ⟨S8x1024x128, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_145 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v234 : BitVec 32 := Scalar.addi v2 c1_i32_144
  let v235 : BitVec 32 := Scalar.addi v234 c0_i32_145
  let c8_i32_146 : BitVec 32 := 8#32
  let v236 : BitVec 32 := Scalar.remsi v235 c8_i32_146
  let v237 : Index := Scalar.indexCast v236
  let c0_147 : Index := 0#32
  let c0_148 : Index := 0#32
  ![v237.toNat, 0, 0]
def k0_off2 (d0 : Dev nD) (c0_i32_145 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v234 : BitVec 32 := Scalar.addi v2 c1_i32_144
  let v235 : BitVec 32 := Scalar.addi v234 c0_i32_145
  let c8_i32_146 : BitVec 32 := 8#32
  let v236 : BitVec 32 := Scalar.remsi v235 c8_i32_146
  let v274 : Index := Scalar.indexCast v236
  let c0_165 : Index := 0#32
  let c0_166 : Index := 0#32
  ![v274.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_170 : BitVec 32 := 0#32
  let c0_i32_171 : BitVec 32 := 0#32
  ![v2.toNat, 0, 0]
def k0_off5 (d0 : Dev nD) (c0_i32_145 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v234 : BitVec 32 := Scalar.addi v2 c1_i32_144
  let v235 : BitVec 32 := Scalar.addi v234 c0_i32_145
  let c8_i32_146 : BitVec 32 := 8#32
  let v236 : BitVec 32 := Scalar.remsi v235 c8_i32_146
  let c0_i32_172 : BitVec 32 := 0#32
  let c0_i32_173 : BitVec 32 := 0#32
  ![v236.toNat, 0, 0]
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v234 : BitVec 32 := Scalar.addi v2 c1_i32_144
  let c0_i32_145 : BitVec 32 := 0#32
  let v235 : BitVec 32 := Scalar.addi v234 c0_i32_145
  let c8_i32_146 : BitVec 32 := 8#32
  let v236 : BitVec 32 := Scalar.remsi v235 c8_i32_146
  let c1_i32_168 : BitVec 32 := 1#32
  let v278 : BitVec 32 := Scalar.muli v236 c1_i32_168
  let v279 : BitVec 32 := Scalar.addi c0_i32_169 v278
  v279.toNat
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v288 : BitVec 32 := Scalar.addi v2 c1_i32_174
  let c1_i32_175 : BitVec 32 := 1#32
  let v289 : BitVec 32 := Scalar.addi v288 c1_i32_175
  let c8_i32_176 : BitVec 32 := 8#32
  let v290 : BitVec 32 := Scalar.remsi v289 c8_i32_176
  let c1_i32_198 : BitVec 32 := 1#32
  let v332 : BitVec 32 := Scalar.muli v290 c1_i32_198
  let v333 : BitVec 32 := Scalar.addi c0_i32_199 v332
  v333.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v342 : BitVec 32 := Scalar.addi v2 c1_i32_204
  let c2_i32_205 : BitVec 32 := 2#32
  let v343 : BitVec 32 := Scalar.addi v342 c2_i32_205
  let c8_i32_206 : BitVec 32 := 8#32
  let v344 : BitVec 32 := Scalar.remsi v343 c8_i32_206
  let c1_i32_228 : BitVec 32 := 1#32
  let v386 : BitVec 32 := Scalar.muli v344 c1_i32_228
  let v387 : BitVec 32 := Scalar.addi c0_i32_229 v386
  v387.toNat
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v396 : BitVec 32 := Scalar.addi v2 c1_i32_234
  let c3_i32_235 : BitVec 32 := 3#32
  let v397 : BitVec 32 := Scalar.addi v396 c3_i32_235
  let c8_i32_236 : BitVec 32 := 8#32
  let v398 : BitVec 32 := Scalar.remsi v397 c8_i32_236
  let c1_i32_258 : BitVec 32 := 1#32
  let v440 : BitVec 32 := Scalar.muli v398 c1_i32_258
  let v441 : BitVec 32 := Scalar.addi c0_i32_259 v440
  v441.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v450 : BitVec 32 := Scalar.addi v2 c1_i32_264
  let c4_i32_265 : BitVec 32 := 4#32
  let v451 : BitVec 32 := Scalar.addi v450 c4_i32_265
  let c8_i32_266 : BitVec 32 := 8#32
  let v452 : BitVec 32 := Scalar.remsi v451 c8_i32_266
  let c1_i32_288 : BitVec 32 := 1#32
  let v494 : BitVec 32 := Scalar.muli v452 c1_i32_288
  let v495 : BitVec 32 := Scalar.addi c0_i32_289 v494
  v495.toNat
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_294 : BitVec 32 := 1#32
  let v504 : BitVec 32 := Scalar.addi v2 c1_i32_294
  let c5_i32_295 : BitVec 32 := 5#32
  let v505 : BitVec 32 := Scalar.addi v504 c5_i32_295
  let c8_i32_296 : BitVec 32 := 8#32
  let v506 : BitVec 32 := Scalar.remsi v505 c8_i32_296
  let c1_i32_318 : BitVec 32 := 1#32
  let v548 : BitVec 32 := Scalar.muli v506 c1_i32_318
  let v549 : BitVec 32 := Scalar.addi c0_i32_319 v548
  v549.toNat
def k0_dev14 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v558 : BitVec 32 := Scalar.addi v2 c1_i32_324
  let c6_i32_325 : BitVec 32 := 6#32
  let v559 : BitVec 32 := Scalar.addi v558 c6_i32_325
  let c8_i32_326 : BitVec 32 := 8#32
  let v560 : BitVec 32 := Scalar.remsi v559 c8_i32_326
  let c1_i32_348 : BitVec 32 := 1#32
  let v602 : BitVec 32 := Scalar.muli v560 c1_i32_348
  let v603 : BitVec 32 := Scalar.addi c0_i32_349 v602
  v603.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v612 : Index := Scalar.indexCast v2
  let c0_354 : Index := 0#32
  let c0_355 : Index := 0#32
  ![v612.toNat, 0, 0]
def k0_off7 (d0 : Dev nD) (c0_i32_373 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_372 : BitVec 32 := 7#32
  let v647 : BitVec 32 := Scalar.addi v2 c7_i32_372
  let v648 : BitVec 32 := Scalar.subi v647 c0_i32_373
  let c8_i32_374 : BitVec 32 := 8#32
  let v649 : BitVec 32 := Scalar.remsi v648 c8_i32_374
  ![v649.toNat]
def k0_off8 (d0 : Dev nD) (c0_i32_373 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_372 : BitVec 32 := 7#32
  let v647 : BitVec 32 := Scalar.addi v2 c7_i32_372
  let v648 : BitVec 32 := Scalar.subi v647 c0_i32_373
  let c8_i32_374 : BitVec 32 := 8#32
  let v649 : BitVec 32 := Scalar.remsi v648 c8_i32_374
  let c0_i32_378 : BitVec 32 := 0#32
  let c0_i32_379 : BitVec 32 := 0#32
  ![v649.toNat, 0, 0]
def k0_off9 (d0 : Dev nD) (c0_i32_373 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_372 : BitVec 32 := 7#32
  let v647 : BitVec 32 := Scalar.addi v2 c7_i32_372
  let v648 : BitVec 32 := Scalar.subi v647 c0_i32_373
  let c8_i32_374 : BitVec 32 := 8#32
  let v649 : BitVec 32 := Scalar.remsi v648 c8_i32_374
  let v658 : Index := Scalar.indexCast v649
  let c0_382 : Index := 0#32
  let c0_383 : Index := 0#32
  ![v658.toNat, 0, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v775 : Index := Scalar.indexCast v2
  let c0_457 : Index := 0#32
  let c0_458 : Index := 0#32
  ![v775.toNat, 0, 0]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_464 : BitVec 32 := 0#32
  let c0_i32_465 : BitVec 32 := 0#32
  ![v2.toNat, 0, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_466 : BitVec 32 := 0#32
  let c0_i32_467 : BitVec 32 := 0#32
  ![v2.toNat, 0, 0]
def k0_dev15 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_459 : BitVec 32 := 1#32
  let v779 : BitVec 32 := Scalar.addi v2 c1_i32_459
  let c8_i32_460 : BitVec 32 := 8#32
  let v780 : BitVec 32 := Scalar.remsi v779 c8_i32_460
  let c1_i32_462 : BitVec 32 := 1#32
  let v781 : BitVec 32 := Scalar.muli v780 c1_i32_462
  let v782 : BitVec 32 := Scalar.addi c0_i32_463 v781
  v782.toNat
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_468 : BitVec 32 := 2#32
  let v791 : BitVec 32 := Scalar.addi v2 c2_i32_468
  let c8_i32_469 : BitVec 32 := 8#32
  let v792 : BitVec 32 := Scalar.remsi v791 c8_i32_469
  let c1_i32_471 : BitVec 32 := 1#32
  let v793 : BitVec 32 := Scalar.muli v792 c1_i32_471
  let v794 : BitVec 32 := Scalar.addi c0_i32_472 v793
  v794.toNat
def k0_dev17 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_477 : BitVec 32 := 3#32
  let v803 : BitVec 32 := Scalar.addi v2 c3_i32_477
  let c8_i32_478 : BitVec 32 := 8#32
  let v804 : BitVec 32 := Scalar.remsi v803 c8_i32_478
  let c1_i32_480 : BitVec 32 := 1#32
  let v805 : BitVec 32 := Scalar.muli v804 c1_i32_480
  let v806 : BitVec 32 := Scalar.addi c0_i32_481 v805
  v806.toNat
def k0_dev18 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_486 : BitVec 32 := 4#32
  let v815 : BitVec 32 := Scalar.addi v2 c4_i32_486
  let c8_i32_487 : BitVec 32 := 8#32
  let v816 : BitVec 32 := Scalar.remsi v815 c8_i32_487
  let c1_i32_489 : BitVec 32 := 1#32
  let v817 : BitVec 32 := Scalar.muli v816 c1_i32_489
  let v818 : BitVec 32 := Scalar.addi c0_i32_490 v817
  v818.toNat
def k0_dev19 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_495 : BitVec 32 := 5#32
  let v827 : BitVec 32 := Scalar.addi v2 c5_i32_495
  let c8_i32_496 : BitVec 32 := 8#32
  let v828 : BitVec 32 := Scalar.remsi v827 c8_i32_496
  let c1_i32_498 : BitVec 32 := 1#32
  let v829 : BitVec 32 := Scalar.muli v828 c1_i32_498
  let v830 : BitVec 32 := Scalar.addi c0_i32_499 v829
  v830.toNat
def k0_dev20 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_504 : BitVec 32 := 6#32
  let v839 : BitVec 32 := Scalar.addi v2 c6_i32_504
  let c8_i32_505 : BitVec 32 := 8#32
  let v840 : BitVec 32 := Scalar.remsi v839 c8_i32_505
  let c1_i32_507 : BitVec 32 := 1#32
  let v841 : BitVec 32 := Scalar.muli v840 c1_i32_507
  let v842 : BitVec 32 := Scalar.addi c0_i32_508 v841
  v842.toNat
def k0_dev21 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_513 : BitVec 32 := 7#32
  let v851 : BitVec 32 := Scalar.addi v2 c7_i32_513
  let c8_i32_514 : BitVec 32 := 8#32
  let v852 : BitVec 32 := Scalar.remsi v851 c8_i32_514
  let c1_i32_516 : BitVec 32 := 1#32
  let v853 : BitVec 32 := Scalar.muli v852 c1_i32_516
  let v854 : BitVec 32 := Scalar.addi c0_i32_517 v853
  v854.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v863 : BitVec 32 := Scalar.muli v2 c128_i32
  let v864 : Index := Scalar.indexCast v863
  let c0_522 : Index := 0#32
  ![v864.toNat, 0]
def k0_off14 (d0 : Dev nD) (c0_i32_525 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_524 : BitVec 32 := 7#32
  let v868 : BitVec 32 := Scalar.addi v2 c7_i32_524
  let v869 : BitVec 32 := Scalar.subi v868 c0_i32_525
  let c8_i32_526 : BitVec 32 := 8#32
  let v870 : BitVec 32 := Scalar.remsi v869 c8_i32_526
  let c0_i32_530 : BitVec 32 := 0#32
  let c0_i32_531 : BitVec 32 := 0#32
  ![v870.toNat, 0, 0]
def k0_off15 (d0 : Dev nD) (c0_i32_525 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_524 : BitVec 32 := 7#32
  let v868 : BitVec 32 := Scalar.addi v2 c7_i32_524
  let v869 : BitVec 32 := Scalar.subi v868 c0_i32_525
  let c8_i32_526 : BitVec 32 := 8#32
  let v870 : BitVec 32 := Scalar.remsi v869 c8_i32_526
  let v879 : Index := Scalar.indexCast v870
  let c0_534 : Index := 0#32
  let c0_535 : Index := 0#32
  ![v879.toNat, 0, 0]
def k0_off16 (d0 : Dev nD) (c0_i32_525 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_524 : BitVec 32 := 7#32
  let v868 : BitVec 32 := Scalar.addi v2 c7_i32_524
  let v869 : BitVec 32 := Scalar.subi v868 c0_i32_525
  let c8_i32_526 : BitVec 32 := 8#32
  let v870 : BitVec 32 := Scalar.remsi v869 c8_i32_526
  let c128_i32_536 : BitVec 32 := 128#32
  let v882 : BitVec 32 := Scalar.muli v870 c128_i32_536
  let v883 : Index := Scalar.indexCast v882
  let c0_537 : Index := 0#32
  ![v883.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x8192x8x128, .bf16⟩
  | .hbm, ⟨3, _⟩ => ⟨S1x8192x8x128, .bf16⟩
  | .hbm, ⟨4, _⟩ => ⟨S1024x1024, .bf16⟩
  | .hbm, ⟨5, _⟩ => ⟨S1x1024x1024, .f32⟩
  | .hbm, ⟨6, _⟩ => ⟨S1024x1024, .f32⟩
  | .hbm, ⟨7, _⟩ => ⟨S1x8192x8x128, .f32⟩
  | .hbm, ⟨8, _⟩ => ⟨S1x8192x8x128, .f32⟩
  | .hbm, ⟨9, _⟩ => ⟨S1024x1024, .f32⟩
  | .hbm, ⟨10, _⟩ => ⟨S1x1024x1024, .f32⟩
  | .hbm, ⟨11, _⟩ => ⟨S1x1024x8x128, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S8192, .i32⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S1x8192, .i32⟩
  | .hbm, ⟨52, _⟩ => ⟨S1024x8192, .i32⟩
  | .hbm, ⟨53, _⟩ => ⟨S1024x8192, .i32⟩
  | .hbm, ⟨54, _⟩ => ⟨S1024x8192, .i1⟩
  | .hbm, ⟨55, _⟩ => ⟨S_, .i32⟩
  | .hbm, ⟨56, _⟩ => ⟨S1x8192, .i32⟩
  | .hbm, ⟨57, _⟩ => ⟨S1x8192, .i1⟩
  | .hbm, ⟨58, _⟩ => ⟨S1024x8192, .i1⟩
  | .hbm, ⟨59, _⟩ => ⟨S1024x8192, .i1⟩
  | .hbm, ⟨60, _⟩ => ⟨S1024x8192, .i32⟩
  | .hbm, ⟨61, _⟩ => ⟨S1024x8192, .i32⟩
  | .hbm, ⟨62, _⟩ => ⟨S1024x8192, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1024x8192, .i32⟩
  | .hbm, ⟨70, _⟩ => ⟨S1024x8192, .i32⟩
  | .hbm, ⟨71, _⟩ => ⟨S_, .i32⟩
  | .hbm, ⟨72, _⟩ => ⟨S1024x8192, .i32⟩
  | .hbm, ⟨73, _⟩ => ⟨S1024x8192, .i1⟩
  | .hbm, ⟨74, _⟩ => ⟨S_, .i32⟩
  | .hbm, ⟨75, _⟩ => ⟨S1024x8192, .i32⟩
  | .hbm, ⟨76, _⟩ => ⟨S1024x8192, .i1⟩
  | .hbm, ⟨77, _⟩ => ⟨S_, .i32⟩
  | .hbm, ⟨78, _⟩ => ⟨S_, .i1⟩
  | .hbm, ⟨79, _⟩ => ⟨S1024x8192, .i1⟩
  | .hbm, ⟨80, _⟩ => ⟨S1024x8192, .i1⟩
  | .hbm, ⟨81, _⟩ => ⟨S1024x8192, .i1⟩
  | .hbm, ⟨82, _⟩ => ⟨S1024x8192, .i32⟩
  | .hbm, ⟨83, _⟩ => ⟨S1024x8192, .i32⟩
  | .hbm, ⟨84, _⟩ => ⟨S1024x8192, .i32⟩
  | .hbm, ⟨85, _⟩ => ⟨S_, .i32⟩
  | .hbm, ⟨86, _⟩ => ⟨S1024x8192, .i32⟩
  | .hbm, ⟨87, _⟩ => ⟨S1024x8192, .i1⟩
  | .hbm, ⟨88, _⟩ => ⟨S1024x8192, .i1⟩
  | .hbm, ⟨89, _⟩ => ⟨S1x8x1024x8192, .f32⟩
  | .hbm, ⟨90, _⟩ => ⟨S_, .f32⟩
  | .hbm, ⟨91, _⟩ => ⟨S1x8x1024x8192, .f32⟩
  | .hbm, ⟨92, _⟩ => ⟨S1x8x1024x8192, .f32⟩
  | .hbm, ⟨93, _⟩ => ⟨S1x1x1024x8192, .i1⟩
  | .hbm, ⟨94, _⟩ => ⟨S_, .f32⟩
  | .hbm, ⟨95, _⟩ => ⟨S_, .f32⟩
  | .hbm, ⟨96, _⟩ => ⟨S1x8x1024x8192, .i1⟩
  | .hbm, ⟨97, _⟩ => ⟨S1x8x1024x8192, .f32⟩
  | .hbm, ⟨98, _⟩ => ⟨S1x8x1024x8192, .f32⟩
  | .hbm, ⟨99, _⟩ => ⟨S_, .f32⟩
  | .hbm, ⟨100, _⟩ => ⟨S1x8x1024, .f32⟩
  | .hbm, ⟨101, _⟩ => ⟨S1x8x1024x1, .f32⟩
  | .hbm, ⟨102, _⟩ => ⟨S1x8x1024x8192, .f32⟩
  | .hbm, ⟨103, _⟩ => ⟨S1x8x1024x8192, .f32⟩
  | .hbm, ⟨104, _⟩ => ⟨S1x8x1024x8192, .f32⟩
  | .hbm, ⟨105, _⟩ => ⟨S_, .i1⟩
  | .hbm, ⟨106, _⟩ => ⟨S1024, .i1⟩
  | .hbm, ⟨107, _⟩ => ⟨S1x1x1024x1, .i1⟩
  | .hbm, ⟨108, _⟩ => ⟨S_, .f32⟩
  | .hbm, ⟨109, _⟩ => ⟨S1x8x1024, .f32⟩
  | .hbm, ⟨110, _⟩ => ⟨S1x8x1024x1, .f32⟩
  | .hbm, ⟨111, _⟩ => ⟨S_, .f32⟩
  | .hbm, ⟨112, _⟩ => ⟨S_, .f32⟩
  | .hbm, ⟨113, _⟩ => ⟨S1x8x1024x1, .i1⟩
  | .hbm, ⟨114, _⟩ => ⟨S1x8x1024x1, .f32⟩
  | .hbm, ⟨115, _⟩ => ⟨S1x8x1024x1, .f32⟩
  | .hbm, ⟨116, _⟩ => ⟨S1x8x1024x8192, .f32⟩
  | .hbm, ⟨117, _⟩ => ⟨S1x8x1024x8192, .f32⟩
  | .hbm, ⟨118, _⟩ => ⟨S1x1x1024x1, .i1⟩
  | .hbm, ⟨119, _⟩ => ⟨S_, .f32⟩
  | .hbm, ⟨120, _⟩ => ⟨S_, .f32⟩
  | .hbm, ⟨121, _⟩ => ⟨S1x8x1024x8192, .i1⟩
  | .hbm, ⟨122, _⟩ => ⟨S1x8x1024x8192, .f32⟩
  | .hbm, ⟨123, _⟩ => ⟨S1x8x1024x8192, .f32⟩
  | .hbm, ⟨124, _⟩ => ⟨S1x8x128x1024, .f32⟩
  | .hbm, ⟨125, _⟩ => ⟨S1x1024x8x128, .f32⟩
  | .hbm, ⟨126, _⟩ => ⟨S1x1024x1024, .f32⟩
  | .hbm, ⟨127, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Proto.lean ====
/-
  The protocol of the kernel's eight devices, as a schedule of the rounds library.

  Device `c` talks to its peers `rot c 1`, …, `rot c 7`. Its semaphores are the barrier and four families of eight DMA
  semaphores (`dmaS k h`): `k = 0` read-outs of the head transfers, `k = 1` landings of the head transfers, `k = 2`
  read-outs of the context transfers, `k = 3` landings of the context transfers. Every cell has one round:

  * the barrier cell of `c` collects one unit from every other device `d`; with it `d` hands over its landing slots
    number `c` (where `c`'s transfers to `d` will land) and the fact that the cells these landings credit are open;
  * cell `dmaS 0 i` of `c` gets `c`'s own staging slot of head `rot c (i+1)` back;
  * cell `dmaS 1 s` of `c` gets `c`'s landing slot `s`, holding what device `s` computed for head `c`;
  * cell `dmaS 2 j` of `c` gets back a share of the slot which holds `c`'s own context;
  * cell `dmaS 3 s` of `c` gets `c`'s context slot `s`, holding the context of device `s`.
-/
module

public import proofs.«01_k».proof.Defs
public import Idealize.ShloMosaic.Lib.Pipeline.Launch
public import Idealize.ShloMosaic.Lib.Tactic
public import Idealize.ShloMosaic.Lib.Transfers
public import proofs.«01_k».proof.Proof.Gen.KernelIdeal
public import proofs.«01_k».proof.Proof.Gen.KernelIdeal.Launch
public import proofs.«01_k».proof.Proof.Gen.KernelIdeal.Skeleton

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's own bookkeeping, and the protocol's, where a duty is named by the device that pays it. -/
abbrev UPipe : Type := URounds (GSem nD τ sig) Unit
abbrev UTalk : Type := URounds (GSem nD τ sig) (Dev nD)
abbrev UU : Type := UPipe × UTalk

/-- Assertions over the machine of eight devices. -/
abbrev MM (F : FTy → Type) : Type := MT nD τ sig Unit (Elt F) ℕ UU ℕ

/-- The pipeline's component, and the protocol's. -/
def EP : Emb UPipe (MM F) :=
  (Emb.inl : Emb UPipe UU).trans (uEmb (nD := nD) (sig := sig) (Ix := Unit) (Val := Elt F) (Name := ℕ) (U := UU) (Lvl := ℕ)).toEmb
def ER : Emb UTalk (MM F) :=
  (Emb.inr : Emb UTalk UU).trans (uEmb (nD := nD) (sig := sig) (Ix := Unit) (Val := Elt F) (Name := ℕ) (U := UU) (Lvl := ℕ)).toEmb

instance EP_lands : (EP : Emb UPipe (MM F)).LandsIn (upEmb : UEmb _ (MM F)) := by unfold EP; infer_instance
instance ER_lands : (ER : Emb UTalk (MM F)).LandsIn (upEmb : UEmb _ (MM F)) := by unfold ER; infer_instance

/-! ## Peers -/

set_option backward.proofsInPublic true in
/-- The device `k` places after `c`. -/
def rot (c : Dev nD) (k : ℕ) : Dev nD := ⟨(c.val + k) % 8, Nat.mod_lt _ (by decide)⟩

theorem dev_lt (c : Dev nD) : c.val < 8 := c.isLt

theorem rot_val (c : Dev nD) (k : ℕ) : (rot c k).val = (c.val + k) % 8 := rfl

theorem rot_rot (c : Dev nD) (j k : ℕ) : rot (rot c j) k = rot c (j + k) := by
  apply Fin.ext; simp only [rot_val]; omega

theorem rot_eight (c : Dev nD) : rot c 8 = c := by
  apply Fin.ext; have := dev_lt c; rw [rot_val]; omega

theorem rot_zero (c : Dev nD) : rot c 0 = c := by
  apply Fin.ext; have := dev_lt c; rw [rot_val]; omega

theorem rot_ne (c : Dev nD) {j : ℕ} (h₁ : 1 ≤ j) (h₂ : j < 8) : rot c j ≠ c := fun h => by
  have h := congrArg Fin.val h; rw [rot_val] at h; have := dev_lt c; omega

theorem rot_inj (c : Dev nD) {j k : ℕ} (hj : j < 8) (hk : k < 8) (h : rot c j = rot c k) : j = k := by
  have h := congrArg Fin.val h; rw [rot_val, rot_val] at h; omega

/-- From the other end: `c` is `8 - j` places after the device `j` places after it. -/
theorem rot_back (c : Dev nD) {j : ℕ} (h : j ≤ 8) : rot (rot c j) (8 - j) = c := by
  rw [rot_rot, Nat.add_sub_cancel' h, rot_eight]

/-- Moving every device `k` places on, as a permutation. -/
def turn (k : ℕ) : Dev nD ≃ Dev nD where
  toFun c := rot c k
  invFun c := rot c (8 - k % 8)
  left_inv c := by apply Fin.ext; simp only [rot_val]; have := dev_lt c; omega
  right_inv c := by apply Fin.ext; simp only [rot_val]; have := dev_lt c; omega

/-! ## Buffers and slots -/

abbrev qM : Memref sig .tc .vmem S8x1024x128 .bf16 := Memref.whole cc0_scratch0
abbrev kM : Memref sig .tc .vmem S8x1024x128 .bf16 := Memref.whole cc0_scratch1
abbrev vM : Memref sig .tc .vmem S8x1024x128 .bf16 := Memref.whole cc0_scratch2
abbrev stgM : Memref sig .tc .vmem S8x1032x128 .bf16 := Memref.whole cc0_scratch3
abbrev comM : Memref sig .tc .vmem S8x1032x128 .bf16 := Memref.whole cc0_scratch4
abbrev ctxM : Memref sig .tc .vmem S8x1024x128 .bf16 := Memref.whole cc0_scratch5

theorem fit32 (h : Dev nD) : ∀ i, (![h.val, 0, 0] : Fin 3 → ℕ) i + S1x1032x128.size i ≤ S8x1032x128.size i := by revert h; decide
theorem fit24 (h : Dev nD) : ∀ i, (![h.val, 0, 0] : Fin 3 → ℕ) i + S1x1024x128.size i ≤ S8x1024x128.size i := by revert h; decide
theorem fitCtx (h : Dev nD) : ∀ i, (![h.val, 0, 0] : Fin 3 → ℕ) i + S1x1024x128.size i ≤ S8x1032x128.size i := by revert h; decide

/-- Slot `h` of a buffer of eight slots of 1032 rows; of 1024 rows; and the first 1024 rows of slot `h` of the former. -/
abbrev slot32 (M : Memref sig .tc .vmem S8x1032x128 .bf16) (h : Dev nD) : Memref sig .tc .vmem S1x1032x128 .bf16 :=
  M.slice (Rect.unit (s := S8x1032x128) ![h.val, 0, 0] S1x1032x128.size (fit32 h)) (fun _ => rfl)
abbrev slot24 (M : Memref sig .tc .vmem S8x1024x128 .bf16) (h : Dev nD) : Memref sig .tc .vmem S1x1024x128 .bf16 :=
  M.slice (Rect.unit (s := S8x1024x128) ![h.val, 0, 0] S1x1024x128.size (fit24 h)) (fun _ => rfl)
abbrev slotCtx (M : Memref sig .tc .vmem S8x1032x128 .bf16) (h : Dev nD) : Memref sig .tc .vmem S1x1024x128 .bf16 :=
  M.slice (Rect.unit (s := S8x1032x128) ![h.val, 0, 0] S1x1024x128.size (fitCtx h)) (fun _ => rfl)

/-! ## Cells -/

set_option backward.proofsInPublic true in
/-- DMA semaphore `h` of family `k`. -/
def dmaS (k : Fin 4) (h : Dev nD) : DmaSem sig := ⟨6 + 8 * k.val + h.val, by have := k.isLt; have := dev_lt h; show _ < 38; omega⟩

/-- The barrier semaphore. -/
abbrev barS : Sem sig := (SemArray.scalar (sig.barrier 0 rfl) : Sems sig S_).sem

abbrev barC (c : Dev nD) : GSem nD τ sig := ((c : Thread nD τ), .reg barS)
abbrev dmaC (c : Dev nD) (k : Fin 4) (h : Dev nD) : GSem nD τ sig := ((c : Thread nD τ), .dma (dmaS k h))

theorem dmaS_val (k : Fin 4) (h : Dev nD) : (dmaS k h).val = 6 + 8 * k.val + h.val := rfl

theorem dmaS_inj {k k' : Fin 4} {h h' : Dev nD} (e : dmaS k h = dmaS k' h') : k = k' ∧ h = h' := by
  have e := congrArg Fin.val e; rw [dmaS_val, dmaS_val] at e
  have := dev_lt h; have := dev_lt h'; have := k.isLt; have := k'.isLt
  exact ⟨Fin.ext (by omega), Fin.ext (by omega)⟩

/-- The printed semaphore slices. -/
theorem sem_send1 (h : Fin 8) (p) : ((cc0_scratch6.slice (Rect.unit (s := S8) ![h.val] S1.size p)).squeeze S_ squeezes_S1_S_).sem = dmaS 0 h := by
  revert h; decide
theorem sem_recv1 (h : Fin 8) (p) : ((cc0_scratch7.slice (Rect.unit (s := S8) ![h.val] S1.size p)).squeeze S_ squeezes_S1_S_).sem = dmaS 1 h := by
  revert h; decide
theorem sem_send2 (h : Fin 8) (p) : ((cc0_scratch8.slice (Rect.unit (s := S8) ![h.val] S1.size p)).squeeze S_ squeezes_S1_S_).sem = dmaS 2 h := by
  revert h; decide
theorem sem_recv2 (h : Fin 8) (p) : ((cc0_scratch9.slice (Rect.unit (s := S8) ![h.val] S1.size p)).squeeze S_ squeezes_S1_S_).sem = dmaS 3 h := by
  revert h; decide

/-- The credits of one head transfer and of one context transfer. -/
def N1 : ℕ := ((slot32 comM 0).squeeze S1032x128 squeezes_S1x1032x128_S1032x128).view.dmaCredit
def N2 : ℕ := ((slot24 ctxM 0).squeeze S1024x128 squeezes_S1x1024x128_S1024x128).view.dmaCredit
theorem N1_pos : 0 < N1 := View.dmaCredit_pos _ (by decide)
theorem N2_pos : 0 < N2 := View.dmaCredit_pos _ (by decide)

/-! ## The schedule -/

set_option backward.proofsInPublic true in
/-- Which DMA semaphore of the four families a semaphore is; `none` for every other. -/
def knd : SemLoc sig → Option (Fin 4 × Dev nD)
  | .reg _ => none
  | .dma s => if 6 ≤ s.val then some (⟨(s.val - 6) / 8 % 4, Nat.mod_lt _ (by decide)⟩, ⟨(s.val - 6) % 8, Nat.mod_lt _ (by decide)⟩) else none

theorem knd_dmaS (k : Fin 4) (h : Dev nD) : knd (.dma (dmaS k h)) = some (k, h) := by
  have := k.isLt; have := dev_lt h
  unfold knd
  dsimp only
  rw [if_pos (by rw [dmaS_val]; omega)]
  refine congrArg some (Prod.ext (Fin.ext ?_) (Fin.ext ?_)) <;> (dsimp only; rw [dmaS_val]; omega)

/-- Whether a cell of a family is used on device `c`. -/
def used (c : Dev nD) (k : Fin 4) (h : Dev nD) : Prop :=
  match k with | 0 => h.val ≠ 7 | 1 => h ≠ c | 2 => h.val ≠ 0 | 3 => h ≠ c
instance (c : Dev nD) (k : Fin 4) (h : Dev nD) : Decidable (used c k h) := by
  unfold used; split <;> infer_instance

/-- The credit of a family's transfers. -/
def amt (k : Fin 4) : ℕ := if k.val < 2 then N1 else N2
theorem amt_pos (k : Fin 4) : 0 < amt k := by unfold amt; split; exacts [N1_pos, N2_pos]

section Pay

variable (SV : Dev nD → Dev nD → Vec F S1x1032x128 .bf16) (CV : Dev nD → Vec F S1x1024x128 .bf16)

/-- What device `d`'s unit on `c`'s barrier cell hands over. -/
def barPay (c d : Dev nD) : sProp (MM F) :=
  iprop((∃ X, ownsTc d (slot32 comM c) fullShare X) ∗ (∃ X, ownsTc d (slot24 ctxM c) fullShare X)
    ∗ reached ER (dmaC d 1 c) 0 ∗ reached ER (dmaC d 3 c) 0)

/-- What the credit of cell `h` of family `k` of device `c` hands over. -/
def dmaPay (c : Dev nD) (k : Fin 4) (h : Dev nD) : sProp (MM F) :=
  match k with
  | 0 => iprop(∃ X, ownsTc c (slot32 stgM (rot c (h.val + 1))) fullShare X)
  | 1 => ownsTc c (slot32 comM h) fullShare (SV h c)
  | 2 => ownsTc c (slotCtx stgM c) (Transfers.shareTokN fullShare (h.val - 1)) (CV c)
  | 3 => ownsTc c (slot24 ctxM h) fullShare (CV h)

instance barPay_storable (c d : Dev nD) : BI.Storable (upEmb : UEmb _ (MM F)) (barPay (F := F) c d) := by
  unfold barPay; infer_instance
instance dmaPay_storable (c : Dev nD) (k : Fin 4) (h : Dev nD) : BI.Storable (upEmb : UEmb _ (MM F)) (dmaPay SV CV c k h) := by
  unfold dmaPay; split <;> infer_instance

/-- The schedule: round 0 of every used cell, as the module's head says. -/
def Rd : Rounds.Schedule (GSem nD τ sig) (Dev nD) (MM F) where
  duties g r := if r = 0 ∧ g.1.2 = .tc then
      match g.2 with
      | .reg _ => Finset.univ.erase g.1.1
      | .dma s => match knd (.dma s) with | some kh => if used g.1.1 kh.1 kh.2 then {0} else ∅ | none => ∅
    else ∅
  unitless _ := False
  amount g _ _ := match knd g.2 with | some kh => amt kh.1 | none => 1
  payload g _ d := match knd g.2 with | some kh => dmaPay SV CV g.1.1 kh.1 kh.2 | none => barPay g.1.1 d
  amount_pos g _ _ _ := by
    split
    · exact amt_pos _
    · exact Nat.one_pos

instance Rd_storable (g : GSem nD τ sig) (r : ℕ) (d : Dev nD) :
    BI.Storable (upEmb : UEmb _ (MM F)) ((Rd SV CV).payload g r d) := by
  show BI.Storable upEmb (match knd g.2 with | some kh => dmaPay SV CV g.1.1 kh.1 kh.2 | none => barPay g.1.1 d)
  split <;> infer_instance

/-! ### Its tables -/

theorem duties_bar (c : Dev nD) : (Rd SV CV).duties (barC c) 0 = Finset.univ.erase c := by
  dsimp only [Rd]; exact if_pos ⟨rfl, rfl⟩
theorem duties_dma (c : Dev nD) (k : Fin 4) (h : Dev nD) (hu : used c k h) : (Rd SV CV).duties (dmaC c k h) 0 = {0} := by
  dsimp only [Rd]; rw [if_pos ⟨rfl, rfl⟩, knd_dmaS]; exact if_pos hu
theorem duties_unused (c : Dev nD) (k : Fin 4) (h : Dev nD) (hu : ¬used c k h) (r : ℕ) : (Rd SV CV).duties (dmaC c k h) r = ∅ := by
  dsimp only [Rd]; split
  · rw [knd_dmaS]; exact if_neg hu
  · rfl
theorem duties_later (g : GSem nD τ sig) : ∀ r, 1 ≤ r → (Rd SV CV).duties g r = ∅ := fun r hr => by
  dsimp only [Rd]; exact if_neg fun h => by omega

theorem amount_bar (c : Dev nD) (d : Dev nD) : (Rd SV CV).amount (barC c) 0 d = 1 := rfl
theorem amount_dma (c : Dev nD) (k : Fin 4) (h d : Dev nD) : (Rd SV CV).amount (dmaC c k h) 0 d = amt k := by
  dsimp only [Rd]; rw [knd_dmaS]
theorem payload_bar (c : Dev nD) (d : Dev nD) : (Rd SV CV).payload (barC c) 0 d = barPay c d := rfl
theorem payload_dma (c : Dev nD) (k : Fin 4) (h d : Dev nD) : (Rd SV CV).payload (dmaC c k h) 0 d = dmaPay SV CV c k h := by
  dsimp only [Rd]; rw [knd_dmaS]

theorem expect_bar (c : Dev nD) : (Rd SV CV).expect (barC c) 0 = 7 := by
  unfold Schedule.expect Schedule.amountOf
  rw [duties_bar, Finset.sum_congr rfl fun d _ => amount_bar SV CV c d, Finset.sum_const, Finset.card_erase_of_mem (Finset.mem_univ _), Finset.card_univ]
  rfl
theorem expect_dma (c : Dev nD) (k : Fin 4) (h : Dev nD) (hu : used c k h) : (Rd SV CV).expect (dmaC c k h) 0 = amt k := by
  unfold Schedule.expect Schedule.amountOf; rw [duties_dma SV CV c k h hu, Finset.sum_singleton, amount_dma]
theorem rest_dma (c : Dev nD) (k : Fin 4) (h : Dev nD) (hu : used c k h) :
    bigSep ((Rd SV CV).duties (dmaC c k h) 0 \ ∅) (fun d => (Rd SV CV).payload (dmaC c k h) 0 d) = dmaPay SV CV c k h := by
  rw [Finset.sdiff_empty, duties_dma SV CV c k h hu, bigSep_singleton, payload_dma]
theorem rest_bar (c : Dev nD) :
    bigSep ((Rd SV CV).duties (barC c) 0 \ ∅) (fun d => (Rd SV CV).payload (barC c) 0 d) = bigSep (Finset.univ.erase c) (barPay (F := F) c) := by
  rw [Finset.sdiff_empty, duties_bar]; rfl

end Pay

/-! ## What a device owes, and the levels -/

/-- What `c` still owes when it has signalled the peers below `a`, sent heads to the peers below `b`, and its context to
    the peers below `e`. -/
def debt (c : Dev nD) (a b e : ℕ) : CellTallies nD τ sig Unit :=
  (∑ j ∈ Finset.Ico a 8, tallyAt (barC (rot c j)) () 1) + (∑ j ∈ Finset.Ico b 8, tallyAt (dmaC (rot c j) 1 c) () N1)
    + ∑ j ∈ Finset.Ico e 8, tallyAt (dmaC (rot c j) 3 c) () N2

theorem debt_bar (c : Dev nD) {a : ℕ} (b e : ℕ) (h : a < 8) : debt c a b e = debt c (a + 1) b e + tallyAt (barC (rot c a)) () 1 := by
  unfold debt; rw [Finset.sum_eq_sum_Ico_succ_bot h]; abel
theorem debt_head (c : Dev nD) (a : ℕ) {b : ℕ} (e : ℕ) (h : b < 8) : debt c a b e = debt c a (b + 1) e + tallyAt (dmaC (rot c b) 1 c) () N1 := by
  unfold debt; rw [Finset.sum_eq_sum_Ico_succ_bot h (fun j => tallyAt (dmaC (rot c j) 1 c) () N1)]; abel
theorem debt_ctx (c : Dev nD) (a b : ℕ) {e : ℕ} (h : e < 8) : debt c a b e = debt c a b (e + 1) + tallyAt (dmaC (rot c e) 3 c) () N2 := by
  unfold debt; rw [Finset.sum_eq_sum_Ico_succ_bot h (fun j => tallyAt (dmaC (rot c j) 3 c) () N2)]; abel
theorem debt_done (c : Dev nD) : debt c 8 8 8 = 0 := by
  unfold debt; simp only [Finset.Ico_self, Finset.sum_empty, add_zero]

/-- Every cell of a TensorCore has the one index levelled, -/
def L (g : GSem nD τ sig) : Finset Unit := if g.1.2 = .tc then {()} else ∅
/-- the barrier at 1, the landings of heads at 2, of contexts at 3, everything else at 0. -/
def lv (g : GSem nD τ sig) (_ : Unit) : ℕ :=
  match g.2 with
  | .reg _ => 1
  | .dma s => match knd (.dma s) with | some kh => if kh.1 = 1 then 2 else if kh.1 = 3 then 3 else 0 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_dma (c : Dev nD) (k : Fin 4) (h : Dev nD) : lv (dmaC c k h) () = if k = 1 then 2 else if k = 3 then 3 else 0 := by
  unfold lv; dsimp only; rw [knd_dmaS]

/-- A sum of tallies is positive only at one of its cells. -/
theorem sum_tally_pos {s : Finset ℕ} {G : ℕ → GSem nD τ sig} {n : ℕ} {g : GSem nD τ sig} {u : Unit}
    (h : 0 < (∑ j ∈ s, tallyAt (G j) () n) g u) : ∃ j ∈ s, g = G j := by
  rw [Finset.sum_apply, Finsupp.finset_sum_apply] at h
  obtain ⟨j, hj, hp⟩ := Finset.exists_ne_zero_of_sum_ne_zero (Nat.pos_iff_ne_zero.mp h)
  refine ⟨j, hj, ?_⟩
  rw [tallyAt_apply] at hp
  by_contra hn
  exact hp (if_neg fun h => hn h.1)

/-- Where `debt` is positive. -/
theorem debt_pos {c : Dev nD} {a b e : ℕ} {g : GSem nD τ sig} {u : Unit} (h : 0 < debt c a b e g u) :
    (∃ j ∈ Finset.Ico a 8, g = barC (rot c j)) ∨ (∃ j ∈ Finset.Ico b 8, g = dmaC (rot c j) 1 c) ∨ ∃ j ∈ Finset.Ico e 8, g = dmaC (rot c j) 3 c := by
  unfold debt at h
  rw [Pi.add_apply, Finsupp.add_apply, Pi.add_apply, Finsupp.add_apply] at h
  rcases Nat.add_pos_iff_pos_or_pos.mp h with h | h
  · rcases Nat.add_pos_iff_pos_or_pos.mp h with h | h
    · exact .inl (sum_tally_pos h)
    · exact .inr (.inl (sum_tally_pos h))
  · exact .inr (.inr (sum_tally_pos h))

/-- Owing only cells above level `n`, a device may wait on a cell at level `n` at most. -/
theorem mayWait_cut (c : Dev nD) (sm : SemLoc sig) (n : ℕ) (a b e : ℕ) (hsm : lv ((c : Thread nD τ), sm) () ≤ n)
    (ha : a < 8 → n < 1) (hb : b < 8 → n < 2) (he : e < 8 → n < 3) :
    (levAts L lv : sProp (MM F)) ⊢ MayWait (c : Thread nD τ) sm () (debt c a b e) := by
  refine MayOwe.of_cut (L := L) (lev := lv) n (fun p hp => by rw [Finset.mem_singleton.mp hp, L_tc]; exact Finset.mem_singleton_self _)
    (fun g u hg => by rcases debt_pos hg with ⟨j, -, rfl⟩ | ⟨j, -, rfl⟩ | ⟨j, -, rfl⟩ <;> exact Finset.mem_singleton_self _)
    (fun p hp => by rw [Finset.mem_singleton.mp hp]; exact hsm)
    (fun g u hg => ?_)
  rcases debt_pos hg with ⟨j, hj, rfl⟩ | ⟨j, hj, rfl⟩ | ⟨j, hj, rfl⟩ <;> rw [Finset.mem_Ico] at hj
  · rw [lv_bar]; exact ha (by omega)
  · rw [lv_dma]; exact hb (by omega)
  · rw [lv_dma]; exact he (by omega)

end Cert.Proto

end
-- ==== Proof.Steps.lean ====
/-
  The kernel's operations, one lemma each: loads and stores of a slot, the barrier's signals and wait, the two kinds of
  remote transfer, and the waits on the four families of DMA cells. Each says what the operation needs of the device's
  holdings and what it leaves, in front of any continuation.
-/
module

public import proofs.«01_k».proof.Proof.Proto

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Programs of one device -/

abbrev 𝒱₀ : Variants := Variants.none

/-- A program of device `c`'s TensorCore. -/
abbrev PR (F : FTy → Type) (α : Type) : Type 1 := Prog (TpuEff nD τ sig (Elt F) Λ₀ .tc) α

/-- Device `c` runs `p` to a result of which `Q` holds. -/
abbrev WP (c : Dev nD) {α : Type} (p : PR F α) (Q : α → sProp (MM F)) : sProp (MM F) :=
  wp frame (wpE (defs₀ (F := F)) 𝒱₀ (c : Thread nD τ) none) Set.univ p Q

/-! ## Loads and stores -/

section Mem

variable (c : Dev nD) {s : Shape} {e : EltTy} {α : Type} {Q : α → sProp (MM F)}

/-- A load through a rectangle of a memref owned as a slice. -/
theorem ld_slice {M : Memref sig .tc .vmem s e} {r : Rect s} (hr : ∀ a, r.stride a = 1) {hl : M.view.LoadsAt r.toLoadRect}
    {k : Vec F r.shape e → PR F α} {q : PosShare TreeShare} {X : Vec F r.shape e} :
    (ownsTc c (M.slice r hr) q X : sProp (MM F))
      ⊢ iprop((ownsTc c (M.slice r hr) q X -∗ WP c (k X) Q) -∗ WP c (Prog.op (TpuEff.load M r.toLoadRect hl) k) Q) := by
  unfold ownsTc owns
  iintro ⟨%f, %hf, H⟩ Hk
  iapply (wp_load_rect (m := M) (r := r) 𝒱₀ (c : Thread nD τ) none Set.univ (Finset.Subset.refl _)) $$ H
  iintro H
  rw [show (M.access r).read (Elt F) f = X from hf]
  iapply Hk
  iexists f
  isplitr; · ipureintro; exact hf
  iexact H

/-- A load through a rectangle of a memref owned whole. -/
theorem ld_part {M : Memref sig .tc .vmem s e} {r : Rect s} {hl : M.view.LoadsAt r.toLoadRect}
    {k : Vec F r.shape e → PR F α} {q : PosShare TreeShare} {X : Vec F s e} :
    (ownsTc c M q X : sProp (MM F))
      ⊢ iprop((ownsTc c M q X -∗ WP c (k fun i => X (r.emb i)) Q) -∗ WP c (Prog.op (TpuEff.load M r.toLoadRect hl) k) Q) := by
  unfold ownsTc owns
  iintro ⟨%f, %hf, H⟩ Hk
  iapply (wp_load_rect (m := M) (r := r) 𝒱₀ (c : Thread nD τ) none Set.univ (View.set_slice_subset _ _)) $$ H
  iintro H
  rw [show (M.access r).read (Elt F) f = fun i => X (r.emb i) from by subst hf; rfl]
  iapply Hk
  iexists f
  isplitr; · ipureintro; exact hf
  iexact H

/-- A store through a rectangle of a memref owned as a slice. -/
theorem st_slice {M : Memref sig .tc .vmem s e} {r : Rect s} (hr : ∀ a, r.stride a = 1) {w : Vec F r.shape e}
    {hx : (M.access r).Stores Finset.univ} {hm : (Finset.univ : Finset r.shape.Idx) = Finset.univ ∨ ∀ a, r.stride a = 1}
    {k : PUnit.{1} → PR F α} {X : Vec F r.shape e} :
    (ownsTc c (M.slice r hr) fullShare X : sProp (MM F))
      ⊢ iprop((ownsTc c (M.slice r hr) fullShare w -∗ WP c (k ⟨⟩) Q)
        -∗ WP c (Prog.op (TpuEff.store M r w Finset.univ hx hm) k) Q) := by
  unfold ownsTc owns
  iintro ⟨%f, %hf, H⟩ Hk
  iapply (wp_store (defs := defs₀ (F := F)) (m := M) (r := r) (w := w) (Mk := Finset.univ) (hx := hx) (hm := hm) (k := k) (Q := Q)
    (S := (M.slice r hr).view.set) (f := f) 𝒱₀ (c : Thread nD τ) none Set.univ (Finset.Subset.refl _)) $$ H
  iintro H
  iapply Hk
  iexists (M.access r).write (Elt F) f w Finset.univ
  isplitr; · ipureintro; exact View.read_write_univ _ _
  iexact H

end Mem

/-! ## The eight slots of a buffer, held together -/

/-- All slots of a buffer of 1024-row slots, slot `h` reading `X h`. -/
def fam (c : Dev nD) (M : Memref sig .tc .vmem S8x1024x128 .bf16) (X : Dev nD → Vec F S1x1024x128 .bf16) : sProp (MM F) :=
  bigSep Finset.univ fun h => ownsTc c (slot24 M h) fullShare (X h)

theorem fam_take (c : Dev nD) (M : Memref sig .tc .vmem S8x1024x128 .bf16) (X : Dev nD → Vec F S1x1024x128 .bf16) (h : Dev nD) :
    fam c M X = iprop(ownsTc c (slot24 M h) fullShare (X h)
      ∗ bigSep (Finset.univ.erase h) fun h => ownsTc c (slot24 M h) fullShare (X h)) := by
  unfold fam; exact bigSep_univ_at _ h

theorem fam_put (c : Dev nD) (M : Memref sig .tc .vmem S8x1024x128 .bf16) (X : Dev nD → Vec F S1x1024x128 .bf16) (h : Dev nD)
    (w : Vec F S1x1024x128 .bf16) :
    iprop(ownsTc c (slot24 M h) fullShare w ∗ bigSep (Finset.univ.erase h) fun h => ownsTc c (slot24 M h) fullShare (X h))
      = fam c M (Function.update X h w) := by
  rw [fam_take c M _ h, Function.update_self]
  congr 1
  exact bigSep_congr fun i hi => by rw [Function.update_of_ne (Finset.ne_of_mem_erase hi)]

section Fam

variable (c : Dev nD) {α : Type} {Q : α → sProp (MM F)}

/-- A load of slot `h`. -/
theorem ld_fam (h : Dev nD) {M : Memref sig .tc .vmem S8x1024x128 .bf16} {off : Fin 3 → ℕ} (ho : off = ![h.val, 0, 0])
    {p : ∀ i, off i + S1x1024x128.size i ≤ S8x1024x128.size i}
    {hl : M.view.LoadsAt (Rect.unit (s := S8x1024x128) off S1x1024x128.size p).toLoadRect}
    {k : Vec F S1x1024x128 .bf16 → PR F α} {X : Dev nD → Vec F S1x1024x128 .bf16} :
    (fam c M X : sProp (MM F))
      ⊢ iprop((fam c M X -∗ WP c (k (X h)) Q)
        -∗ WP c (Prog.op (TpuEff.load M (Rect.unit (s := S8x1024x128) off S1x1024x128.size p).toLoadRect hl) k) Q) := by
  subst ho
  rw [fam_take c M X h]
  iintro ⟨H, Hr⟩ Hk
  iapply (ld_slice c (M := M) (r := Rect.unit (s := S8x1024x128) ![h.val, 0, 0] S1x1024x128.size p) (fun _ => rfl)) $$ H
  iintro H
  iapply Hk
  isplitl [H] <;> iassumption

/-- A store of slot `h`. -/
theorem st_fam (h : Dev nD) {M : Memref sig .tc .vmem S8x1024x128 .bf16} {off : Fin 3 → ℕ} (ho : off = ![h.val, 0, 0])
    {p : ∀ i, off i + S1x1024x128.size i ≤ S8x1024x128.size i} {w : Vec F S1x1024x128 .bf16}
    {hx : (M.access (Rect.unit (s := S8x1024x128) off S1x1024x128.size p)).Stores Finset.univ} {hm}
    {k : PUnit.{1} → PR F α} {X : Dev nD → Vec F S1x1024x128 .bf16} :
    (fam c M X : sProp (MM F))
      ⊢ iprop((fam c M (Function.update X h w) -∗ WP c (k ⟨⟩) Q)
        -∗ WP c (Prog.op (TpuEff.store M (Rect.unit (s := S8x1024x128) off S1x1024x128.size p) w Finset.univ hx hm) k) Q) := by
  subst ho
  rw [fam_take c M X h, ← fam_put c M X h w]
  iintro ⟨H, Hr⟩ Hk
  iapply (st_slice c (M := M) (r := Rect.unit (s := S8x1024x128) ![h.val, 0, 0] S1x1024x128.size p) (fun _ => rfl)) $$ H
  iintro H
  iapply Hk
  isplitl [H] <;> iassumption

/-- A load and a store of one slot of 1032 rows. -/
theorem ld_slot (h : Dev nD) {M : Memref sig .tc .vmem S8x1032x128 .bf16} {off : Fin 3 → ℕ} (ho : off = ![h.val, 0, 0])
    {p : ∀ i, off i + S1x1032x128.size i ≤ S8x1032x128.size i}
    {hl : M.view.LoadsAt (Rect.unit (s := S8x1032x128) off S1x1032x128.size p).toLoadRect}
    {k : Vec F S1x1032x128 .bf16 → PR F α} {q : PosShare TreeShare} {X : Vec F S1x1032x128 .bf16} :
    (ownsTc c (slot32 M h) q X : sProp (MM F))
      ⊢ iprop((ownsTc c (slot32 M h) q X -∗ WP c (k X) Q)
        -∗ WP c (Prog.op (TpuEff.load M (Rect.unit (s := S8x1032x128) off S1x1032x128.size p).toLoadRect hl) k) Q) := by
  subst ho; exact ld_slice c _

theorem st_slot (h : Dev nD) {M : Memref sig .tc .vmem S8x1032x128 .bf16} {off : Fin 3 → ℕ} (ho : off = ![h.val, 0, 0])
    {p : ∀ i, off i + S1x1032x128.size i ≤ S8x1032x128.size i} {w : Vec F S1x1032x128 .bf16}
    {hx : (M.access (Rect.unit (s := S8x1032x128) off S1x1032x128.size p)).Stores Finset.univ} {hm}
    {k : PUnit.{1} → PR F α} {X : Vec F S1x1032x128 .bf16} :
    (ownsTc c (slot32 M h) fullShare X : sProp (MM F))
      ⊢ iprop((ownsTc c (slot32 M h) fullShare w -∗ WP c (k ⟨⟩) Q)
        -∗ WP c (Prog.op (TpuEff.store M (Rect.unit (s := S8x1032x128) off S1x1032x128.size p) w Finset.univ hx hm) k) Q) := by
  subst ho; exact st_slice c _

/-- The same of one slot of 1024 rows, held alone, -/
theorem ld_slot24 (h : Dev nD) {M : Memref sig .tc .vmem S8x1024x128 .bf16} {off : Fin 3 → ℕ} (ho : off = ![h.val, 0, 0])
    {p : ∀ i, off i + S1x1024x128.size i ≤ S8x1024x128.size i}
    {hl : M.view.LoadsAt (Rect.unit (s := S8x1024x128) off S1x1024x128.size p).toLoadRect}
    {k : Vec F S1x1024x128 .bf16 → PR F α} {q : PosShare TreeShare} {X : Vec F S1x1024x128 .bf16} :
    (ownsTc c (slot24 M h) q X : sProp (MM F))
      ⊢ iprop((ownsTc c (slot24 M h) q X -∗ WP c (k X) Q)
        -∗ WP c (Prog.op (TpuEff.load M (Rect.unit (s := S8x1024x128) off S1x1024x128.size p).toLoadRect hl) k) Q) := by
  subst ho; exact ld_slice c _

/-- and of the first 1024 rows of a slot of 1032. -/
theorem ld_ctx (h : Dev nD) {M : Memref sig .tc .vmem S8x1032x128 .bf16} {off : Fin 3 → ℕ} (ho : off = ![h.val, 0, 0])
    {p : ∀ i, off i + S1x1024x128.size i ≤ S8x1032x128.size i}
    {hl : M.view.LoadsAt (Rect.unit (s := S8x1032x128) off S1x1024x128.size p).toLoadRect}
    {k : Vec F S1x1024x128 .bf16 → PR F α} {q : PosShare TreeShare} {X : Vec F S1x1024x128 .bf16} :
    (ownsTc c (slotCtx M h) q X : sProp (MM F))
      ⊢ iprop((ownsTc c (slotCtx M h) q X -∗ WP c (k X) Q)
        -∗ WP c (Prog.op (TpuEff.load M (Rect.unit (s := S8x1032x128) off S1x1024x128.size p).toLoadRect hl) k) Q) := by
  subst ho; exact ld_slice c _

theorem st_ctx (h : Dev nD) {M : Memref sig .tc .vmem S8x1032x128 .bf16} {off : Fin 3 → ℕ} (ho : off = ![h.val, 0, 0])
    {p : ∀ i, off i + S1x1024x128.size i ≤ S8x1032x128.size i} {w : Vec F S1x1024x128 .bf16}
    {hx : (M.access (Rect.unit (s := S8x1032x128) off S1x1024x128.size p)).Stores Finset.univ} {hm}
    {k : PUnit.{1} → PR F α} {X : Vec F S1x1024x128 .bf16} :
    (ownsTc c (slotCtx M h) fullShare X : sProp (MM F))
      ⊢ iprop((ownsTc c (slotCtx M h) fullShare w -∗ WP c (k ⟨⟩) Q)
        -∗ WP c (Prog.op (TpuEff.store M (Rect.unit (s := S8x1032x128) off S1x1024x128.size p) w Finset.univ hx hm) k) Q) := by
  subst ho; exact st_slice c _

end Fam

/-! ## What every device may consult -/

set_option backward.proofsInPublic true in
/-- All barrier cells, and all DMA cells of the four families. -/
def barEmb : Dev nD ↪ GSem nD τ sig := ⟨fun c => barC c, fun _ _ h => congrArg (fun g : GSem nD τ sig => g.1.1) h⟩
set_option backward.proofsInPublic true in
def dmaEmb : Dev nD × (Fin 4 × Dev nD) ↪ GSem nD τ sig :=
  ⟨fun x => dmaC x.1 x.2.1 x.2.2, fun x y h => by
    have h₁ : x.1 = y.1 := congrArg (fun g : GSem nD τ sig => g.1.1) h
    have h₂ : SemLoc.dma (dmaS x.2.1 x.2.2) = SemLoc.dma (dmaS y.2.1 y.2.2) := congrArg Prod.snd h
    have h₃ := dmaS_inj (SemLoc.dma.inj h₂)
    exact Prod.ext h₁ (Prod.ext h₃.1 h₃.2)⟩

abbrev barCells : Finset (GSem nD τ sig) := Finset.univ.map barEmb
abbrev dmaCells : Finset (GSem nD τ sig) := Finset.univ.map dmaEmb

theorem bar_mem (c : Dev nD) : barC c ∈ barCells ∪ dmaCells :=
  Finset.mem_union_left _ (Finset.mem_map_of_mem barEmb (Finset.mem_univ c))
theorem dma_mem (c : Dev nD) (k : Fin 4) (h : Dev nD) : dmaC c k h ∈ barCells ∪ dmaCells :=
  Finset.mem_union_right _ (Finset.mem_map_of_mem dmaEmb (Finset.mem_univ (c, (k, h))))

section Talk

variable (SV : Dev nD → Dev nD → Vec F S1x1032x128 .bf16) (CV : Dev nD → Vec F S1x1024x128 .bf16) (κ : GSem nD τ sig → ℕ)

/-- The invariants of all cells, and the levels. -/
def Ctx : sProp (MM F) := iprop((bigSep (barCells ∪ dmaCells) fun g => cellInv ER (Rd SV CV) (κ g) g) ∗ levAts L lv)

instance Ctx_persistent : BI.Persistent (Ctx SV CV κ) := by unfold Ctx; infer_instance

theorem Ctx_inv {g : GSem nD τ sig} (hg : g ∈ barCells ∪ dmaCells) : Ctx SV CV κ ⊢ cellInv ER (Rd SV CV) (κ g) g :=
  sep_elim_left.trans (bigSep_elim hg)

theorem Ctx_lev : Ctx SV CV κ ⊢ levAts L lv :=
  sep_elim_right

variable (c : Dev nD) {α : Type} {Q : α → sProp (MM F)}

/-- What `c` owes, whatever it waits for. -/
def Ow (c : Dev nD) (a b e : ℕ) : sProp (MM F) := iprop(∃ W, owes (c : Thread nD τ) (debt c a b e) W)

/-! ### The barrier -/

/-- What `c` needs to signal peer `rot c j`. -/
def SigIn (j : ℕ) : sProp (MM F) :=
  iprop(dutyTok ER (barC (rot c j)) 0 c ∗ reached ER (barC (rot c j)) 0 ∗ barPay (rot c j) c)

theorem step_signal (j b e : ℕ) (h₁ : 1 ≤ j) (h₂ : j < 8) {n : Dev nD} (hn : n = rot c j) {k : PUnit.{1} → PR F α} :
    iprop(Ctx SV CV κ ∗ SigIn c j ∗ Ow c j b e)
      ⊢ iprop((Ow c (j + 1) b e -∗ WP c (k ⟨⟩) Q)
        -∗ WP c (Prog.op (TpuEff.semSignal (n, .tc) barS (1#32 : BitVec 32).toInt) k) Q) := by
  subst hn
  rw [show ((1#32 : BitVec 32).toInt) = ((1 : ℕ) : ℤ) from rfl]
  unfold SigIn Ow
  iintro ⟨#HC, ⟨Htok, Hr, Hpay⟩, ⟨%W, HO⟩⟩ Hk
  iapply (Rounds.wp_signal 𝒱₀ ER (Rd SV CV) (c : Thread nD τ) none (dst := (rot c j : Thread nD τ)) (sem := barS) (r := 0) (d := c)
    (κ := κ (barC (rot c j))) (by rw [duties_bar]; exact Finset.mem_erase.mpr ⟨(rot_ne c h₁ h₂).symm, Finset.mem_univ _⟩)
    (amount_bar SV CV _ _) () (debt c (j + 1) b e) (debt_bar c b e h₂)) $$ [Htok Hr Hpay HO]
  · isplitr; · iapply (Ctx_inv SV CV κ (bar_mem (rot c j))); iexact HC
    isplitl [HO]; · iexact HO
    isplitl [Htok]; · iexact Htok
    isplitl [Hpay]; · rw [payload_bar]; iexact Hpay
    iexact Hr
  iintro HO
  iapply Hk
  iexists W; iexact HO

theorem step_barrier {k : PUnit.{1} → PR F α} :
    iprop(Ctx SV CV κ ∗ cred (tallyAt (barC c) () 7) ∗ atPos ER (barC c) 0 ∅ 0 ∗ Ow c 8 1 1)
      ⊢ iprop((Ow c 8 1 1 ∗ atPos ER (barC c) 1 ∅ 0 ∗ bigSep (Finset.univ.erase c) (barPay (F := F) c)
          -∗ WP c (k ⟨⟩) Q)
        -∗ WP c (Prog.op (TpuEff.semWait barS (7#32 : BitVec 32).toInt) k) Q) := by
  rw [show ((7#32 : BitVec 32).toInt) = ((7 : ℕ) : ℤ) from rfl]
  unfold Ow
  iintro ⟨#HC, Hcr, Hat, ⟨%W, HO⟩⟩ Hk
  iapply (Rounds.wp_wait_rest_token 𝒱₀ ER (Rd SV CV) (c : Thread nD τ) none (κ := κ (barC c))
    (wpE_semWait_eq 𝒱₀ (c : Thread nD τ) none Set.univ) (Set.mem_univ _) () (O := debt c 8 1 1) (W := W) (R := 0) (m := 0) (T := ∅)
    (by rw [expect_bar])) $$ [Hcr Hat HO]
  · isplitr; · iapply (Ctx_inv SV CV κ (bar_mem c)); iexact HC
    isplitl [Hcr]; · iexact Hcr
    isplitl [HO]; · iexact HO
    isplitr
    · iapply (mayWait_cut c (.reg barS) 1 8 1 1 (le_of_eq (lv_bar c)) (by omega) (by omega) (by omega))
      iapply (Ctx_lev SV CV κ) $$ HC
    iexact Hat
  iintro ⟨HO, Hat, -, Hpay⟩
  iapply Hk
  isplitl [HO]; · iexists _; iexact HO
  isplitl [Hat]; · iexact Hat
  iapply (Entails.of_eq (rest_bar SV CV c)) $$ Hpay

/-! ### The transfers -/

/-- A slot without its leading dimension of one is the slot. -/
theorem sq32_set (M : Memref sig .tc .vmem S8x1032x128 .bf16) (h : Dev nD) :
    ((slot32 M h).squeeze S1032x128 squeezes_S1x1032x128_S1032x128).view.set = (slot32 M h).view.set := View.set_reshape _ _

/-- What the slot `h'` reads after the elements of slot `h` of another buffer were written to it. -/
theorem read_moved {s s' : Shape} {e : EltTy} {sp sp' : Space} (A : Memref sig .tc sp s e) (B : Memref sig .tc sp' s e) (hs : s.Squeezes s')
    (fs : A.view.ty.Contents (Elt F)) (fd : B.view.ty.Contents (Elt F)) :
    B.view.read (Elt F) ((B.squeeze s' hs).view.write (Elt F) fd ((A.squeeze s' hs).view.read (Elt F) fs) Finset.univ) = A.view.read (Elt F) fs := by
  have h := View.read_write_univ (Val := Elt F) (v := (B.squeeze s' hs).view) fd ((A.squeeze s' hs).view.read (Elt F) fs)
  funext x
  have hx := congrFun h ((Shape.reshapeEquiv hs.numel_eq).symm x)
  have hr : ∀ (v : View sig .tc sp s e) (g : v.ty.Contents (Elt F)), (v.reshape s' hs.numel_eq).read (Elt F) g
      ((Shape.reshapeEquiv hs.numel_eq).symm x) = v.read (Elt F) g x := fun v g => by
    show v.read (Elt F) g (Shape.reshapeEquiv hs.numel_eq ((Shape.reshapeEquiv hs.numel_eq).symm x)) = _
    rw [Equiv.apply_symm_apply]
  have hr' : ∀ (v : View sig .tc sp' s e) (g : v.ty.Contents (Elt F)), (v.reshape s' hs.numel_eq).read (Elt F) g
      ((Shape.reshapeEquiv hs.numel_eq).symm x) = v.read (Elt F) g x := fun v g => by
    show v.read (Elt F) g (Shape.reshapeEquiv hs.numel_eq ((Shape.reshapeEquiv hs.numel_eq).symm x)) = _
    rw [Equiv.apply_symm_apply]
  exact (hr' B.view _).symm.trans (hx.trans (hr A.view fs))

/-- The four pieces of ghost state a transfer of `c` to `n` uses: its own credit, and the landing's. -/
def SendIn (n : Dev nD) (kS kR : Fin 4) (i : Dev nD) : sProp (MM F) :=
  iprop(dutyTok ER (dmaC c kS i) 0 0 ∗ reached ER (dmaC c kS i) 0 ∗ dutyTok ER (dmaC n kR c) 0 0 ∗ reached ER (dmaC n kR c) 0)

/-- A transfer of a slot `A` of `c` into a slot `B` of `n`. -/
theorem step_send {s s' : Shape} {e : EltTy} (A B : Memref sig .tc .vmem s e) (hs : s.Squeezes s') {n : Dev nD} {kS kR : Fin 4} {i : Dev nD}
    {q : PosShare TreeShare} {X : Vec F s e} {N a b e₁ b' e' : ℕ} (hS : used c kS i) (hR : used n kR c) (hnk : n ≠ c)
    (haS : amt kS = N) (haR : amt kR = N) (hN : (B.squeeze s' hs).view.dmaCredit = N)
    (hO : debt c a b e₁ = debt c a b' e' + tallyAt (dmaC n kR c) () N)
    (hpS : ownsTc c A q X ⊢ dmaPay SV CV c kS i) (hpR : ownsTc n B fullShare X ⊢ dmaPay SV CV n kR c)
    {sS sR : DmaSem sig} (hsS : sS = dmaS kS i) (hsR : sR = dmaS kR c) {hsc} {hsrc hdst hsem} {k : PUnit.{1} → PR F α} :
    iprop(Ctx SV CV κ ∗ SendIn c n kS kR i ∗ ownsTc c A q X ∗ (∃ Y, ownsTc n B fullShare Y) ∗ Ow c a b e₁)
      ⊢ iprop((cred (tallyAt (dmaC c kS i) () N) ∗ Ow c a b' e' -∗ WP c (k ⟨⟩) Q)
        -∗ WP c (Prog.op (TpuEff.enqueueDma (A.squeeze s' hs) (.remote (Dev.tc n : Thread nD τ) (B.squeeze s' hs) (.dma sS) hsc) (.dma sR) hsrc hdst hsem) k) Q) := by
  subst hsS hsR
  have hsetA : (A.squeeze s' hs).view.set = A.view.set := View.set_reshape _ _
  have hsetB : (B.squeeze s' hs).view.set = B.view.set := View.set_reshape _ _
  unfold SendIn Ow
  iintro ⟨#HC, ⟨Ht, Hr, Ht', Hr'⟩, HA, ⟨%Y, HB⟩, ⟨%W, HO⟩⟩ Hk
  unfold ownsTc owns
  icases HA with ⟨%f, %hf, HA⟩
  icases HB with ⟨%g, %hg, HB⟩
  iapply (Rounds.wp_send_pointsTo 𝒱₀ ER (Rd SV CV) (c : Thread nD τ) none (c' := (n : Thread nD τ)) (src := A.squeeze s' hs) (dst := B.squeeze s' hs)
    (sS := .dma (dmaS kS i)) (sem := .dma (dmaS kR c)) (hsc := hsc) (hsrc := hsrc) (hdst := hdst) (hsem := hsem) (k := k)
    (q := q) (fs := f) (fd := g) (r₁ := 0) (r₂ := 0) (d₁ := 0) (d₂ := 0) (κ₁ := κ (dmaC c kS i)) (κ₂ := κ (dmaC n kR c))
    (by rw [duties_dma SV CV c kS i hS]; exact Finset.mem_singleton_self _)
    (by rw [duties_dma SV CV n kR c hR]; exact Finset.mem_singleton_self _) () () N hN
    ((amount_dma SV CV _ _ _ _).trans haS) ((amount_dma SV CV _ _ _ _).trans haR) (debt c a b' e') hO
    (by
      rw [payload_dma, hsetA]
      refine BIBase.Entails.trans ?_ hpS
      unfold ownsTc owns
      iintro H
      iexists f
      isplitr; · ipureintro; exact hf
      iexact H)
    (by
      rw [payload_dma, hsetB]
      refine BIBase.Entails.trans ?_ hpR
      unfold ownsTc owns
      iintro H
      iexists _
      isplitr
      · ipureintro; exact (read_moved A B hs f g).trans hf
      iexact H)) $$ [HA HB HO Ht Hr Ht' Hr']
  · isplitr; · iapply (Ctx_inv SV CV κ (dma_mem c kS i)); iexact HC
    isplitr; · iapply (Ctx_inv SV CV κ (dma_mem n kR c)); iexact HC
    isplitl [HA]; · rw [hsetA]; iexact HA
    isplitl [HB]; · rw [hsetB]; iexact HB
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-- A wait for a transfer's credit. -/
theorem step_wait {s s' : Shape} {e : EltTy} {src : Memref sig .tc .vmem s e} {dst : Memref sig .tc .vmem s' e} {k' : Fin 4} {i : Dev nD} {N a b e₁ : ℕ} (hu : used c k' i) (haS : amt k' = N)
    (hN : dst.view.dmaCredit = N) {n : ℕ} (hl : lv (dmaC c k' i) () ≤ n) (ha : a < 8 → n < 1) (hb : b < 8 → n < 2) (he : e₁ < 8 → n < 3)
    {sm : DmaSem sig} (hsm : sm = dmaS k' i) {hsrc hdst} {k : PUnit.{1} → PR F α} :
    iprop(Ctx SV CV κ ∗ cred (tallyAt (dmaC c k' i) () N) ∗ atPos ER (dmaC c k' i) 0 ∅ 0 ∗ Ow c a b e₁)
      ⊢ iprop((Ow c a b e₁ ∗ atPos ER (dmaC c k' i) 1 ∅ 0 ∗ dmaPay SV CV c k' i -∗ WP c (k ⟨⟩) Q)
        -∗ WP c (Prog.op (TpuEff.waitDma2 sm src dst hsrc hdst) k) Q) := by
  subst hsm hN
  unfold Ow
  iintro ⟨#HC, Hcr, Hat, ⟨%W, HO⟩⟩ Hk
  iapply (Rounds.wp_wait_rest_token 𝒱₀ ER (Rd SV CV) (c : Thread nD τ) none (κ := κ (dmaC c k' i))
    (wpE_waitDma2_eq 𝒱₀ (c : Thread nD τ) none Set.univ) (Set.mem_univ _) () (O := debt c a b e₁) (W := W) (R := 0) (m := 0) (T := ∅)
    (by rw [expect_dma SV CV c k' i hu, haS, Nat.zero_add])) $$ [Hcr Hat HO]
  · isplitr; · iapply (Ctx_inv SV CV κ (dma_mem c k' i)); iexact HC
    isplitl [Hcr]; · iexact Hcr
    isplitl [HO]; · iexact HO
    isplitr
    · iapply (mayWait_cut c (.dma (dmaS k' i)) n a b e₁ hl ha hb he)
      iapply (Ctx_lev SV CV κ) $$ HC
    iexact Hat
  iintro ⟨HO, Hat, -, Hpay⟩
  iapply Hk
  isplitl [HO]; · iexists _; iexact HO
  isplitl [Hat]; · iexact Hat
  iapply (Entails.of_eq (rest_dma SV CV c k' i hu)) $$ Hpay

end Talk

end Cert.Proto

end
-- ==== Proof.Vals.lean ====
/-
  The values a device computes, over any float values: the slots of its three head buffers, what it sends of a head, the
  context it makes of the eight pieces of its own head, and its result. Nothing here depends on how the devices talk.
-/
module

public import proofs.«01_k».proof.Proof.Steps

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A program that is done. -/
theorem wp_done (c : Dev nD) {α : Type} {Q : α → sProp (MM F)} (a : α) : Q a ⊢ WP c (Prog.ret a) Q := by
  exact fupd_intro

/-- The elements of a value at a rectangle. -/
def rd {s : Shape} {e : EltTy} (r : Rect s) (X : Vec F s e) : Vec F r.shape e := fun i => X (r.emb i)

theorem cut_slices (h : Dev nD) : S1024x1024.Slices ![0, 128 * h.val] S1024x128 := by revert h; decide
theorem cut_fits (h : Dev nD) : ∀ i, (![0, 128 * h.val] : Fin 2 → ℕ) i + S1024x128.size i ≤ S1024x1024.size i := by revert h; decide
theorem row_fits (h : Dev nD) : ∀ i, (![128 * h.val, 0] : Fin 2 → ℕ) i + S128x1024.size i ≤ S1024x1024.size i := by revert h; decide

/-- Columns `128 h` to `128 h + 127`, and rows. -/
def colsOf (X : Vec F S1024x1024 .bf16) (h : Dev nD) : Vec F S1024x128 .bf16 :=
  rd (Rect.unit (s := S1024x1024) ![0, 128 * h.val] S1024x128.size (cut_fits h)) X
def rowsOf (X : Vec F S1024x1024 .bf16) (h : Dev nD) : Vec F S128x1024 .bf16 :=
  rd (Rect.unit (s := S1024x1024) ![128 * h.val, 0] S128x1024.size (row_fits h)) X
/-- A whole array as a load of all of it gives it. -/
def allOf (X : Vec F S1024x1024 .bf16) : Vec F S1024x1024 .bf16 :=
  rd (Rect.unit (s := S1024x1024) ![0, 0] S1024x1024.size inb_S1024x1024_S1024x1024_0_0) X

/-- The queries of head `h`, from the product of all; the keys or values of head `h`. -/
def qF (v : FVec F S1024x1024 .bf16) (h : Dev nD) : Vec F S1x1024x128 .bf16 :=
  shapeCast S1x1024x128 (extractStridedSlice S1024x128 ![0, 128 * h.val] v (cut_slices h)) shapeCasts_S1024x128_S1x1024x128
abbrev kF (X : Vec F S1024x1024 .bf16) (h : Dev nD) : Vec F S1x1024x128 .bf16 := k0_pay3 (colsOf X h)

/-- The printed slots, as members of these. -/
theorem pay2_eq (v w : Vec F S1024x1024 .bf16) : k0_pay2 v w = qF (k0_pay1 v w) 0 := rfl
theorem pay5_eq (v : FVec F S1024x1024 .bf16) : k0_pay5 v = qF v 1 := rfl
theorem pay8_eq (v : FVec F S1024x1024 .bf16) : k0_pay8 v = qF v 2 := rfl
theorem pay11_eq (v : FVec F S1024x1024 .bf16) : k0_pay11 v = qF v 3 := rfl
theorem pay14_eq (v : FVec F S1024x1024 .bf16) : k0_pay14 v = qF v 4 := rfl
theorem pay17_eq (v : FVec F S1024x1024 .bf16) : k0_pay17 v = qF v 5 := rfl
theorem pay20_eq (v : FVec F S1024x1024 .bf16) : k0_pay20 v = qF v 6 := rfl
theorem pay23_eq (v : FVec F S1024x1024 .bf16) : k0_pay23 v = qF v 7 := rfl
theorem pay4_eq (v : Vec F S1024x128 .bf16) : k0_pay4 v = k0_pay3 v := rfl
theorem pay6_eq (v : Vec F S1024x128 .bf16) : k0_pay6 v = k0_pay3 v := rfl
theorem pay7_eq (v : Vec F S1024x128 .bf16) : k0_pay7 v = k0_pay3 v := rfl
theorem pay9_eq (v : Vec F S1024x128 .bf16) : k0_pay9 v = k0_pay3 v := rfl
theorem pay10_eq (v : Vec F S1024x128 .bf16) : k0_pay10 v = k0_pay3 v := rfl
theorem pay12_eq (v : Vec F S1024x128 .bf16) : k0_pay12 v = k0_pay3 v := rfl
theorem pay13_eq (v : Vec F S1024x128 .bf16) : k0_pay13 v = k0_pay3 v := rfl
theorem pay15_eq (v : Vec F S1024x128 .bf16) : k0_pay15 v = k0_pay3 v := rfl
theorem pay16_eq (v : Vec F S1024x128 .bf16) : k0_pay16 v = k0_pay3 v := rfl
theorem pay18_eq (v : Vec F S1024x128 .bf16) : k0_pay18 v = k0_pay3 v := rfl
theorem pay19_eq (v : Vec F S1024x128 .bf16) : k0_pay19 v = k0_pay3 v := rfl
theorem pay21_eq (v : Vec F S1024x128 .bf16) : k0_pay21 v = k0_pay3 v := rfl
theorem pay22_eq (v : Vec F S1024x128 .bf16) : k0_pay22 v = k0_pay3 v := rfl
theorem pay24_eq (v : Vec F S1024x128 .bf16) : k0_pay24 v = k0_pay3 v := rfl
theorem pay25_eq (v : Vec F S1024x128 .bf16) : k0_pay25 v = k0_pay3 v := rfl

/-- The first `n` members of `X`, the others of `Y`. -/
def mix {α : Type} (n : ℕ) (X Y : Dev nD → α) (h : Dev nD) : α := if h.val < n then X h else Y h
theorem mix_put {α : Type} (X Y : Dev nD → α) (h : Dev nD) : Function.update (mix h.val X Y) h (X h) = mix (h.val + 1) X Y := by
  funext i
  unfold mix
  by_cases hi : i = h
  · subst hi; rw [Function.update_self, if_pos (Nat.lt_succ_self _)]
  · rw [Function.update_of_ne hi]
    have hv : i.val ≠ h.val := fun e => hi (Fin.ext e)
    by_cases hl : i.val < h.val
    · rw [if_pos hl, if_pos (by omega)]
    · rw [if_neg hl, if_neg (by omega)]
theorem mix_zero {α : Type} (X Y : Dev nD → α) : mix 0 X Y = Y := by
  funext i; unfold mix; rw [if_neg (Nat.not_lt_zero _)]
theorem mix_eight {α : Type} (X Y : Dev nD → α) : mix 8 X Y = X := by
  funext i; unfold mix; rw [if_pos (dev_lt i)]

/-- A load of all of an array, of 128 of its columns, of 128 of its rows. -/
theorem ld_all (c : Dev nD) {α : Type} {Q : α → sProp (MM F)} {M : Memref sig .tc .vmem S1024x1024 .bf16} {hl} {k : Vec F S1024x1024 .bf16 → PR F α}
    {q : PosShare TreeShare} {X : Vec F S1024x1024 .bf16} :
    (ownsTc c M q X : sProp (MM F))
      ⊢ iprop((ownsTc c M q X -∗ WP c (k (allOf X)) Q) -∗ WP c (Prog.op (TpuEff.load M
        (Rect.unit (s := S1024x1024) ![0, 0] S1024x1024.size inb_S1024x1024_S1024x1024_0_0).toLoadRect hl) k) Q) :=
  ld_part (F := F) c (M := M) (r := Rect.unit (s := S1024x1024) ![0, 0] S1024x1024.size inb_S1024x1024_S1024x1024_0_0) (k := k) (X := X)
theorem ld_cols (c : Dev nD) {α : Type} {Q : α → sProp (MM F)} (h : Dev nD) {M : Memref sig .tc .vmem S1024x1024 .bf16} {off : Fin 2 → ℕ}
    (ho : off = ![0, 128 * h.val]) {p : ∀ i, off i + S1024x128.size i ≤ S1024x1024.size i} {hl} {k : Vec F S1024x128 .bf16 → PR F α}
    {q : PosShare TreeShare} {X : Vec F S1024x1024 .bf16} :
    (ownsTc c M q X : sProp (MM F))
      ⊢ iprop((ownsTc c M q X -∗ WP c (k (colsOf X h)) Q)
        -∗ WP c (Prog.op (TpuEff.load M (Rect.unit (s := S1024x1024) off S1024x128.size p).toLoadRect hl) k) Q) := by
  subst ho; exact ld_part (F := F) c (M := M) (r := Rect.unit (s := S1024x1024) ![0, 128 * h.val] S1024x128.size p) (k := k) (X := X)
theorem ld_rows (c : Dev nD) {α : Type} {Q : α → sProp (MM F)} (h : Dev nD) {M : Memref sig .tc .vmem S1024x1024 .bf16} {off : Fin 2 → ℕ}
    (ho : off = ![128 * h.val, 0]) {p : ∀ i, off i + S128x1024.size i ≤ S1024x1024.size i} {hl} {k : Vec F S128x1024 .bf16 → PR F α}
    {q : PosShare TreeShare} {X : Vec F S1024x1024 .bf16} :
    (ownsTc c M q X : sProp (MM F))
      ⊢ iprop((ownsTc c M q X -∗ WP c (k (rowsOf X h)) Q)
        -∗ WP c (Prog.op (TpuEff.load M (Rect.unit (s := S1024x1024) off S128x1024.size p).toLoadRect hl) k) Q) := by
  subst ho; exact ld_part (F := F) c (M := M) (r := Rect.unit (s := S1024x1024) ![128 * h.val, 0] S128x1024.size p) (k := k) (X := X)

/-- A store of the member of `X` that slot `h` is to hold, the slots before it holding theirs. -/
theorem st_mix (c : Dev nD) {α : Type} {Q : α → sProp (MM F)} (h : Dev nD) (n m : ℕ) (hn : n = h.val) (hm' : m = h.val + 1)
    {M : Memref sig .tc .vmem S8x1024x128 .bf16} {off : Fin 3 → ℕ} (ho : off = ![h.val, 0, 0])
    {p : ∀ i, off i + S1x1024x128.size i ≤ S8x1024x128.size i} {X Y : Dev nD → Vec F S1x1024x128 .bf16}
    {hx : (M.access (Rect.unit (s := S8x1024x128) off S1x1024x128.size p)).Stores Finset.univ} {hm} {k : PUnit.{1} → PR F α} :
    (fam c M (mix n X Y) : sProp (MM F))
      ⊢ iprop((fam c M (mix m X Y) -∗ WP c (k ⟨⟩) Q)
        -∗ WP c (Prog.op (TpuEff.store M (Rect.unit (s := S8x1024x128) off S1x1024x128.size p) (X h) Finset.univ hx hm) k) Q) := by
  subst hn hm'
  rw [← mix_put]
  exact st_fam c h ho

/-- Device `c`'s number as the program computes it. -/
abbrev wd (c : Dev nD) : BitVec 32 := Scalar.remsi (Scalar.divsi (Dev.word c) 1#32) 8#32

/-- Which keys of device `c` each query row attends to. -/
def maskF (c : Dev nD) : IVec S1024x1024 1 :=
  k0_pay34 (k0_pay30 (wd c) k0_pay26 k0_pay27 1#32) (Scalar.select (Scalar.cmpi .eq 3#32 0#32) 1#32 3#32) (k0_pay31 (wd c) k0_pay26 k0_pay27 1#32)
    (k0_pay32 (wd c) k0_pay26 k0_pay27 1#32) (k0_pay33 (wd c) k0_pay26 k0_pay27 1#32)
    (Scalar.cmpi .slt (Scalar.select (Scalar.cmpi .eq 3#32 0#32) 1#32 3#32) 0#32)

/-- What a device whose keys are masked by `m` sends of a head with queries `q`, keys `k` and values `v`. -/
def headO (m : IVec S1024x1024 1) (q k v : Vec F S1x1024x128 .bf16) : Vec F S1x1032x128 .bf16 :=
  k0_pay44 m (k0_pay35 (F := F)) (k0_pay43 q) k v

/-- The same of the device's own head, before any rounding, joined with the piece that arrives first. -/
def ownO (m : IVec S1024x1024 1) (q k v : Vec F S1x1024x128 .bf16) (y : Vec F S1x1032x128 .bf16) : FVec F S1032x128 .f32 :=
  k0_pay78 (k0_pay35 (F := F)) (k0_pay72 m q k) (k0_pay73 m q k v) (k0_pay74 m (k0_pay35 (F := F)) q k) (k0_pay75 m (k0_pay35 (F := F)) q k)
    (k0_pay76 m (k0_pay35 (F := F)) q k) (k0_pay77 m (k0_pay35 (F := F)) q k) y

/-- Device `c`'s piece of head `h`, from the arrays of `c`. -/
def pieceO (c : Dev nD) (X0 X1 X2 X3 : Vec F S1024x1024 .bf16) (h : Dev nD) : Vec F S1x1032x128 .bf16 :=
  headO (maskF c) (qF (k0_pay1 (allOf X0) (allOf X1)) h) (kF X2 h) (kF X3 h)

/-- The context of device `c`'s own head: its own piece and the seven that arrive, `y` by sender. -/
def ctxO (c : Dev nD) (X0 X1 X2 X3 : Vec F S1024x1024 .bf16) (y : Dev nD → Vec F S1x1032x128 .bf16) : Vec F S1x1024x128 .bf16 :=
  k0_pay82 (k0_pay36 (F := F))
    (k0_pay80 (k0_pay79 (ownO (maskF c) (qF (k0_pay1 (allOf X0) (allOf X1)) c) (kF X2 c) (kF X3 c) (y (rot c 7))) (y (rot c 6)) (y (rot c 5)))
      (y (rot c 4)) (y (rot c 3))) (y (rot c 2)) (y (rot c 1))

/-- The result of device `c`, from its own context and the seven that arrive, `y` by sender. -/
def outO (c : Dev nD) (X4 : Vec F S1024x1024 .bf16) (t : FVec F S1024x128 .bf16) (y : Dev nD → Vec F S1x1024x128 .bf16) : Vec F S1x1024x1024 .f32 :=
  k0_pay89 (k0_pay88 (k0_pay87 (k0_pay85 (k0_pay84 (k0_pay83 t (rowsOf X4 c)) (y (rot c 7)) (rowsOf X4 (rot c 7)) (y (rot c 6)) (rowsOf X4 (rot c 6)))
      (y (rot c 5)) (rowsOf X4 (rot c 5))) (k0_pay86 (y (rot c 4))) (rowsOf X4 (rot c 4)) (y (rot c 3)) (rowsOf X4 (rot c 3)))
      (y (rot c 2)) (rowsOf X4 (rot c 2)) (y (rot c 1)) (rowsOf X4 (rot c 1)))

end Cert.Proto

end
-- ==== Proof.PartA.lean ====
/-
  The barrier, and the filling of the three head buffers.
-/
module

public import proofs.«01_k».proof.Proof.Vals

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (SV : Dev nD → Dev nD → Vec F S1x1032x128 .bf16) (CV : Dev nD → Vec F S1x1024x128 .bf16) (κ : GSem nD τ sig → ℕ) (c : Dev nD)

theorem part1 {Q : _ → sProp (MM F)} :
    iprop(Ctx SV CV κ ∗ SigIn c 1 ∗ SigIn c 2 ∗ SigIn c 3 ∗ SigIn c 4 ∗ SigIn c 5 ∗ Ow c 1 1 1)
      ⊢ iprop((Ow c 6 1 1 -∗ Q ⟨c, wd c, SemArray.scalar (sig.barrier 0 rfl), Scalar.addi (wd c) 6#32, 8#32⟩) -∗ WP c (k0_part1 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HC, S1, S2, S3, S4, S5, HO⟩ Hk
  iapply (step_signal SV CV κ c 1 1 1 (by decide) (by decide) (Fin.ext (k0_dev1_eq c))) $$ [S1 HO]
  · isplitr; · iexact HC
    isplitl [S1]; · iexact S1
    iexact HO
  iintro HO
  iapply (step_signal SV CV κ c 2 1 1 (by decide) (by decide) (Fin.ext (k0_dev2_eq c))) $$ [S2 HO]
  · isplitr; · iexact HC
    isplitl [S2]; · iexact S2
    iexact HO
  iintro HO
  iapply (step_signal SV CV κ c 3 1 1 (by decide) (by decide) (Fin.ext (k0_dev3_eq c))) $$ [S3 HO]
  · isplitr; · iexact HC
    isplitl [S3]; · iexact S3
    iexact HO
  iintro HO
  iapply (step_signal SV CV κ c 4 1 1 (by decide) (by decide) (Fin.ext (k0_dev4_eq c))) $$ [S4 HO]
  · isplitr; · iexact HC
    isplitl [S4]; · iexact S4
    iexact HO
  iintro HO
  iapply (step_signal SV CV κ c 5 1 1 (by decide) (by decide) (Fin.ext (k0_dev5_eq c))) $$ [S5 HO]
  · isplitr; · iexact HC
    isplitl [S5]; · iexact S5
    iexact HO
  iintro HO
  iapply (wp_done c)
  iapply Hk $$ HO

variable (X0 X1 X2 X3 : Vec F S1024x1024 .bf16) (Yq Yk Yv : Dev nD → Vec F S1x1024x128 .bf16)

/-- The four arrays a device reads first, and its head buffers, filled up to some slot. -/
def Heads (n m : ℕ) : sProp (MM F) :=
  iprop(ownsTc c a0 fullShare X0 ∗ ownsTc c a1 fullShare X1 ∗ ownsTc c a2 fullShare X2 ∗ ownsTc c a3 fullShare X3
    ∗ fam c qM (mix n (qF (k0_pay1 (allOf X0) (allOf X1))) Yq) ∗ fam c kM (mix n (kF X2) Yk) ∗ fam c vM (mix m (kF X3) Yv))

theorem part2 {Q : _ → sProp (MM F)} :
    iprop(Ctx SV CV κ ∗ SigIn c 6 ∗ SigIn c 7 ∗ Ow c 6 1 1 ∗ cred (tallyAt (barC c) () 7) ∗ atPos ER (barC c) 0 ∅ 0 ∗ Heads a0 a1 a2 a3 c X0 X1 X2 X3 Yq Yk Yv 0 0)
      ⊢ iprop((Ow c 8 1 1 ∗ atPos ER (barC c) 1 ∅ 0 ∗ bigSep (Finset.univ.erase c) (barPay (F := F) c) ∗ Heads a0 a1 a2 a3 c X0 X1 X2 X3 Yq Yk Yv 1 0 -∗ Q ⟨(k0_pay1 (allOf X0) (allOf X1)), kF X3 0⟩) -∗ WP c (k0_part2 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) (SemArray.scalar (sig.barrier 0 rfl)) (Scalar.addi (wd c) 6#32) 8#32) Q) := by
  rw [k0_part2_eq_skeleton]; unfold k0_part2_skel
  simp only [semSignalWord, semWaitWord, Prog.lift, Prog.bind_op, Prog.bind_ret, Prog.pure_eq_ret, Prog.bind_assoc, wp_deviceId]
  unfold Heads
  iintro ⟨#HC, S6, S7, HO, Hcr, Hat, H0, H1, H2, H3, Hq, Hk, Hv⟩ Hcont
  iapply (step_signal SV CV κ c 6 1 1 (by decide) (by decide) (Fin.ext (k0_dev6_eq c))) $$ [S6 HO]
  · isplitr; · iexact HC
    isplitl [S6]; · iexact S6
    iexact HO
  iintro HO
  iapply (step_signal SV CV κ c 7 1 1 (by decide) (by decide) (Fin.ext (k0_dev7_eq c))) $$ [S7 HO]
  · isplitr; · iexact HC
    isplitl [S7]; · iexact S7
    iexact HO
  iintro HO
  iapply (step_barrier SV CV κ c) $$ [Hcr Hat HO]
  · isplitr; · iexact HC
    isplitl [Hcr]; · iexact Hcr
    isplitl [Hat]; · iexact Hat
    iexact HO
  iintro ⟨HO, Hat, Hp⟩
  iapply (ld_all c) $$ H0; iintro H0
  iapply (ld_all c) $$ H1; iintro H1
  simp only [pay2_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq]
  iapply (ld_fam c 0 rfl) $$ Hq; iintro Hq
  iapply (st_mix c 0 0 1 rfl rfl rfl (X := qF (k0_pay1 (allOf X0) (allOf X1))) (Y := Yq)) $$ Hq; iintro Hq
  iapply (ld_cols c 0 rfl) $$ H2; iintro H2
  iapply (ld_fam c 0 rfl) $$ Hk; iintro Hk
  iapply (st_mix c 0 0 1 rfl rfl rfl (X := kF X2) (Y := Yk)) $$ Hk; iintro Hk
  iapply (ld_cols c 0 rfl) $$ H3; iintro H3
  iapply (ld_fam c 0 rfl) $$ Hv; iintro Hv
  iapply (wp_done c)
  iapply Hcont
  isplitl [HO]; · iexact HO
  isplitl [Hat]; · iexact Hat
  isplitl [Hp]; · iexact Hp
  isplitl [H0]; · iexact H0
  isplitl [H1]; · iexact H1
  isplitl [H2]; · iexact H2
  isplitl [H3]; · iexact H3
  isplitl [Hq]; · iexact Hq
  isplitl [Hk]; · iexact Hk
  iexact Hv

theorem part3 {Q : _ → sProp (MM F)} :
    iprop(Heads a0 a1 a2 a3 c X0 X1 X2 X3 Yq Yk Yv 1 0)
      ⊢ iprop((Heads a0 a1 a2 a3 c X0 X1 X2 X3 Yq Yk Yv 3 2 -∗ Q (kF X3 2)) -∗ WP c (k0_part3 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 (k0_pay1 (allOf X0) (allOf X1)) (kF X3 0)) Q) := by
  rw [k0_part3_eq_skeleton]; unfold k0_part3_skel
  simp only [semSignalWord, semWaitWord, Prog.lift, Prog.bind_op, Prog.bind_ret, Prog.pure_eq_ret, Prog.bind_assoc, wp_deviceId]
  simp only [pay2_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq]
  unfold Heads
  iintro ⟨H0, H1, H2, H3, Hq, Hk, Hv⟩ Hcont
  iapply (st_mix c 0 0 1 rfl rfl rfl (X := kF X3) (Y := Yv)) $$ Hv; iintro Hv
  iapply (ld_fam c 1 rfl) $$ Hq; iintro Hq
  iapply (st_mix c 1 1 2 rfl rfl rfl (X := qF (k0_pay1 (allOf X0) (allOf X1))) (Y := Yq)) $$ Hq; iintro Hq
  iapply (ld_cols c 1 rfl) $$ H2; iintro H2
  iapply (ld_fam c 1 rfl) $$ Hk; iintro Hk
  iapply (st_mix c 1 1 2 rfl rfl rfl (X := kF X2) (Y := Yk)) $$ Hk; iintro Hk
  iapply (ld_cols c 1 rfl) $$ H3; iintro H3
  iapply (ld_fam c 1 rfl) $$ Hv; iintro Hv
  iapply (st_mix c 1 1 2 rfl rfl rfl (X := kF X3) (Y := Yv)) $$ Hv; iintro Hv
  iapply (ld_fam c 2 rfl) $$ Hq; iintro Hq
  iapply (st_mix c 2 2 3 rfl rfl rfl (X := qF (k0_pay1 (allOf X0) (allOf X1))) (Y := Yq)) $$ Hq; iintro Hq
  iapply (ld_cols c 2 rfl) $$ H2; iintro H2
  iapply (ld_fam c 2 rfl) $$ Hk; iintro Hk
  iapply (st_mix c 2 2 3 rfl rfl rfl (X := kF X2) (Y := Yk)) $$ Hk; iintro Hk
  iapply (ld_cols c 2 rfl) $$ H3; iintro H3
  iapply (ld_fam c 2 rfl) $$ Hv; iintro Hv
  iapply (wp_done c)
  iapply Hcont
  isplitl [H0]; · iexact H0
  isplitl [H1]; · iexact H1
  isplitl [H2]; · iexact H2
  isplitl [H3]; · iexact H3
  isplitl [Hq]; · iexact Hq
  isplitl [Hk]; · iexact Hk
  iexact Hv

theorem part4 {Q : _ → sProp (MM F)} :
    iprop(Heads a0 a1 a2 a3 c X0 X1 X2 X3 Yq Yk Yv 3 2)
      ⊢ iprop((Heads a0 a1 a2 a3 c X0 X1 X2 X3 Yq Yk Yv 5 4 -∗ Q (kF X3 4)) -∗ WP c (k0_part4 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 (k0_pay1 (allOf X0) (allOf X1)) (kF X3 2)) Q) := by
  rw [k0_part4_eq_skeleton]; unfold k0_part4_skel
  simp only [semSignalWord, semWaitWord, Prog.lift, Prog.bind_op, Prog.bind_ret, Prog.pure_eq_ret, Prog.bind_assoc, wp_deviceId]
  simp only [pay2_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq]
  unfold Heads
  iintro ⟨H0, H1, H2, H3, Hq, Hk, Hv⟩ Hcont
  iapply (st_mix c 2 2 3 rfl rfl rfl (X := kF X3) (Y := Yv)) $$ Hv; iintro Hv
  iapply (ld_fam c 3 rfl) $$ Hq; iintro Hq
  iapply (st_mix c 3 3 4 rfl rfl rfl (X := qF (k0_pay1 (allOf X0) (allOf X1))) (Y := Yq)) $$ Hq; iintro Hq
  iapply (ld_cols c 3 rfl) $$ H2; iintro H2
  iapply (ld_fam c 3 rfl) $$ Hk; iintro Hk
  iapply (st_mix c 3 3 4 rfl rfl rfl (X := kF X2) (Y := Yk)) $$ Hk; iintro Hk
  iapply (ld_cols c 3 rfl) $$ H3; iintro H3
  iapply (ld_fam c 3 rfl) $$ Hv; iintro Hv
  iapply (st_mix c 3 3 4 rfl rfl rfl (X := kF X3) (Y := Yv)) $$ Hv; iintro Hv
  iapply (ld_fam c 4 rfl) $$ Hq; iintro Hq
  iapply (st_mix c 4 4 5 rfl rfl rfl (X := qF (k0_pay1 (allOf X0) (allOf X1))) (Y := Yq)) $$ Hq; iintro Hq
  iapply (ld_cols c 4 rfl) $$ H2; iintro H2
  iapply (ld_fam c 4 rfl) $$ Hk; iintro Hk
  iapply (st_mix c 4 4 5 rfl rfl rfl (X := kF X2) (Y := Yk)) $$ Hk; iintro Hk
  iapply (ld_cols c 4 rfl) $$ H3; iintro H3
  iapply (ld_fam c 4 rfl) $$ Hv; iintro Hv
  iapply (wp_done c)
  iapply Hcont
  isplitl [H0]; · iexact H0
  isplitl [H1]; · iexact H1
  isplitl [H2]; · iexact H2
  isplitl [H3]; · iexact H3
  isplitl [Hq]; · iexact Hq
  isplitl [Hk]; · iexact Hk
  iexact Hv

theorem part5 {Q : _ → sProp (MM F)} :
    iprop(Heads a0 a1 a2 a3 c X0 X1 X2 X3 Yq Yk Yv 5 4)
      ⊢ iprop((Heads a0 a1 a2 a3 c X0 X1 X2 X3 Yq Yk Yv 7 6 -∗ Q (kF X3 6)) -∗ WP c (k0_part5 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 (k0_pay1 (allOf X0) (allOf X1)) (kF X3 4)) Q) := by
  rw [k0_part5_eq_skeleton]; unfold k0_part5_skel
  simp only [semSignalWord, semWaitWord, Prog.lift, Prog.bind_op, Prog.bind_ret, Prog.pure_eq_ret, Prog.bind_assoc, wp_deviceId]
  simp only [pay2_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq]
  unfold Heads
  iintro ⟨H0, H1, H2, H3, Hq, Hk, Hv⟩ Hcont
  iapply (st_mix c 4 4 5 rfl rfl rfl (X := kF X3) (Y := Yv)) $$ Hv; iintro Hv
  iapply (ld_fam c 5 rfl) $$ Hq; iintro Hq
  iapply (st_mix c 5 5 6 rfl rfl rfl (X := qF (k0_pay1 (allOf X0) (allOf X1))) (Y := Yq)) $$ Hq; iintro Hq
  iapply (ld_cols c 5 rfl) $$ H2; iintro H2
  iapply (ld_fam c 5 rfl) $$ Hk; iintro Hk
  iapply (st_mix c 5 5 6 rfl rfl rfl (X := kF X2) (Y := Yk)) $$ Hk; iintro Hk
  iapply (ld_cols c 5 rfl) $$ H3; iintro H3
  iapply (ld_fam c 5 rfl) $$ Hv; iintro Hv
  iapply (st_mix c 5 5 6 rfl rfl rfl (X := kF X3) (Y := Yv)) $$ Hv; iintro Hv
  iapply (ld_fam c 6 rfl) $$ Hq; iintro Hq
  iapply (st_mix c 6 6 7 rfl rfl rfl (X := qF (k0_pay1 (allOf X0) (allOf X1))) (Y := Yq)) $$ Hq; iintro Hq
  iapply (ld_cols c 6 rfl) $$ H2; iintro H2
  iapply (ld_fam c 6 rfl) $$ Hk; iintro Hk
  iapply (st_mix c 6 6 7 rfl rfl rfl (X := kF X2) (Y := Yk)) $$ Hk; iintro Hk
  iapply (ld_cols c 6 rfl) $$ H3; iintro H3
  iapply (ld_fam c 6 rfl) $$ Hv; iintro Hv
  iapply (wp_done c)
  iapply Hcont
  isplitl [H0]; · iexact H0
  isplitl [H1]; · iexact H1
  isplitl [H2]; · iexact H2
  isplitl [H3]; · iexact H3
  isplitl [Hq]; · iexact Hq
  isplitl [Hk]; · iexact Hk
  iexact Hv

theorem part6 {Q : _ → sProp (MM F)} :
    iprop(Heads a0 a1 a2 a3 c X0 X1 X2 X3 Yq Yk Yv 7 6)
      ⊢ iprop((Heads a0 a1 a2 a3 c X0 X1 X2 X3 Yq Yk Yv 8 8 -∗ Q ⟨k0_pay26, k0_pay27, 1#32⟩) -∗ WP c (k0_part6 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 (k0_pay1 (allOf X0) (allOf X1)) (kF X3 6)) Q) := by
  rw [k0_part6_eq_skeleton]; unfold k0_part6_skel
  simp only [semSignalWord, semWaitWord, Prog.lift, Prog.bind_op, Prog.bind_ret, Prog.pure_eq_ret, Prog.bind_assoc, wp_deviceId]
  simp only [pay2_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq]
  unfold Heads
  iintro ⟨H0, H1, H2, H3, Hq, Hk, Hv⟩ Hcont
  iapply (st_mix c 6 6 7 rfl rfl rfl (X := kF X3) (Y := Yv)) $$ Hv; iintro Hv
  iapply (ld_fam c 7 rfl) $$ Hq; iintro Hq
  iapply (st_mix c 7 7 8 rfl rfl rfl (X := qF (k0_pay1 (allOf X0) (allOf X1))) (Y := Yq)) $$ Hq; iintro Hq
  iapply (ld_cols c 7 rfl) $$ H2; iintro H2
  iapply (ld_fam c 7 rfl) $$ Hk; iintro Hk
  iapply (st_mix c 7 7 8 rfl rfl rfl (X := kF X2) (Y := Yk)) $$ Hk; iintro Hk
  iapply (ld_cols c 7 rfl) $$ H3; iintro H3
  iapply (ld_fam c 7 rfl) $$ Hv; iintro Hv
  iapply (st_mix c 7 7 8 rfl rfl rfl (X := kF X3) (Y := Yv)) $$ Hv; iintro Hv
  iapply (wp_done c)
  iapply Hcont
  isplitl [H0]; · iexact H0
  isplitl [H1]; · iexact H1
  isplitl [H2]; · iexact H2
  isplitl [H3]; · iexact H3
  isplitl [Hq]; · iexact Hq
  isplitl [Hk]; · iexact Hk
  iexact Hv

end Cert.Proto

end
-- ==== Proof.Talk.lean ====
/-
  The transfers and waits as the kernel prints them: where the slots and semaphores of a transfer lie, and what it needs
  and leaves.
-/
module

public import proofs.«01_k».proof.Proof.Vals

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Where things lie -/

theorem rot_down (c : Dev nD) (r : Fin 7) : (c.val + 7 - r.val) % 8 = (rot c (7 - r.val)).val := by
  have := r.isLt; rw [rot_val]; congr 1; omega
theorem off1_at (c : Dev nD) (r : Fin 7) : k0_off1 c (BitVec.ofNat 32 r.val) = ![(rot c (r.val + 1)).val, 0, 0] := by
  rw [k0_off1_eq]; rfl
theorem off2_at (c : Dev nD) (r : Fin 7) : k0_off2 c (BitVec.ofNat 32 r.val) = ![(rot c (r.val + 1)).val, 0, 0] := by
  rw [k0_off2_eq]; rfl
theorem off5_at (c : Dev nD) (r : Fin 7) : k0_off5 c (BitVec.ofNat 32 r.val) = ![(rot c (r.val + 1)).val, 0, 0] := by
  rw [k0_off5_eq]; rfl
theorem off7_at (c : Dev nD) (r : Fin 7) : k0_off7 c (BitVec.ofNat 32 r.val) = ![(rot c (7 - r.val)).val] := by
  rw [k0_off7_eq, rot_down]
theorem off8_at (c : Dev nD) (r : Fin 7) : k0_off8 c (BitVec.ofNat 32 r.val) = ![(rot c (7 - r.val)).val, 0, 0] := by
  rw [k0_off8_eq, rot_down]
theorem off9_at (c : Dev nD) (r : Fin 7) : k0_off9 c (BitVec.ofNat 32 r.val) = ![(rot c (7 - r.val)).val, 0, 0] := by
  rw [k0_off9_eq, rot_down]
theorem off14_at (c : Dev nD) (r : Fin 7) : k0_off14 c (BitVec.ofNat 32 r.val) = ![(rot c (7 - r.val)).val, 0, 0] := by
  rw [k0_off14_eq, rot_down]
theorem off15_at (c : Dev nD) (r : Fin 7) : k0_off15 c (BitVec.ofNat 32 r.val) = ![(rot c (7 - r.val)).val, 0, 0] := by
  rw [k0_off15_eq, rot_down]
theorem off16_at (c : Dev nD) (r : Fin 7) : k0_off16 c (BitVec.ofNat 32 r.val) = ![128 * (rot c (7 - r.val)).val, 0] := by
  rw [k0_off16_eq, rot_down]

theorem send1_at (h : Dev nD) {off : Fin 1 → ℕ} (ho : off = ![h.val]) (p) :
    ((cc0_scratch6.slice (Rect.unit (s := S8) off S1.size p)).squeeze S_ squeezes_S1_S_).sem = dmaS 0 h := by subst ho; exact sem_send1 h p
theorem recv1_at (h : Dev nD) {off : Fin 1 → ℕ} (ho : off = ![h.val]) (p) :
    ((cc0_scratch7.slice (Rect.unit (s := S8) off S1.size p)).squeeze S_ squeezes_S1_S_).sem = dmaS 1 h := by subst ho; exact sem_recv1 h p
theorem send2_at (h : Dev nD) {off : Fin 1 → ℕ} (ho : off = ![h.val]) (p) :
    ((cc0_scratch8.slice (Rect.unit (s := S8) off S1.size p)).squeeze S_ squeezes_S1_S_).sem = dmaS 2 h := by subst ho; exact sem_send2 h p
theorem recv2_at (h : Dev nD) {off : Fin 1 → ℕ} (ho : off = ![h.val]) (p) :
    ((cc0_scratch9.slice (Rect.unit (s := S8) off S1.size p)).squeeze S_ squeezes_S1_S_).sem = dmaS 3 h := by subst ho; exact sem_recv2 h p

variable (SV : Dev nD → Dev nD → Vec F S1x1032x128 .bf16) (CV : Dev nD → Vec F S1x1024x128 .bf16) (κ : GSem nD τ sig → ℕ) (c : Dev nD)
  {α : Type} {Q : α → sProp (MM F)}

/-- What `c` needs, beside the filled slot, to send the head of the peer `j` places on; and its context. -/
def Out1 (j : ℕ) (i : Dev nD) : sProp (MM F) :=
  iprop(SendIn c (rot c j) 0 1 i ∗ ∃ Y, ownsTc (rot c j) (slot32 comM c) fullShare Y)
def Out2 (j : ℕ) (i : Dev nD) : sProp (MM F) :=
  iprop(SendIn c (rot c j) 2 3 i ∗ ∃ Y, ownsTc (rot c j) (slot24 ctxM c) fullShare Y)

/-- The transfer of a head. -/
theorem step_head (j : ℕ) (i : Dev nD) (hi : i.val + 1 = j) (hj : j < 8) {n : Dev nD} (hn : n = rot c j) {X : Vec F S1x1032x128 .bf16}
    (hX : SV c (rot c j) = X)
    {offS offD : Fin 3 → ℕ} (hoS : offS = ![(rot c j).val, 0, 0]) (hoD : offD = ![c.val, 0, 0]) {pS pD} {sS sR : DmaSem sig}
    (hsS : sS = dmaS 0 i) (hsR : sR = dmaS 1 c) {hsc} {hsrc hdst hsem} {k : PUnit.{1} → PR F α} :
    iprop(Ctx SV CV κ ∗ Out1 c j i ∗ ownsTc c (slot32 stgM (rot c j)) fullShare X ∗ Ow c 8 j 1)
      ⊢ iprop((cred (tallyAt (dmaC c 0 i) () N1) ∗ Ow c 8 (j + 1) 1 -∗ WP c (k ⟨⟩) Q)
        -∗ WP c (Prog.op (TpuEff.enqueueDma ((stgM.slice (Rect.unit (s := S8x1032x128) offS S1x1032x128.size pS) (fun _ => rfl)).squeeze S1032x128 squeezes_S1x1032x128_S1032x128)
          (.remote (Dev.tc n : Thread nD τ) ((comM.slice (Rect.unit (s := S8x1032x128) offD S1x1032x128.size pD) (fun _ => rfl)).squeeze S1032x128 squeezes_S1x1032x128_S1032x128) (.dma sS) hsc)
          (.dma sR) hsrc hdst hsem) k) Q) := by
  subst hn hX hoS hoD
  have h₁ : 1 ≤ j := by omega
  unfold Out1
  iintro ⟨#HC, ⟨HS, HD⟩, HA, HO⟩ Hk
  iapply (step_send SV CV κ c (slot32 stgM (rot c j)) (slot32 comM c) squeezes_S1x1032x128_S1032x128 (n := rot c j) (kS := 0) (kR := 1) (i := i)
    (N := N1) (b' := j + 1) (e' := 1) (show i.val ≠ 7 by omega) (show c ≠ rot c j from (rot_ne c h₁ hj).symm) (rot_ne c h₁ hj) rfl rfl rfl (debt_head c 8 1 hj)
    (show _ ⊢ iprop(∃ X, ownsTc c (slot32 stgM (rot c (i.val + 1))) fullShare X) from by rw [hi]; iintro H; iexists _; iexact H)
    (show _ ⊢ ownsTc (rot c j) (slot32 comM c) fullShare (SV c (rot c j)) from .rfl) hsS hsR) $$ [HS HD HA HO]
  · isplitr; · iexact HC
    isplitl [HS]; · iexact HS
    isplitl [HA]; · iexact HA
    isplitl [HD]; · iexact HD
    iexact HO
  iexact Hk

/-- The transfer of the context. -/
theorem step_ctx (j : ℕ) (i : Dev nD) (hi : i.val = j) (h₁ : 1 ≤ j) (hj : j < 8) {n : Dev nD} (hn : n = rot c j)
    {offS offD : Fin 3 → ℕ} (hoS : offS = ![c.val, 0, 0]) (hoD : offD = ![c.val, 0, 0]) {pS pD} {sS sR : DmaSem sig}
    (hsS : sS = dmaS 2 i) (hsR : sR = dmaS 3 c) {hsc} {hsrc hdst hsem} {k : PUnit.{1} → PR F α} :
    iprop(Ctx SV CV κ ∗ Out2 c j i ∗ ownsTc c (slotCtx stgM c) (Transfers.shareTokN fullShare (i.val - 1)) (CV c) ∗ Ow c 8 8 j)
      ⊢ iprop((cred (tallyAt (dmaC c 2 i) () N2) ∗ Ow c 8 8 (j + 1) -∗ WP c (k ⟨⟩) Q)
        -∗ WP c (Prog.op (TpuEff.enqueueDma ((stgM.slice (Rect.unit (s := S8x1032x128) offS S1x1024x128.size pS) (fun _ => rfl)).squeeze S1024x128 squeezes_S1x1024x128_S1024x128)
          (.remote (Dev.tc n : Thread nD τ) ((ctxM.slice (Rect.unit (s := S8x1024x128) offD S1x1024x128.size pD) (fun _ => rfl)).squeeze S1024x128 squeezes_S1x1024x128_S1024x128) (.dma sS) hsc)
          (.dma sR) hsrc hdst hsem) k) Q) := by
  subst hn hoS hoD
  unfold Out2
  iintro ⟨#HC, ⟨HS, HD⟩, HA, HO⟩ Hk
  iapply (step_send SV CV κ c (slotCtx stgM c) (slot24 ctxM c) squeezes_S1x1024x128_S1024x128 (n := rot c j) (kS := 2) (kR := 3) (i := i)
    (N := N2) (b' := 8) (e' := j + 1) (show i.val ≠ 0 by omega) (show c ≠ rot c j from (rot_ne c h₁ hj).symm) (rot_ne c h₁ hj) rfl rfl rfl (debt_ctx c 8 8 hj)
    (show _ ⊢ ownsTc c (slotCtx stgM c) (Transfers.shareTokN fullShare (i.val - 1)) (CV c) from .rfl)
    (show _ ⊢ ownsTc (rot c j) (slot24 ctxM c) fullShare (CV c) from .rfl) hsS hsR) $$ [HS HD HA HO]
  · isplitr; · iexact HC
    isplitl [HS]; · iexact HS
    isplitl [HA]; · iexact HA
    isplitl [HD]; · iexact HD
    iexact HO
  iexact Hk

/-- What `c` needs to wait for the credit of DMA cell `i` of family `k`. -/
def WaitIn (k : Fin 4) (i : Dev nD) : sProp (MM F) := iprop(cred (tallyAt (dmaC c k i) () (amt k)) ∗ atPos ER (dmaC c k i) 0 ∅ 0)

/-- A wait for a head, whether for its credit or its landing. -/
theorem step_wait32 {k' : Fin 4} {i : Dev nD} (hu : used c k' i) {M : Memref sig .tc .vmem S8x1032x128 .bf16}
    (hM : ((slot32 M 0).squeeze S1032x128 squeezes_S1x1032x128_S1032x128).view.dmaCredit = amt k') {e : ℕ} {m : ℕ} (hl : lv (dmaC c k' i) () ≤ m) (he : e < 8 → m < 3)
    {s : Shape} {src : Memref sig .tc .vmem s .bf16} {off : Fin 3 → ℕ} {p} {sm : DmaSem sig} (hsm : sm = dmaS k' i) {hsrc hdst} {k : PUnit.{1} → PR F α} :
    iprop(Ctx SV CV κ ∗ WaitIn c k' i ∗ Ow c 8 8 e)
      ⊢ iprop((Ow c 8 8 e ∗ atPos ER (dmaC c k' i) 1 ∅ 0 ∗ dmaPay SV CV c k' i -∗ WP c (k ⟨⟩) Q)
        -∗ WP c (Prog.op (TpuEff.waitDma2 sm src ((M.slice (Rect.unit (s := S8x1032x128) off S1x1032x128.size p) (fun _ => rfl)).squeeze S1032x128 squeezes_S1x1032x128_S1032x128) hsrc hdst) k) Q) := by
  unfold WaitIn
  iintro ⟨#HC, ⟨Hc, Ha⟩, HO⟩ Hk
  iapply (step_wait SV CV κ c (N := amt k') (a := 8) (b := 8) (e₁ := e) hu rfl (show _ = amt k' from hM) hl (fun h => absurd h (by decide)) (fun h => absurd h (by decide)) he hsm (src := src)
    (dst := (M.slice (Rect.unit (s := S8x1032x128) off S1x1032x128.size p) (fun _ => rfl)).squeeze S1032x128 squeezes_S1x1032x128_S1032x128) (hsrc := hsrc) (hdst := hdst)) $$ [Hc Ha HO]
  · isplitr; · iexact HC
    isplitl [Hc]; · iexact Hc
    isplitl [Ha]; · iexact Ha
    iexact HO
  iexact Hk

/-- A wait for a context. -/
theorem step_wait24 {k' : Fin 4} {i : Dev nD} (hu : used c k' i) {S : Shape} {M : Memref sig .tc .vmem S .bf16} {off : Fin S.rank → ℕ} {sz : Fin S.rank → ℕ} {p}
    {hs : (Rect.unit (s := S) off sz p).shape.Squeezes S1024x128}
    (hM : ((M.slice (Rect.unit (s := S) off sz p) (fun _ => rfl)).squeeze S1024x128 hs).view.dmaCredit = amt k') {m : ℕ} (hl : lv (dmaC c k' i) () ≤ m)
    {s : Shape} {src : Memref sig .tc .vmem s .bf16} {sm : DmaSem sig} (hsm : sm = dmaS k' i) {hsrc hdst} {k : PUnit.{1} → PR F α} :
    iprop(Ctx SV CV κ ∗ WaitIn c k' i ∗ Ow c 8 8 8)
      ⊢ iprop((Ow c 8 8 8 ∗ atPos ER (dmaC c k' i) 1 ∅ 0 ∗ dmaPay SV CV c k' i -∗ WP c (k ⟨⟩) Q)
        -∗ WP c (Prog.op (TpuEff.waitDma2 sm src ((M.slice (Rect.unit (s := S) off sz p) (fun _ => rfl)).squeeze S1024x128 hs) hsrc hdst) k) Q) := by
  unfold WaitIn
  iintro ⟨#HC, ⟨Hc, Ha⟩, HO⟩ Hk
  iapply (step_wait SV CV κ c (N := amt k') (a := 8) (b := 8) (e₁ := 8) hu rfl hM hl (fun h => absurd h (by decide)) (fun h => absurd h (by decide)) (fun h => absurd h (by decide)) hsm (src := src) (hsrc := hsrc) (hdst := hdst)) $$ [Hc Ha HO]
  · isplitr; · iexact HC
    isplitl [Hc]; · iexact Hc
    isplitl [Ha]; · iexact Ha
    iexact HO
  iexact Hk

end Cert.Proto

end
-- ==== Proof.PartB.lean ====
/-
  The mask, and the seven heads computed and sent.
-/
module

public import proofs.«01_k».proof.Proof.Talk

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (SV : Dev nD → Dev nD → Vec F S1x1032x128 .bf16) (CV : Dev nD → Vec F S1x1024x128 .bf16) (κ : GSem nD τ sig → ℕ) (c : Dev nD)
  (m : IVec S1024x1024 1) (Qf Kf Vf : Dev nD → Vec F S1x1024x128 .bf16) (hSV : ∀ h, SV c h = headO m (Qf h) (Kf h) (Vf h))
include hSV

omit hSV

/-- The three head buffers, full. -/
def Full (c : Dev nD) (Qf Kf Vf : Dev nD → Vec F S1x1024x128 .bf16) : sProp (MM F) := iprop(fam c qM Qf ∗ fam c kM Kf ∗ fam c vM Vf)
/-- The slot where the head of device `h` is staged, whatever it holds. -/
def Stg (c h : Dev nD) : sProp (MM F) := iprop(∃ Y, ownsTc c (slot32 stgM h) fullShare Y)

/-! ## The pieces of the mask, and the foldings of the printed values -/

def mA (c : Dev nD) : IVec S1024x1024 1 := k0_pay30 (wd c) k0_pay26 k0_pay27 1#32
def mB : BitVec 32 := Scalar.select (Scalar.cmpi .eq 3#32 0#32) 1#32 3#32
def mC (c : Dev nD) : IVec S1024x1024 32 := k0_pay31 (wd c) k0_pay26 k0_pay27 1#32
def mD (c : Dev nD) : IVec S1024x1024 1 := k0_pay32 (wd c) k0_pay26 k0_pay27 1#32
def mE (c : Dev nD) : IVec S1024x1024 1 := k0_pay33 (wd c) k0_pay26 k0_pay27 1#32
def mF : BitVec 1 := Scalar.cmpi .slt mB 0#32

/-- Rows 256 to 383 of a block of weights. -/
def rowsAt256 (p : FVec F S1024x1024 .bf16) : FVec F S128x1024 .bf16 := extractStridedSlice S128x1024 ![256, 0] p slices_S1024x1024_o256_0_S128x1024
abbrev zero128 : FVec F S1x128 .f32 := constant S1x128 .f32 0x00000000#32
abbrev zeroF : F .f32 := Scalar.ofBits .f32 0x00000000#32

section Fold
variable (q k v : Vec F S1x1024x128 .bf16)
theorem pay34_eq : k0_pay34 (mA c) mB (mC c) (mD c) (mE c) mF = maskF c := rfl
theorem pay37_eq : k0_pay37 (mA c) mB (mC c) (mD c) (mE c) mF q k = k0_pay72 (maskF c) q k := rfl
theorem pay38_eq : k0_pay38 (mA c) mB (mC c) (mD c) (mE c) mF q k v = k0_pay73 (maskF c) q k v := rfl
theorem pay39_eq : k0_pay39 (mA c) mB (mC c) (mD c) (mE c) mF q k = k0_pay74 (maskF c) k0_pay35 q k := rfl
theorem pay40_eq : k0_pay40 (mA c) mB (mC c) (mD c) (mE c) mF q k = k0_pay75 (maskF c) k0_pay35 q k := rfl
theorem pay41_eq : k0_pay41 (mA c) mB (mC c) (mD c) (mE c) mF q k = rowsAt256 (k0_pay72 (maskF c) q k) := rfl
theorem pay42_eq : k0_pay42 k0_pay35 (k0_pay72 m q k) (k0_pay73 m q k v) (k0_pay74 m k0_pay35 q k) (k0_pay75 m k0_pay35 q k) (rowsAt256 (k0_pay72 m q k)) zero128
    = headO m q k v := rfl
theorem pay44_eq : k0_pay44 m k0_pay35 (k0_pay43 q) k v = headO m q k v := rfl
theorem pay53_eq : k0_pay53 k0_pay35 (k0_pay45 m q k) (k0_pay46 m q k v) (k0_pay47 m k0_pay35 q k) (k0_pay48 m k0_pay35 q k) (k0_pay49 m k0_pay35 q k)
    (k0_pay50 m k0_pay35 q k) (k0_pay51 m k0_pay35 q k) (k0_pay52 m q k) = headO m q k v := rfl
theorem pay55_eq : k0_pay55 m k0_pay35 (k0_pay54 q k) zeroF v = headO m q k v := rfl
theorem pay66_eq : k0_pay66 (k0_pay57 m q k v) (k0_pay58 m k0_pay35 q k) (k0_pay59 m k0_pay35 q k) (k0_pay60 m k0_pay35 q k) (k0_pay61 m k0_pay35 q k)
    (k0_pay62 m k0_pay35 q k) (k0_pay63 m k0_pay35 q k) (k0_pay64 m k0_pay35 q k) (k0_pay65 m k0_pay35 q k) = headO m q k v := rfl
theorem pay69_eq : k0_pay69 k0_pay35 (k0_pay67 m q k) (k0_pay68 v) = headO m q k v := rfl
theorem pay71_eq : k0_pay71 (k0_pay70 m k0_pay35 q k v) = headO m q k v := rfl
end Fold

/-! ## Parts 7 to 18 -/

theorem part7 {Q : _ → sProp (MM F)} :
    (Q ⟨mA c, mB, mC c, mD c, mE c, mF⟩ : sProp (MM F)) ⊢ WP c (k0_part7 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 (wd c) k0_pay26 k0_pay27 1#32) Q := by
  rw [k0_part7_eq_skeleton]; unfold k0_part7_skel
  exact fupd_intro

theorem part8 {Q : _ → sProp (MM F)} :
    iprop(Full c Qf Kf Vf)
      ⊢ iprop((Full c Qf Kf Vf -∗ Q ⟨maskF c, k0_pay35, k0_pay36, (Scalar.remsi (Scalar.addi (Scalar.addi (wd c) 1#32) 0#32) 8#32), (k0_pay72 (maskF c) (Qf (rot c 1)) (Kf (rot c 1))), k0_pay73 (maskF c) (Qf (rot c 1)) (Kf (rot c 1)) (Vf (rot c 1)), k0_pay74 (maskF c) k0_pay35 (Qf (rot c 1)) (Kf (rot c 1)), k0_pay75 (maskF c) k0_pay35 (Qf (rot c 1)) (Kf (rot c 1)), rowsAt256 (k0_pay72 (maskF c) (Qf (rot c 1)) (Kf (rot c 1))), zero128⟩) -∗ WP c (k0_part8 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) (mA c) mB (mC c) (mD c) (mE c) mF) Q) := by
  rw [k0_part8_eq_skeleton]; unfold k0_part8_skel
  simp only [semSignalWord, semWaitWord, Prog.lift, Prog.bind_op, Prog.bind_ret, Prog.pure_eq_ret, Prog.bind_assoc, wp_deviceId]
  simp only [pay34_eq, pay37_eq, pay38_eq, pay39_eq, pay40_eq, pay41_eq]
  unfold Full
  iintro ⟨Hq, Hk, Hv⟩ Hcont
  iapply (ld_fam c (rot c 1) (off := k0_off1 c 0#32) (off1_at c 0)) $$ Hq; iintro Hq
  iapply (ld_fam c (rot c 1) (off := k0_off1 c 0#32) (off1_at c 0)) $$ Hk; iintro Hk
  iapply (ld_fam c (rot c 1) (off := k0_off1 c 0#32) (off1_at c 0)) $$ Hv; iintro Hv
  iapply (wp_done c)
  iapply Hcont
  isplitl [Hq]; · iexact Hq
  isplitl [Hk]; · iexact Hk
  iexact Hv

include hSV

theorem part9 (w : BitVec 32) {Q : _ → sProp (MM F)} :
    iprop(Ctx SV CV κ ∗ Full c Qf Kf Vf ∗ Stg c (rot c 1) ∗ Out1 c 1 0 ∗ Ow c 8 1 1)
      ⊢ iprop((Full c Qf Kf Vf ∗ cred (tallyAt (dmaC c 0 0) () N1) ∗ Ow c 8 2 1 -∗ Q ⟨(Scalar.remsi (Scalar.addi (Scalar.addi (wd c) 1#32) 1#32) 8#32), k0_pay43 (Qf (rot c 2)), (Kf (rot c 2))⟩) -∗ WP c (k0_part9 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) k0_pay35 w (k0_pay72 m (Qf (rot c 1)) (Kf (rot c 1))) (k0_pay73 m (Qf (rot c 1)) (Kf (rot c 1)) (Vf (rot c 1))) (k0_pay74 m k0_pay35 (Qf (rot c 1)) (Kf (rot c 1))) (k0_pay75 m k0_pay35 (Qf (rot c 1)) (Kf (rot c 1))) (rowsAt256 (k0_pay72 m (Qf (rot c 1)) (Kf (rot c 1)))) zero128) Q) := by
  rw [k0_part9_eq_skeleton]; unfold k0_part9_skel
  simp only [semSignalWord, semWaitWord, Prog.lift, Prog.bind_op, Prog.bind_ret, Prog.pure_eq_ret, Prog.bind_assoc, wp_deviceId]
  simp only [pay42_eq]
  unfold Stg
  unfold Full
  iintro ⟨#HC, ⟨Hq, Hk, Hv⟩, ⟨%Y, HS⟩, HD, HO⟩ Hcont
  iapply (ld_slot c (rot c 1) (off := k0_off2 c 0#32) (off2_at c 0)) $$ HS; iintro HS
  iapply (st_slot c (rot c 1) (off := k0_off2 c 0#32) (off2_at c 0)) $$ HS; iintro HS
  iapply (step_head SV CV κ c 1 0 rfl (by decide) (Fin.ext (k0_dev8_eq c)) (hSV (rot c 1)) (offS := k0_off5 c 0#32) (off5_at c 0) (k0_off4_eq c)
    (send1_at 0 (off := ![0]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c (rot c 2) (off := k0_off1 c 1#32) (off1_at c 1)) $$ Hq; iintro Hq
  iapply (ld_fam c (rot c 2) (off := k0_off1 c 1#32) (off1_at c 1)) $$ Hk; iintro Hk
  iapply (wp_done c)
  iapply Hcont
  isplitl [Hq Hk Hv]
  · isplitl [Hq]; · iexact Hq
    isplitl [Hk]; · iexact Hk
    iexact Hv
  isplitl [Hcr]; · iexact Hcr
  iexact HO

omit hSV

theorem part10 (w : BitVec 32) {Q : _ → sProp (MM F)} :
    iprop(Full c Qf Kf Vf ∗ Stg c (rot c 2))
      ⊢ iprop((Full c Qf Kf Vf ∗ ownsTc c (slot32 stgM (rot c 2)) fullShare (headO m (Qf (rot c 2)) (Kf (rot c 2)) (Vf (rot c 2))) -∗ Q ⟨⟩) -∗ WP c (k0_part10 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c m k0_pay35 w (k0_pay43 (Qf (rot c 2))) (Kf (rot c 2))) Q) := by
  rw [k0_part10_eq_skeleton]; unfold k0_part10_skel
  simp only [semSignalWord, semWaitWord, Prog.lift, Prog.bind_op, Prog.bind_ret, Prog.pure_eq_ret, Prog.bind_assoc, wp_deviceId]
  simp only [pay44_eq]
  unfold Stg
  unfold Full
  iintro ⟨⟨Hq, Hk, Hv⟩, ⟨%Y, HS⟩⟩ Hcont
  iapply (ld_fam c (rot c 2) (off := k0_off1 c 1#32) (off1_at c 1)) $$ Hv; iintro Hv
  iapply (ld_slot c (rot c 2) (off := k0_off2 c 1#32) (off2_at c 1)) $$ HS; iintro HS
  iapply (st_slot c (rot c 2) (off := k0_off2 c 1#32) (off2_at c 1)) $$ HS; iintro HS
  iapply (wp_done c)
  iapply Hcont
  isplitl [Hq Hk Hv]
  · isplitl [Hq]; · iexact Hq
    isplitl [Hk]; · iexact Hk
    iexact Hv
  iexact HS

include hSV

theorem part11 {Q : _ → sProp (MM F)} :
    iprop(Ctx SV CV κ ∗ Full c Qf Kf Vf ∗ ownsTc c (slot32 stgM (rot c 2)) fullShare (headO m (Qf (rot c 2)) (Kf (rot c 2)) (Vf (rot c 2))) ∗ Out1 c 2 1 ∗ Ow c 8 2 1)
      ⊢ iprop((Full c Qf Kf Vf ∗ cred (tallyAt (dmaC c 0 1) () N1) ∗ Ow c 8 3 1 -∗ Q ⟨(Scalar.remsi (Scalar.addi (Scalar.addi (wd c) 1#32) 2#32) 8#32), k0_pay45 m (Qf (rot c 3)) (Kf (rot c 3)), k0_pay46 m (Qf (rot c 3)) (Kf (rot c 3)) (Vf (rot c 3)), k0_pay47 m k0_pay35 (Qf (rot c 3)) (Kf (rot c 3)), k0_pay48 m k0_pay35 (Qf (rot c 3)) (Kf (rot c 3)), k0_pay49 m k0_pay35 (Qf (rot c 3)) (Kf (rot c 3)), k0_pay50 m k0_pay35 (Qf (rot c 3)) (Kf (rot c 3)), k0_pay51 m k0_pay35 (Qf (rot c 3)) (Kf (rot c 3)), k0_pay52 m (Qf (rot c 3)) (Kf (rot c 3))⟩) -∗ WP c (k0_part11 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) m k0_pay35) Q) := by
  rw [k0_part11_eq_skeleton]; unfold k0_part11_skel
  simp only [semSignalWord, semWaitWord, Prog.lift, Prog.bind_op, Prog.bind_ret, Prog.pure_eq_ret, Prog.bind_assoc, wp_deviceId]
  unfold Full
  iintro ⟨#HC, ⟨Hq, Hk, Hv⟩, HS, HD, HO⟩ Hcont
  iapply (step_head SV CV κ c 2 1 rfl (by decide) (Fin.ext (k0_dev9_eq c)) (hSV (rot c 2)) (offS := k0_off5 c 1#32) (off5_at c 1) (k0_off4_eq c)
    (send1_at 1 (off := ![1]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c (rot c 3) (off := k0_off1 c 2#32) (off1_at c 2)) $$ Hq; iintro Hq
  iapply (ld_fam c (rot c 3) (off := k0_off1 c 2#32) (off1_at c 2)) $$ Hk; iintro Hk
  iapply (ld_fam c (rot c 3) (off := k0_off1 c 2#32) (off1_at c 2)) $$ Hv; iintro Hv
  iapply (wp_done c)
  iapply Hcont
  isplitl [Hq Hk Hv]
  · isplitl [Hq]; · iexact Hq
    isplitl [Hk]; · iexact Hk
    iexact Hv
  isplitl [Hcr]; · iexact Hcr
  iexact HO

theorem part12 (w : BitVec 32) {Q : _ → sProp (MM F)} :
    iprop(Ctx SV CV κ ∗ Full c Qf Kf Vf ∗ Stg c (rot c 3) ∗ Out1 c 3 2 ∗ Ow c 8 3 1)
      ⊢ iprop((Full c Qf Kf Vf ∗ cred (tallyAt (dmaC c 0 2) () N1) ∗ Ow c 8 4 1 -∗ Q ⟨(Scalar.remsi (Scalar.addi (Scalar.addi (wd c) 1#32) 3#32) 8#32), k0_pay54 (Qf (rot c 4)) (Kf (rot c 4)), zeroF⟩) -∗ WP c (k0_part12 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) k0_pay35 w (k0_pay45 m (Qf (rot c 3)) (Kf (rot c 3))) (k0_pay46 m (Qf (rot c 3)) (Kf (rot c 3)) (Vf (rot c 3))) (k0_pay47 m k0_pay35 (Qf (rot c 3)) (Kf (rot c 3))) (k0_pay48 m k0_pay35 (Qf (rot c 3)) (Kf (rot c 3))) (k0_pay49 m k0_pay35 (Qf (rot c 3)) (Kf (rot c 3))) (k0_pay50 m k0_pay35 (Qf (rot c 3)) (Kf (rot c 3))) (k0_pay51 m k0_pay35 (Qf (rot c 3)) (Kf (rot c 3))) (k0_pay52 m (Qf (rot c 3)) (Kf (rot c 3)))) Q) := by
  rw [k0_part12_eq_skeleton]; unfold k0_part12_skel
  simp only [semSignalWord, semWaitWord, Prog.lift, Prog.bind_op, Prog.bind_ret, Prog.pure_eq_ret, Prog.bind_assoc, wp_deviceId]
  simp only [pay53_eq]
  unfold Stg
  unfold Full
  iintro ⟨#HC, ⟨Hq, Hk, Hv⟩, ⟨%Y, HS⟩, HD, HO⟩ Hcont
  iapply (ld_slot c (rot c 3) (off := k0_off2 c 2#32) (off2_at c 2)) $$ HS; iintro HS
  iapply (st_slot c (rot c 3) (off := k0_off2 c 2#32) (off2_at c 2)) $$ HS; iintro HS
  iapply (step_head SV CV κ c 3 2 rfl (by decide) (Fin.ext (k0_dev10_eq c)) (hSV (rot c 3)) (offS := k0_off5 c 2#32) (off5_at c 2) (k0_off4_eq c)
    (send1_at 2 (off := ![2]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c (rot c 4) (off := k0_off1 c 3#32) (off1_at c 3)) $$ Hq; iintro Hq
  iapply (ld_fam c (rot c 4) (off := k0_off1 c 3#32) (off1_at c 3)) $$ Hk; iintro Hk
  iapply (wp_done c)
  iapply Hcont
  isplitl [Hq Hk Hv]
  · isplitl [Hq]; · iexact Hq
    isplitl [Hk]; · iexact Hk
    iexact Hv
  isplitl [Hcr]; · iexact Hcr
  iexact HO

omit hSV

theorem part13 (w : BitVec 32) {Q : _ → sProp (MM F)} :
    iprop(Full c Qf Kf Vf ∗ Stg c (rot c 4))
      ⊢ iprop((Full c Qf Kf Vf ∗ ownsTc c (slot32 stgM (rot c 4)) fullShare (headO m (Qf (rot c 4)) (Kf (rot c 4)) (Vf (rot c 4))) -∗ Q ⟨⟩) -∗ WP c (k0_part13 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c m k0_pay35 w (k0_pay54 (Qf (rot c 4)) (Kf (rot c 4))) zeroF) Q) := by
  rw [k0_part13_eq_skeleton]; unfold k0_part13_skel
  simp only [semSignalWord, semWaitWord, Prog.lift, Prog.bind_op, Prog.bind_ret, Prog.pure_eq_ret, Prog.bind_assoc, wp_deviceId]
  simp only [pay55_eq]
  unfold Stg
  unfold Full
  iintro ⟨⟨Hq, Hk, Hv⟩, ⟨%Y, HS⟩⟩ Hcont
  iapply (ld_fam c (rot c 4) (off := k0_off1 c 3#32) (off1_at c 3)) $$ Hv; iintro Hv
  iapply (ld_slot c (rot c 4) (off := k0_off2 c 3#32) (off2_at c 3)) $$ HS; iintro HS
  iapply (st_slot c (rot c 4) (off := k0_off2 c 3#32) (off2_at c 3)) $$ HS; iintro HS
  iapply (wp_done c)
  iapply Hcont
  isplitl [Hq Hk Hv]
  · isplitl [Hq]; · iexact Hq
    isplitl [Hk]; · iexact Hk
    iexact Hv
  iexact HS

include hSV

theorem part14 {Q : _ → sProp (MM F)} :
    iprop(Ctx SV CV κ ∗ Full c Qf Kf Vf ∗ ownsTc c (slot32 stgM (rot c 4)) fullShare (headO m (Qf (rot c 4)) (Kf (rot c 4)) (Vf (rot c 4))) ∗ Out1 c 4 3 ∗ Ow c 8 4 1)
      ⊢ iprop((Full c Qf Kf Vf ∗ cred (tallyAt (dmaC c 0 3) () N1) ∗ Ow c 8 5 1 -∗ Q ⟨(Scalar.remsi (Scalar.addi (Scalar.addi (wd c) 1#32) 4#32) 8#32), k0_pay57 m (Qf (rot c 5)) (Kf (rot c 5)) (Vf (rot c 5)), k0_pay58 m k0_pay35 (Qf (rot c 5)) (Kf (rot c 5)), k0_pay59 m k0_pay35 (Qf (rot c 5)) (Kf (rot c 5)), k0_pay60 m k0_pay35 (Qf (rot c 5)) (Kf (rot c 5)), k0_pay61 m k0_pay35 (Qf (rot c 5)) (Kf (rot c 5)), k0_pay62 m k0_pay35 (Qf (rot c 5)) (Kf (rot c 5)), k0_pay63 m k0_pay35 (Qf (rot c 5)) (Kf (rot c 5)), k0_pay64 m k0_pay35 (Qf (rot c 5)) (Kf (rot c 5)), k0_pay65 m k0_pay35 (Qf (rot c 5)) (Kf (rot c 5))⟩) -∗ WP c (k0_part14 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) m k0_pay35) Q) := by
  rw [k0_part14_eq_skeleton]; unfold k0_part14_skel
  simp only [semSignalWord, semWaitWord, Prog.lift, Prog.bind_op, Prog.bind_ret, Prog.pure_eq_ret, Prog.bind_assoc, wp_deviceId]
  unfold Full
  iintro ⟨#HC, ⟨Hq, Hk, Hv⟩, HS, HD, HO⟩ Hcont
  iapply (step_head SV CV κ c 4 3 rfl (by decide) (Fin.ext (k0_dev11_eq c)) (hSV (rot c 4)) (offS := k0_off5 c 3#32) (off5_at c 3) (k0_off4_eq c)
    (send1_at 3 (off := ![3]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c (rot c 5) (off := k0_off1 c 4#32) (off1_at c 4)) $$ Hq; iintro Hq
  iapply (ld_fam c (rot c 5) (off := k0_off1 c 4#32) (off1_at c 4)) $$ Hk; iintro Hk
  iapply (ld_fam c (rot c 5) (off := k0_off1 c 4#32) (off1_at c 4)) $$ Hv; iintro Hv
  iapply (wp_done c)
  iapply Hcont
  isplitl [Hq Hk Hv]
  · isplitl [Hq]; · iexact Hq
    isplitl [Hk]; · iexact Hk
    iexact Hv
  isplitl [Hcr]; · iexact Hcr
  iexact HO

theorem part15 (w : BitVec 32) {Q : _ → sProp (MM F)} :
    iprop(Ctx SV CV κ ∗ Full c Qf Kf Vf ∗ Stg c (rot c 5) ∗ Out1 c 5 4 ∗ Ow c 8 5 1)
      ⊢ iprop((Full c Qf Kf Vf ∗ cred (tallyAt (dmaC c 0 4) () N1) ∗ Ow c 8 6 1 -∗ Q ⟨(Scalar.remsi (Scalar.addi (Scalar.addi (wd c) 1#32) 5#32) 8#32), k0_pay67 m (Qf (rot c 6)) (Kf (rot c 6)), k0_pay68 (Vf (rot c 6))⟩) -∗ WP c (k0_part15 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) m w (k0_pay57 m (Qf (rot c 5)) (Kf (rot c 5)) (Vf (rot c 5))) (k0_pay58 m k0_pay35 (Qf (rot c 5)) (Kf (rot c 5))) (k0_pay59 m k0_pay35 (Qf (rot c 5)) (Kf (rot c 5))) (k0_pay60 m k0_pay35 (Qf (rot c 5)) (Kf (rot c 5))) (k0_pay61 m k0_pay35 (Qf (rot c 5)) (Kf (rot c 5))) (k0_pay62 m k0_pay35 (Qf (rot c 5)) (Kf (rot c 5))) (k0_pay63 m k0_pay35 (Qf (rot c 5)) (Kf (rot c 5))) (k0_pay64 m k0_pay35 (Qf (rot c 5)) (Kf (rot c 5))) (k0_pay65 m k0_pay35 (Qf (rot c 5)) (Kf (rot c 5)))) Q) := by
  rw [k0_part15_eq_skeleton]; unfold k0_part15_skel
  simp only [semSignalWord, semWaitWord, Prog.lift, Prog.bind_op, Prog.bind_ret, Prog.pure_eq_ret, Prog.bind_assoc, wp_deviceId]
  simp only [pay66_eq]
  unfold Stg
  unfold Full
  iintro ⟨#HC, ⟨Hq, Hk, Hv⟩, ⟨%Y, HS⟩, HD, HO⟩ Hcont
  iapply (ld_slot c (rot c 5) (off := k0_off2 c 4#32) (off2_at c 4)) $$ HS; iintro HS
  iapply (st_slot c (rot c 5) (off := k0_off2 c 4#32) (off2_at c 4)) $$ HS; iintro HS
  iapply (step_head SV CV κ c 5 4 rfl (by decide) (Fin.ext (k0_dev12_eq c)) (hSV (rot c 5)) (offS := k0_off5 c 4#32) (off5_at c 4) (k0_off4_eq c)
    (send1_at 4 (off := ![4]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c (rot c 6) (off := k0_off1 c 5#32) (off1_at c 5)) $$ Hq; iintro Hq
  iapply (ld_fam c (rot c 6) (off := k0_off1 c 5#32) (off1_at c 5)) $$ Hk; iintro Hk
  iapply (ld_fam c (rot c 6) (off := k0_off1 c 5#32) (off1_at c 5)) $$ Hv; iintro Hv
  iapply (wp_done c)
  iapply Hcont
  isplitl [Hq Hk Hv]
  · isplitl [Hq]; · iexact Hq
    isplitl [Hk]; · iexact Hk
    iexact Hv
  isplitl [Hcr]; · iexact Hcr
  iexact HO

theorem part16 (w : BitVec 32) {Q : _ → sProp (MM F)} :
    iprop(Ctx SV CV κ ∗ Full c Qf Kf Vf ∗ Stg c (rot c 6) ∗ Out1 c 6 5 ∗ Ow c 8 6 1)
      ⊢ iprop((Full c Qf Kf Vf ∗ cred (tallyAt (dmaC c 0 5) () N1) ∗ Ow c 8 7 1 -∗ Q ⟨Scalar.addi (Scalar.addi (wd c) 1#32) 6#32, 8#32⟩) -∗ WP c (k0_part16 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) k0_pay35 w (k0_pay67 m (Qf (rot c 6)) (Kf (rot c 6))) (k0_pay68 (Vf (rot c 6)))) Q) := by
  rw [k0_part16_eq_skeleton]; unfold k0_part16_skel
  simp only [semSignalWord, semWaitWord, Prog.lift, Prog.bind_op, Prog.bind_ret, Prog.pure_eq_ret, Prog.bind_assoc, wp_deviceId]
  simp only [pay69_eq]
  unfold Stg
  unfold Full
  iintro ⟨#HC, ⟨Hq, Hk, Hv⟩, ⟨%Y, HS⟩, HD, HO⟩ Hcont
  iapply (ld_slot c (rot c 6) (off := k0_off2 c 5#32) (off2_at c 5)) $$ HS; iintro HS
  iapply (st_slot c (rot c 6) (off := k0_off2 c 5#32) (off2_at c 5)) $$ HS; iintro HS
  iapply (step_head SV CV κ c 6 5 rfl (by decide) (Fin.ext (k0_dev13_eq c)) (hSV (rot c 6)) (offS := k0_off5 c 5#32) (off5_at c 5) (k0_off4_eq c)
    (send1_at 5 (off := ![5]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (wp_done c)
  iapply Hcont
  isplitl [Hq Hk Hv]
  · isplitl [Hq]; · iexact Hq
    isplitl [Hk]; · iexact Hk
    iexact Hv
  isplitl [Hcr]; · iexact Hcr
  iexact HO

omit hSV

theorem part17 (w : BitVec 32) (Y : Vec F S1x1032x128 .bf16) {Q : _ → sProp (MM F)} :
    iprop(Full c Qf Kf Vf ∗ ownsTc c (slot32 stgM (rot c 7)) fullShare Y)
      ⊢ iprop((Full c Qf Kf Vf ∗ ownsTc c (slot32 stgM (rot c 7)) fullShare Y -∗ Q ⟨Scalar.remsi w 8#32, k0_pay70 m k0_pay35 (Qf (rot c 7)) (Kf (rot c 7)) (Vf (rot c 7)), Y⟩) -∗ WP c (k0_part17 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c m k0_pay35 w 8#32) Q) := by
  rw [k0_part17_eq_skeleton]; unfold k0_part17_skel
  simp only [semSignalWord, semWaitWord, Prog.lift, Prog.bind_op, Prog.bind_ret, Prog.pure_eq_ret, Prog.bind_assoc, wp_deviceId]
  unfold Full
  iintro ⟨⟨Hq, Hk, Hv⟩, HS⟩ Hcont
  iapply (ld_fam c (rot c 7) (off := k0_off1 c 6#32) (off1_at c 6)) $$ Hq; iintro Hq
  iapply (ld_fam c (rot c 7) (off := k0_off1 c 6#32) (off1_at c 6)) $$ Hk; iintro Hk
  iapply (ld_fam c (rot c 7) (off := k0_off1 c 6#32) (off1_at c 6)) $$ Hv; iintro Hv
  iapply (ld_slot c (rot c 7) (off := k0_off2 c 6#32) (off2_at c 6)) $$ HS; iintro HS
  iapply (wp_done c)
  iapply Hcont
  isplitl [Hq Hk Hv]
  · isplitl [Hq]; · iexact Hq
    isplitl [Hk]; · iexact Hk
    iexact Hv
  iexact HS

include hSV

theorem part18 (w : BitVec 32) (Y : Vec F S1x1032x128 .bf16) {Q : _ → sProp (MM F)} :
    iprop(Ctx SV CV κ ∗ Full c Qf Kf Vf ∗ Stg c (rot c 7) ∗ Out1 c 7 6 ∗ Ow c 8 7 1)
      ⊢ iprop((Full c Qf Kf Vf ∗ cred (tallyAt (dmaC c 0 6) () N1) ∗ Ow c 8 8 1 -∗ Q ⟨k0_pay72 m (Qf c) (Kf c), k0_pay73 m (Qf c) (Kf c) (Vf c), k0_pay74 m k0_pay35 (Qf c) (Kf c), k0_pay75 m k0_pay35 (Qf c) (Kf c), k0_pay76 m k0_pay35 (Qf c) (Kf c), k0_pay77 m k0_pay35 (Qf c) (Kf c)⟩) -∗ WP c (k0_part18 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) m k0_pay35 w (k0_pay70 m k0_pay35 (Qf (rot c 7)) (Kf (rot c 7)) (Vf (rot c 7))) Y) Q) := by
  rw [k0_part18_eq_skeleton]; unfold k0_part18_skel
  simp only [semSignalWord, semWaitWord, Prog.lift, Prog.bind_op, Prog.bind_ret, Prog.pure_eq_ret, Prog.bind_assoc, wp_deviceId]
  simp only [pay71_eq]
  unfold Stg
  unfold Full
  iintro ⟨#HC, ⟨Hq, Hk, Hv⟩, ⟨%Y₀, HS⟩, HD, HO⟩ Hcont
  iapply (st_slot c (rot c 7) (off := k0_off2 c 6#32) (off2_at c 6)) $$ HS; iintro HS
  iapply (step_head SV CV κ c 7 6 rfl (by decide) (Fin.ext (k0_dev14_eq c)) (hSV (rot c 7)) (offS := k0_off5 c 6#32) (off5_at c 6) (k0_off4_eq c)
    (send1_at 6 (off := ![6]) rfl _) (recv1_at c (off := k0_off3 c) (k0_off3_eq c) _)) $$ [HD HS HO]
  · isplitr; · iexact HC
    isplitl [HD]; · iexact HD
    isplitl [HS]; · iexact HS
    iexact HO
  iintro ⟨Hcr, HO⟩
  iapply (ld_fam c c (off := k0_off6 c) (k0_off6_eq c)) $$ Hq; iintro Hq
  iapply (ld_fam c c (off := k0_off6 c) (k0_off6_eq c)) $$ Hk; iintro Hk
  iapply (ld_fam c c (off := k0_off6 c) (k0_off6_eq c)) $$ Hv; iintro Hv
  iapply (wp_done c)
  iapply Hcont
  isplitl [Hq Hk Hv]
  · isplitl [Hq]; · iexact Hq
    isplitl [Hk]; · iexact Hk
    iexact Hv
  isplitl [Hcr]; · iexact Hcr
  iexact HO

end Cert.Proto

end
-- ==== Proof.Shares.lean ====
/-
  The waits one by one, and the sending of the context in shares.
-/
module

public import proofs.«01_k».proof.Proof.Talk
public import Idealize.ShloMosaic.Lib.MemrefSat

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (SV : Dev nD → Dev nD → Vec F S1x1032x128 .bf16) (CV : Dev nD → Vec F S1x1024x128 .bf16) (κ : GSem nD τ sig → ℕ) (c : Dev nD)

/-- What waiting for device `h`'s piece of `c`'s own head, and for its context, leaves. -/
def Got1 (h : Dev nD) : sProp (MM F) := iprop(atPos ER (dmaC c 1 h) 1 ∅ 0 ∗ ownsTc c (slot32 comM h) fullShare (SV h c))
def Got3 (h : Dev nD) : sProp (MM F) := iprop(atPos ER (dmaC c 3 h) 1 ∅ 0 ∗ ownsTc c (slot24 ctxM h) fullShare (CV h))

/-- The share of the device's context that is left after `n` sends. -/
def Rest (n : ℕ) : sProp (MM F) := ownsTc c (slotCtx stgM c) (Transfers.shareDrop fullShare n) (CV c)

theorem rest_take (n : ℕ) : Rest CV c n ⊣⊢ iprop(Rest CV c (n + 1) ∗ ownsTc c (slotCtx stgM c) (Transfers.shareTokN fullShare n) (CV c)) :=
  owns_halves (c : Thread nD τ) (slotCtx stgM c) (Transfers.shareDrop fullShare n) (CV c)

theorem credit_com : ((slot32 comM 0).squeeze S1032x128 squeezes_S1x1032x128_S1032x128).view.dmaCredit = amt 1 := by unfold amt N1; rw [if_pos (by decide)]
theorem credit_stg : ((slot32 stgM 0).squeeze S1032x128 squeezes_S1x1032x128_S1032x128).view.dmaCredit = amt 0 := by unfold amt N1; rw [if_pos (by decide)]
theorem credit_ctx (off : Fin 3 → ℕ) (p) : ((ctxM.slice (Rect.unit (s := S8x1024x128) off S1x1024x128.size p) (fun _ => rfl)).squeeze S1024x128
    squeezes_S1x1024x128_S1024x128).view.dmaCredit = amt 3 := by unfold amt N2; rw [if_neg (by decide)]
theorem credit_own (off : Fin 3 → ℕ) (p) : ((stgM.slice (Rect.unit (s := S8x1032x128) off S1x1024x128.size p) (fun _ => rfl)).squeeze S1024x128
    squeezes_S1x1024x128_S1024x128).view.dmaCredit = amt 2 := by unfold amt N2; rw [if_neg (by decide)]

section Steps
variable {α : Type} {Q : α → sProp (MM F)}

/-- A wait for a piece. -/
theorem step_recv1 (h : Dev nD) (hh : h ≠ c) {s : Shape} {src : Memref sig .tc .vmem s .bf16} {off : Fin 3 → ℕ} {p} {sm : DmaSem sig} (hsm : sm = dmaS 1 h) {hsrc hdst}
    {k : PUnit.{1} → PR F α} :
    iprop(Ctx SV CV κ ∗ WaitIn c 1 h ∗ Ow c 8 8 1)
      ⊢ iprop((Ow c 8 8 1 ∗ atPos ER (dmaC c 1 h) 1 ∅ 0 ∗ ownsTc c (slot32 comM h) fullShare (SV h c) -∗ WP c (k ⟨⟩) Q)
        -∗ WP c (Prog.op (TpuEff.waitDma2 sm src ((comM.slice (Rect.unit (s := S8x1032x128) off S1x1032x128.size p) (fun _ => rfl)).squeeze S1032x128 squeezes_S1x1032x128_S1032x128) hsrc hdst) k) Q) :=
  step_wait32 SV CV κ c (off := off) (p := p) (src := src) (hsrc := hsrc) (hdst := hdst) (k' := 1) (i := h) (e := 1) (m := 2) (show h ≠ c from hh) (M := comM) credit_com (by rw [lv_dma]; decide) (fun _ => by decide) hsm

/-- A wait for a context. -/
theorem step_recv2 (h : Dev nD) (hh : h ≠ c) {s : Shape} {src : Memref sig .tc .vmem s .bf16} {off : Fin 3 → ℕ} {p} {sm : DmaSem sig} (hsm : sm = dmaS 3 h) {hsrc hdst}
    {k : PUnit.{1} → PR F α} :
    iprop(Ctx SV CV κ ∗ WaitIn c 3 h ∗ Ow c 8 8 8)
      ⊢ iprop((Ow c 8 8 8 ∗ atPos ER (dmaC c 3 h) 1 ∅ 0 ∗ ownsTc c (slot24 ctxM h) fullShare (CV h) -∗ WP c (k ⟨⟩) Q)
        -∗ WP c (Prog.op (TpuEff.waitDma2 sm src ((ctxM.slice (Rect.unit (s := S8x1024x128) off S1x1024x128.size p) (fun _ => rfl)).squeeze S1024x128 squeezes_S1x1024x128_S1024x128) hsrc hdst) k) Q) :=
  step_wait24 SV CV κ c (off := off) (p := p) (src := src) (hsrc := hsrc) (hdst := hdst) (k' := 3) (i := h) (m := 3) (show h ≠ c from hh) (M := ctxM) (credit_ctx off p) (by rw [lv_dma]; decide) hsm

/-- A wait for the credit of a sent head, which gives the staging slot back. -/
theorem step_sent1 (i : Dev nD) (hi : i.val ≠ 7) {s : Shape} {src : Memref sig .tc .vmem s .bf16} {off : Fin 3 → ℕ} {p} {sm : DmaSem sig} (hsm : sm = dmaS 0 i) {hsrc hdst}
    {k : PUnit.{1} → PR F α} :
    iprop(Ctx SV CV κ ∗ WaitIn c 0 i ∗ Ow c 8 8 8)
      ⊢ iprop((Ow c 8 8 8 ∗ atPos ER (dmaC c 0 i) 1 ∅ 0 ∗ dmaPay SV CV c 0 i -∗ WP c (k ⟨⟩) Q)
        -∗ WP c (Prog.op (TpuEff.waitDma2 sm src ((stgM.slice (Rect.unit (s := S8x1032x128) off S1x1032x128.size p) (fun _ => rfl)).squeeze S1032x128 squeezes_S1x1032x128_S1032x128) hsrc hdst) k) Q) :=
  step_wait32 SV CV κ c (off := off) (p := p) (src := src) (hsrc := hsrc) (hdst := hdst) (k' := 0) (i := i) (e := 8) (m := 0) (show i.val ≠ 7 from hi) (M := stgM) credit_stg (by rw [lv_dma]; decide) (fun _ => by decide) hsm

/-- A wait for the credit of a sent context, which gives that share of it back. -/
theorem step_sent2 (i : Dev nD) (hi : i.val ≠ 0) {s : Shape} {src : Memref sig .tc .vmem s .bf16} {off : Fin 3 → ℕ} {p} {sm : DmaSem sig} (hsm : sm = dmaS 2 i) {hsrc hdst}
    {k : PUnit.{1} → PR F α} :
    iprop(Ctx SV CV κ ∗ WaitIn c 2 i ∗ Ow c 8 8 8)
      ⊢ iprop((Ow c 8 8 8 ∗ atPos ER (dmaC c 2 i) 1 ∅ 0 ∗ dmaPay SV CV c 2 i -∗ WP c (k ⟨⟩) Q)
        -∗ WP c (Prog.op (TpuEff.waitDma2 sm src ((stgM.slice (Rect.unit (s := S8x1032x128) off S1x1024x128.size p) (fun _ => rfl)).squeeze S1024x128 squeezes_S1x1024x128_S1024x128) hsrc hdst) k) Q) :=
  step_wait24 SV CV κ c (off := off) (p := p) (src := src) (hsrc := hsrc) (hdst := hdst) (k' := 2) (i := i) (m := 0) (show i.val ≠ 0 from hi) (M := stgM) (credit_own off p) (by rw [lv_dma]; decide) hsm

/-- The transfer of the context to the device `j` places on, out of what is left of it. -/
theorem step_share (j : ℕ) (i : Dev nD) (hi : i.val = j + 1) (hj : j + 1 < 8) {n : Dev nD} (hn : n = rot c (j + 1))
    {offS offD : Fin 3 → ℕ} (hoS : offS = ![c.val, 0, 0]) (hoD : offD = ![c.val, 0, 0]) {pS pD} {sS sR : DmaSem sig}
    (hsS : sS = dmaS 2 i) (hsR : sR = dmaS 3 c) {hsc} {hsrc hdst hsem} {k : PUnit.{1} → PR F α} :
    iprop(Ctx SV CV κ ∗ Out2 c (j + 1) i ∗ Rest CV c j ∗ Ow c 8 8 (j + 1))
      ⊢ iprop((cred (tallyAt (dmaC c 2 i) () N2) ∗ Rest CV c (j + 1) ∗ Ow c 8 8 (j + 2) -∗ WP c (k ⟨⟩) Q)
        -∗ WP c (Prog.op (TpuEff.enqueueDma ((stgM.slice (Rect.unit (s := S8x1032x128) offS S1x1024x128.size pS) (fun _ => rfl)).squeeze S1024x128 squeezes_S1x1024x128_S1024x128)
          (.remote (Dev.tc n : Thread nD τ) ((ctxM.slice (Rect.unit (s := S8x1024x128) offD S1x1024x128.size pD) (fun _ => rfl)).squeeze S1024x128 squeezes_S1x1024x128_S1024x128) (.dma sS) hsc)
          (.dma sR) hsrc hdst hsem) k) Q) := by
  iintro ⟨#HC, HD, HR, HO⟩ Hk
  ihave H2 := (rest_take CV c j).1 $$ HR
  icases H2 with ⟨HR, HA⟩
  iapply (step_ctx SV CV κ c (j + 1) i hi (by omega) hj hn hoS hoD hsS hsR) $$ [HD HA HO]
  · isplitr; · iexact HC
    isplitl [HD]; · iexact HD
    isplitl [HA]; · rw [show i.val - 1 = j by omega]; iexact HA
    iexact HO
  iintro ⟨Hcr, HO⟩
  iapply Hk
  isplitl [Hcr]; · iexact Hcr
  isplitl [HR]; · iexact HR
  iexact HO
end Steps

/-- All the shares of the context together. -/
theorem rest_join : iprop(Rest CV c 7 ∗ dmaPay SV CV c 2 1 ∗ dmaPay SV CV c 2 2 ∗ dmaPay SV CV c 2 3 ∗ dmaPay SV CV c 2 4 ∗ dmaPay SV CV c 2 5
    ∗ dmaPay SV CV c 2 6 ∗ dmaPay SV CV c 2 7) ⊢ (ownsTc c (slotCtx stgM c) fullShare (CV c) : sProp (MM F)) := by
  have back (n : ℕ) (i : Dev nD) (h : i.val = n + 1) : iprop(Rest CV c (n + 1) ∗ dmaPay SV CV c 2 i) ⊢ (Rest CV c n : sProp (MM F)) := by
    have e : n = i.val - 1 := by omega
    subst e
    rw [show i.val - 1 + 1 = i.val by omega]
    have := (rest_take CV c (i.val - 1)).2
    rwa [show i.val - 1 + 1 = i.val by omega] at this
  iintro ⟨H, H1, H2, H3, H4, H5, H6, H7⟩
  ihave H := (back 6 7 rfl) $$ [H H7]
  · isplitl [H]; · iexact H
    iexact H7
  ihave H := (back 5 6 rfl) $$ [H H6]
  · isplitl [H]; · iexact H
    iexact H6
  ihave H := (back 4 5 rfl) $$ [H H5]
  · isplitl [H]; · iexact H
    iexact H5
  ihave H := (back 3 4 rfl) $$ [H H4]
  · isplitl [H]; · iexact H
    iexact H4
  ihave H := (back 2 3 rfl) $$ [H H3]
  · isplitl [H]; · iexact H
    iexact H3
  ihave H := (back 1 2 rfl) $$ [H H2]
  · isplitl [H]; · iexact H
    iexact H2
  ihave H := (back 0 1 rfl) $$ [H H1]
  · isplitl [H]; · iexact H
    iexact H1
  iapply (show Rest CV c 0 ⊢ (ownsTc c (slotCtx stgM c) fullShare (CV c) : sProp (MM F)) from .rfl)
  iexact H

end Cert.Proto

end
-- ==== Proof.PartC.lean ====
/-
  The pieces received and joined, the context sent, the contexts received and multiplied, and the last waits.
-/
module

public import proofs.«01_k».proof.Proof.Shares
public import proofs.«01_k».proof.Proof.Vals

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The result buffer, read and written whole -/

theorem ld_out (c : Dev nD) {α : Type} {Q : α → sProp (MM F)} {M : Memref sig .tc .vmem S1x1024x1024 .f32} {p} {hl} {k : Vec F S1x1024x1024 .f32 → PR F α} {X : Vec F S1x1024x1024 .f32} :
    (ownsTc c M fullShare X : sProp (MM F))
      ⊢ iprop((ownsTc c M fullShare X -∗ WP c (k (X ∘ (Rect.unit (s := S1x1024x1024) ![0, 0, 0] S1x1024x1024.size p).emb)) Q)
        -∗ WP c (Prog.op (TpuEff.load M (Rect.unit (s := S1x1024x1024) ![0, 0, 0] S1x1024x1024.size p).toLoadRect hl) k) Q) :=
  ld_part (F := F) c (M := M) (r := Rect.unit (s := S1x1024x1024) ![0, 0, 0] S1x1024x1024.size p) (k := k) (X := X)

theorem out_cover (p : ∀ i, (![0, 0, 0] : Fin 3 → ℕ) i + S1x1024x1024.size i ≤ S1x1024x1024.size i) (i : S1x1024x1024.Idx) :
    (Rect.unit (s := S1x1024x1024) ![0, 0, 0] S1x1024x1024.size p).emb i = i := by
  funext a; fin_cases a <;> exact Fin.ext (by simp [Rect.emb_apply])

theorem st_out (c : Dev nD) {α : Type} {Q : α → sProp (MM F)} {M : Memref sig .tc .vmem S1x1024x1024 .f32} {p} {w : Vec F S1x1024x1024 .f32}
    {hx : (M.access (Rect.unit (s := S1x1024x1024) ![0, 0, 0] S1x1024x1024.size p)).Stores Finset.univ} {hm} {k : PUnit.{1} → PR F α} {X : Vec F S1x1024x1024 .f32} :
    (ownsTc c M fullShare X : sProp (MM F))
      ⊢ iprop((ownsTc c M fullShare w -∗ WP c (k ⟨⟩) Q)
        -∗ WP c (Prog.op (TpuEff.store M (Rect.unit (s := S1x1024x1024) ![0, 0, 0] S1x1024x1024.size p) w Finset.univ hx hm) k) Q) := by
  unfold ownsTc owns
  iintro ⟨%f, %hf, H⟩ Hk
  iapply (wp_store (defs := defs₀ (F := F)) (m := M) (r := Rect.unit (s := S1x1024x1024) ![0, 0, 0] S1x1024x1024.size p) (w := w) (Mk := Finset.univ) (hx := hx) (hm := hm)
    (k := k) (Q := Q) (S := M.view.set) (f := f) 𝒱₀ (c : Thread nD τ) none Set.univ (View.set_slice_subset _ _)) $$ H
  iintro H
  iapply Hk
  iexists (M.access (Rect.unit (s := S1x1024x1024) ![0, 0, 0] S1x1024x1024.size p)).write (Elt F) f w Finset.univ
  isplitr
  · ipureintro
    funext i
    have := congrFun (View.read_write_univ (v := M.access (Rect.unit (s := S1x1024x1024) ![0, 0, 0] S1x1024x1024.size p)) (Val := Elt F) f w) i
    rw [← this]
    conv_lhs => rw [← out_cover p i]
    rfl
  iexact H

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (SV : Dev nD → Dev nD → Vec F S1x1032x128 .bf16) (CV : Dev nD → Vec F S1x1024x128 .bf16) (κ : GSem nD τ sig → ℕ) (c : Dev nD)

theorem part19 (v227 : FVec F S1x1024 .bf16) (v624 : FVec F S1024x1024 .bf16) (v628 : FVec F S1024x128 .f32) (v630 v632 v634 v636 : FVec F S1x128 .f32) {Q : _ → sProp (MM F)} :
    iprop(Ctx SV CV κ ∗ WaitIn c 1 (rot c 7) ∗ Ow c 8 8 1)
      ⊢ iprop((Got1 SV c (rot c 7) ∗ Ow c 8 8 1 -∗ Q ⟨k0_pay78 v227 v624 v628 v630 v632 v634 v636 (SV (rot c 7) c), Scalar.remsi (Scalar.subi (Scalar.addi (wd c) 7#32) 1#32) 8#32⟩) -∗ WP c (k0_part19 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) v227 v624 v628 v630 v632 v634 v636) Q) := by
  rw [k0_part19_eq_skeleton]; unfold k0_part19_skel
  simp only [semSignalWord, semWaitWord, Prog.lift, Prog.bind_op, Prog.bind_ret, Prog.pure_eq_ret, Prog.bind_assoc, wp_deviceId]
  unfold Got1
  iintro ⟨#HC, W0, HO⟩ Hcont
  iapply (step_recv1 SV CV κ c (rot c 7) (rot_ne c (by decide) (by decide)) (recv1_at (rot c 7) (off := k0_off7 c 0#32) (off7_at c 0) _)) $$ [W0 HO]
  · isplitr; · iexact HC
    isplitl [W0]; · iexact W0
    iexact HO
  iintro ⟨HO, A0, R0⟩
  iapply (ld_slot c (rot c 7) (off := k0_off9 c 0#32) (off9_at c 0)) $$ R0; iintro R0
  iapply (wp_done c)
  iapply Hcont
  isplitl [A0 R0]
  · isplitl [A0]; · iexact A0
    iexact R0
  iexact HO

theorem part20 (t : FVec F S1032x128 .f32) (w : BitVec 32) {Q : _ → sProp (MM F)} :
    iprop(Ctx SV CV κ ∗ WaitIn c 1 (rot c 6) ∗ WaitIn c 1 (rot c 5) ∗ Ow c 8 8 1)
      ⊢ iprop((Got1 SV c (rot c 6) ∗ Got1 SV c (rot c 5) ∗ Ow c 8 8 1 -∗ Q ⟨k0_pay79 t (SV (rot c 6) c) (SV (rot c 5) c), Scalar.remsi (Scalar.subi (Scalar.addi (wd c) 7#32) 3#32) 8#32⟩) -∗ WP c (k0_part20 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t w) Q) := by
  rw [k0_part20_eq_skeleton]; unfold k0_part20_skel
  simp only [semSignalWord, semWaitWord, Prog.lift, Prog.bind_op, Prog.bind_ret, Prog.pure_eq_ret, Prog.bind_assoc, wp_deviceId]
  unfold Got1
  iintro ⟨#HC, W1, W2, HO⟩ Hcont
  iapply (step_recv1 SV CV κ c (rot c 6) (rot_ne c (by decide) (by decide)) (recv1_at (rot c 6) (off := k0_off7 c 1#32) (off7_at c 1) _)) $$ [W1 HO]
  · isplitr; · iexact HC
    isplitl [W1]; · iexact W1
    iexact HO
  iintro ⟨HO, A1, R1⟩
  iapply (ld_slot c (rot c 6) (off := k0_off9 c 1#32) (off9_at c 1)) $$ R1; iintro R1
  iapply (step_recv1 SV CV κ c (rot c 5) (rot_ne c (by decide) (by decide)) (recv1_at (rot c 5) (off := k0_off7 c 2#32) (off7_at c 2) _)) $$ [W2 HO]
  · isplitr; · iexact HC
    isplitl [W2]; · iexact W2
    iexact HO
  iintro ⟨HO, A2, R2⟩
  iapply (ld_slot c (rot c 5) (off := k0_off9 c 2#32) (off9_at c 2)) $$ R2; iintro R2
  iapply (wp_done c)
  iapply Hcont
  isplitl [A1 R1]
  · isplitl [A1]; · iexact A1
    iexact R1
  isplitl [A2 R2]
  · isplitl [A2]; · iexact A2
    iexact R2
  iexact HO

theorem part21 (t : FVec F S1032x128 .f32) (w : BitVec 32) {Q : _ → sProp (MM F)} :
    iprop(Ctx SV CV κ ∗ WaitIn c 1 (rot c 4) ∗ WaitIn c 1 (rot c 3) ∗ Ow c 8 8 1)
      ⊢ iprop((Got1 SV c (rot c 4) ∗ Got1 SV c (rot c 3) ∗ Ow c 8 8 1 -∗ Q ⟨k0_pay80 t (SV (rot c 4) c) (SV (rot c 3) c), Scalar.remsi (Scalar.subi (Scalar.addi (wd c) 7#32) 5#32) 8#32⟩) -∗ WP c (k0_part21 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t w) Q) := by
  rw [k0_part21_eq_skeleton]; unfold k0_part21_skel
  simp only [semSignalWord, semWaitWord, Prog.lift, Prog.bind_op, Prog.bind_ret, Prog.pure_eq_ret, Prog.bind_assoc, wp_deviceId]
  unfold Got1
  iintro ⟨#HC, W3, W4, HO⟩ Hcont
  iapply (step_recv1 SV CV κ c (rot c 4) (rot_ne c (by decide) (by decide)) (recv1_at (rot c 4) (off := k0_off7 c 3#32) (off7_at c 3) _)) $$ [W3 HO]
  · isplitr; · iexact HC
    isplitl [W3]; · iexact W3
    iexact HO
  iintro ⟨HO, A3, R3⟩
  iapply (ld_slot c (rot c 4) (off := k0_off9 c 3#32) (off9_at c 3)) $$ R3; iintro R3
  iapply (step_recv1 SV CV κ c (rot c 3) (rot_ne c (by decide) (by decide)) (recv1_at (rot c 3) (off := k0_off7 c 4#32) (off7_at c 4) _)) $$ [W4 HO]
  · isplitr; · iexact HC
    isplitl [W4]; · iexact W4
    iexact HO
  iintro ⟨HO, A4, R4⟩
  iapply (ld_slot c (rot c 3) (off := k0_off9 c 4#32) (off9_at c 4)) $$ R4; iintro R4
  iapply (wp_done c)
  iapply Hcont
  isplitl [A3 R3]
  · isplitl [A3]; · iexact A3
    iexact R3
  isplitl [A4 R4]
  · isplitl [A4]; · iexact A4
    iexact R4
  iexact HO

theorem part22 (e : FVec F S128x128 .bf16) (t : FVec F S1032x128 .f32) (w : BitVec 32) (Z : Vec F S1x1024x128 .bf16) {Q : _ → sProp (MM F)} :
    iprop(Ctx SV CV κ ∗ WaitIn c 1 (rot c 2) ∗ WaitIn c 1 (rot c 1) ∗ Ow c 8 8 1 ∗ ownsTc c (slotCtx stgM c) fullShare Z)
      ⊢ iprop((Got1 SV c (rot c 2) ∗ Got1 SV c (rot c 1) ∗ Ow c 8 8 1 ∗ ownsTc c (slotCtx stgM c) fullShare Z -∗ Q ⟨k0_pay81 e t (SV (rot c 2) c) (SV (rot c 1) c), k0_pay82 e t (SV (rot c 2) c) (SV (rot c 1) c)⟩) -∗ WP c (k0_part22 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) e t w) Q) := by
  rw [k0_part22_eq_skeleton]; unfold k0_part22_skel
  simp only [semSignalWord, semWaitWord, Prog.lift, Prog.bind_op, Prog.bind_ret, Prog.pure_eq_ret, Prog.bind_assoc, wp_deviceId]
  unfold Got1
  iintro ⟨#HC, W5, W6, HO, HS⟩ Hcont
  iapply (step_recv1 SV CV κ c (rot c 2) (rot_ne c (by decide) (by decide)) (recv1_at (rot c 2) (off := k0_off7 c 5#32) (off7_at c 5) _)) $$ [W5 HO]
  · isplitr; · iexact HC
    isplitl [W5]; · iexact W5
    iexact HO
  iintro ⟨HO, A5, R5⟩
  iapply (ld_slot c (rot c 2) (off := k0_off9 c 5#32) (off9_at c 5)) $$ R5; iintro R5
  iapply (step_recv1 SV CV κ c (rot c 1) (rot_ne c (by decide) (by decide)) (recv1_at (rot c 1) (off := k0_off7 c 6#32) (off7_at c 6) _)) $$ [W6 HO]
  · isplitr; · iexact HC
    isplitl [W6]; · iexact W6
    iexact HO
  iintro ⟨HO, A6, R6⟩
  iapply (ld_slot c (rot c 1) (off := k0_off9 c 6#32) (off9_at c 6)) $$ R6; iintro R6
  iapply (ld_ctx c c (off := k0_off10 c) (k0_off10_eq c)) $$ HS; iintro HS
  iapply (wp_done c)
  iapply Hcont
  isplitl [A5 R5]
  · isplitl [A5]; · iexact A5
    iexact R5
  isplitl [A6 R6]
  · isplitl [A6]; · iexact A6
    iexact R6
  isplitl [HO]; · iexact HO
  iexact HS

theorem part23 (v Z : Vec F S1x1024x128 .bf16) (hv : v = CV c) {Q : _ → sProp (MM F)} :
    iprop(Ctx SV CV κ ∗ Out2 c 1 1 ∗ Out2 c 2 2 ∗ ownsTc c (slotCtx stgM c) fullShare Z ∗ Ow c 8 8 1)
      ⊢ iprop((cred (tallyAt (dmaC c 2 1) () N2) ∗ cred (tallyAt (dmaC c 2 2) () N2) ∗ Rest CV c 2 ∗ Ow c 8 8 3 -∗ Q ⟨⟩) -∗ WP c (k0_part23 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) v) Q) := by
  rw [k0_part23_eq_skeleton]; unfold k0_part23_skel
  simp only [semSignalWord, semWaitWord, Prog.lift, Prog.bind_op, Prog.bind_ret, Prog.pure_eq_ret, Prog.bind_assoc, wp_deviceId]
  iintro ⟨#HC, D1, D2, HS, HO⟩ Hcont
  subst hv
  iapply (st_ctx c c (off := k0_off10 c) (k0_off10_eq c)) $$ HS; iintro HS
  ihave HS := (show (ownsTc c (slotCtx stgM c) fullShare (CV c) : sProp (MM F)) ⊢ Rest CV c 0 from .rfl) $$ HS
  iapply (step_share SV CV κ c 0 1 rfl (by decide) (Fin.ext (k0_dev15_eq c)) (k0_off12_eq c) (k0_off11_eq c)
    (send2_at 1 (off := ![1]) rfl _) (recv2_at c (off := k0_off3 c) (k0_off3_eq c) _)) $$ [D1 HS HO]
  · isplitr; · iexact HC
    isplitl [D1]; · iexact D1
    isplitl [HS]; · iexact HS
    iexact HO
  iintro ⟨C1, HS, HO⟩
  iapply (step_share SV CV κ c 1 2 rfl (by decide) (Fin.ext (k0_dev16_eq c)) (k0_off12_eq c) (k0_off11_eq c)
    (send2_at 2 (off := ![2]) rfl _) (recv2_at c (off := k0_off3 c) (k0_off3_eq c) _)) $$ [D2 HS HO]
  · isplitr; · iexact HC
    isplitl [D2]; · iexact D2
    isplitl [HS]; · iexact HS
    iexact HO
  iintro ⟨C2, HS, HO⟩
  iapply (wp_done c)
  iapply Hcont
  isplitl [C1]; · iexact C1
  isplitl [C2]; · iexact C2
  isplitl [HS]; · iexact HS
  iexact HO

theorem part24 {Q : _ → sProp (MM F)} :
    iprop(Ctx SV CV κ ∗ Out2 c 3 3 ∗ Out2 c 4 4 ∗ Out2 c 5 5 ∗ Rest CV c 2 ∗ Ow c 8 8 3)
      ⊢ iprop((cred (tallyAt (dmaC c 2 3) () N2) ∗ cred (tallyAt (dmaC c 2 4) () N2) ∗ cred (tallyAt (dmaC c 2 5) () N2) ∗ Rest CV c 5 ∗ Ow c 8 8 6 -∗ Q ⟨⟩) -∗ WP c (k0_part24 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c)) Q) := by
  rw [k0_part24_eq_skeleton]; unfold k0_part24_skel
  simp only [semSignalWord, semWaitWord, Prog.lift, Prog.bind_op, Prog.bind_ret, Prog.pure_eq_ret, Prog.bind_assoc, wp_deviceId]
  iintro ⟨#HC, D3, D4, D5, HS, HO⟩ Hcont
  iapply (step_share SV CV κ c 2 3 rfl (by decide) (Fin.ext (k0_dev17_eq c)) (k0_off12_eq c) (k0_off11_eq c)
    (send2_at 3 (off := ![3]) rfl _) (recv2_at c (off := k0_off3 c) (k0_off3_eq c) _)) $$ [D3 HS HO]
  · isplitr; · iexact HC
    isplitl [D3]; · iexact D3
    isplitl [HS]; · iexact HS
    iexact HO
  iintro ⟨C3, HS, HO⟩
  iapply (step_share SV CV κ c 3 4 rfl (by decide) (Fin.ext (k0_dev18_eq c)) (k0_off12_eq c) (k0_off11_eq c)
    (send2_at 4 (off := ![4]) rfl _) (recv2_at c (off := k0_off3 c) (k0_off3_eq c) _)) $$ [D4 HS HO]
  · isplitr; · iexact HC
    isplitl [D4]; · iexact D4
    isplitl [HS]; · iexact HS
    iexact HO
  iintro ⟨C4, HS, HO⟩
  iapply (step_share SV CV κ c 4 5 rfl (by decide) (Fin.ext (k0_dev19_eq c)) (k0_off12_eq c) (k0_off11_eq c)
    (send2_at 5 (off := ![5]) rfl _) (recv2_at c (off := k0_off3 c) (k0_off3_eq c) _)) $$ [D5 HS HO]
  · isplitr; · iexact HC
    isplitl [D5]; · iexact D5
    isplitl [HS]; · iexact HS
    iexact HO
  iintro ⟨C5, HS, HO⟩
  iapply (wp_done c)
  iapply Hcont
  isplitl [C3]; · iexact C3
  isplitl [C4]; · iexact C4
  isplitl [C5]; · iexact C5
  isplitl [HS]; · iexact HS
  iexact HO

theorem part25 {X4 : Vec F S1024x1024 .bf16} (t : FVec F S1024x128 .bf16) {Q : _ → sProp (MM F)} :
    iprop(Ctx SV CV κ ∗ Out2 c 6 6 ∗ Out2 c 7 7 ∗ Rest CV c 5 ∗ Ow c 8 8 6 ∗ ownsTc c a4 fullShare X4)
      ⊢ iprop((cred (tallyAt (dmaC c 2 6) () N2) ∗ cred (tallyAt (dmaC c 2 7) () N2) ∗ Rest CV c 7 ∗ Ow c 8 8 8 ∗ ownsTc c a4 fullShare X4 -∗ Q ⟨k0_pay83 t (rowsOf X4 c), Scalar.remsi (Scalar.subi (Scalar.addi (wd c) 7#32) 0#32) 8#32⟩) -∗ WP c (k0_part25 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t) Q) := by
  rw [k0_part25_eq_skeleton]; unfold k0_part25_skel
  simp only [semSignalWord, semWaitWord, Prog.lift, Prog.bind_op, Prog.bind_ret, Prog.pure_eq_ret, Prog.bind_assoc, wp_deviceId]
  iintro ⟨#HC, D6, D7, HS, HO, HW⟩ Hcont
  iapply (step_share SV CV κ c 5 6 rfl (by decide) (Fin.ext (k0_dev20_eq c)) (k0_off12_eq c) (k0_off11_eq c)
    (send2_at 6 (off := ![6]) rfl _) (recv2_at c (off := k0_off3 c) (k0_off3_eq c) _)) $$ [D6 HS HO]
  · isplitr; · iexact HC
    isplitl [D6]; · iexact D6
    isplitl [HS]; · iexact HS
    iexact HO
  iintro ⟨C6, HS, HO⟩
  iapply (step_share SV CV κ c 6 7 rfl (by decide) (Fin.ext (k0_dev21_eq c)) (k0_off12_eq c) (k0_off11_eq c)
    (send2_at 7 (off := ![7]) rfl _) (recv2_at c (off := k0_off3 c) (k0_off3_eq c) _)) $$ [D7 HS HO]
  · isplitr; · iexact HC
    isplitl [D7]; · iexact D7
    isplitl [HS]; · iexact HS
    iexact HO
  iintro ⟨C7, HS, HO⟩
  iapply (ld_rows c c (off := k0_off13 c) (k0_off13_eq c)) $$ HW; iintro HW
  iapply (wp_done c)
  iapply Hcont
  isplitl [C6]; · iexact C6
  isplitl [C7]; · iexact C7
  isplitl [HS]; · iexact HS
  isplitl [HO]; · iexact HO
  iexact HW

theorem part26 {X4 : Vec F S1024x1024 .bf16} (t : FVec F S1024x1024 .f32) (w : BitVec 32) {Q : _ → sProp (MM F)} :
    iprop(Ctx SV CV κ ∗ WaitIn c 3 (rot c 7) ∗ WaitIn c 3 (rot c 6) ∗ Ow c 8 8 8 ∗ ownsTc c a4 fullShare X4)
      ⊢ iprop((Got3 CV c (rot c 7) ∗ Got3 CV c (rot c 6) ∗ Ow c 8 8 8 ∗ ownsTc c a4 fullShare X4 -∗ Q ⟨k0_pay84 t (CV (rot c 7)) (rowsOf X4 (rot c 7)) (CV (rot c 6)) (rowsOf X4 (rot c 6)), Scalar.subi (Scalar.addi (wd c) 7#32) 2#32, 8#32⟩) -∗ WP c (k0_part26 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t w) Q) := by
  rw [k0_part26_eq_skeleton]; unfold k0_part26_skel
  simp only [semSignalWord, semWaitWord, Prog.lift, Prog.bind_op, Prog.bind_ret, Prog.pure_eq_ret, Prog.bind_assoc, wp_deviceId]
  unfold Got3
  iintro ⟨#HC, W0, W1, HO, HW⟩ Hcont
  iapply (step_recv2 SV CV κ c (rot c 7) (rot_ne c (by decide) (by decide)) (recv2_at (rot c 7) (off := k0_off7 c 0#32) (off7_at c 0) _)) $$ [W0 HO]
  · isplitr; · iexact HC
    isplitl [W0]; · iexact W0
    iexact HO
  iintro ⟨HO, A0, R0⟩
  iapply (ld_slot24 c (rot c 7) (off := k0_off15 c 0#32) (off15_at c 0)) $$ R0; iintro R0
  iapply (ld_rows c (rot c 7) (off := k0_off16 c 0#32) (off16_at c 0)) $$ HW; iintro HW
  iapply (step_recv2 SV CV κ c (rot c 6) (rot_ne c (by decide) (by decide)) (recv2_at (rot c 6) (off := k0_off7 c 1#32) (off7_at c 1) _)) $$ [W1 HO]
  · isplitr; · iexact HC
    isplitl [W1]; · iexact W1
    iexact HO
  iintro ⟨HO, A1, R1⟩
  iapply (ld_slot24 c (rot c 6) (off := k0_off15 c 1#32) (off15_at c 1)) $$ R1; iintro R1
  iapply (ld_rows c (rot c 6) (off := k0_off16 c 1#32) (off16_at c 1)) $$ HW; iintro HW
  iapply (wp_done c)
  iapply Hcont
  isplitl [A0 R0]
  · isplitl [A0]; · iexact A0
    iexact R0
  isplitl [A1 R1]
  · isplitl [A1]; · iexact A1
    iexact R1
  isplitl [HO]; · iexact HO
  iexact HW

theorem part27 {X4 : Vec F S1024x1024 .bf16} (t : FVec F S1024x1024 .f32) (w w' : BitVec 32) {Q : _ → sProp (MM F)} :
    iprop(Ctx SV CV κ ∗ WaitIn c 3 (rot c 5) ∗ WaitIn c 3 (rot c 4) ∗ Ow c 8 8 8 ∗ ownsTc c a4 fullShare X4)
      ⊢ iprop((Got3 CV c (rot c 5) ∗ Got3 CV c (rot c 4) ∗ Ow c 8 8 8 ∗ ownsTc c a4 fullShare X4 -∗ Q ⟨k0_pay85 t (CV (rot c 5)) (rowsOf X4 (rot c 5)), k0_pay86 (CV (rot c 4)), Scalar.muli (Scalar.remsi (Scalar.subi (Scalar.addi (wd c) 7#32) 3#32) 8#32) 128#32⟩) -∗ WP c (k0_part27 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t w w') Q) := by
  rw [k0_part27_eq_skeleton]; unfold k0_part27_skel
  simp only [semSignalWord, semWaitWord, Prog.lift, Prog.bind_op, Prog.bind_ret, Prog.pure_eq_ret, Prog.bind_assoc, wp_deviceId]
  unfold Got3
  iintro ⟨#HC, W2, W3, HO, HW⟩ Hcont
  iapply (step_recv2 SV CV κ c (rot c 5) (rot_ne c (by decide) (by decide)) (recv2_at (rot c 5) (off := k0_off7 c 2#32) (off7_at c 2) _)) $$ [W2 HO]
  · isplitr; · iexact HC
    isplitl [W2]; · iexact W2
    iexact HO
  iintro ⟨HO, A2, R2⟩
  iapply (ld_slot24 c (rot c 5) (off := k0_off15 c 2#32) (off15_at c 2)) $$ R2; iintro R2
  iapply (ld_rows c (rot c 5) (off := k0_off16 c 2#32) (off16_at c 2)) $$ HW; iintro HW
  iapply (step_recv2 SV CV κ c (rot c 4) (rot_ne c (by decide) (by decide)) (recv2_at (rot c 4) (off := k0_off7 c 3#32) (off7_at c 3) _)) $$ [W3 HO]
  · isplitr; · iexact HC
    isplitl [W3]; · iexact W3
    iexact HO
  iintro ⟨HO, A3, R3⟩
  iapply (ld_slot24 c (rot c 4) (off := k0_off15 c 3#32) (off15_at c 3)) $$ R3; iintro R3
  iapply (wp_done c)
  iapply Hcont
  isplitl [A2 R2]
  · isplitl [A2]; · iexact A2
    iexact R2
  isplitl [A3 R3]
  · isplitl [A3]; · iexact A3
    iexact R3
  isplitl [HO]; · iexact HO
  iexact HW

theorem part28 {X4 : Vec F S1024x1024 .bf16} (t : FVec F S1024x1024 .f32) (y : FVec F S1024x128 .bf16) (w : BitVec 32) {Q : _ → sProp (MM F)} :
    iprop(Ctx SV CV κ ∗ WaitIn c 3 (rot c 3) ∗ Ow c 8 8 8 ∗ ownsTc c a4 fullShare X4)
      ⊢ iprop((Got3 CV c (rot c 3) ∗ Ow c 8 8 8 ∗ ownsTc c a4 fullShare X4 -∗ Q ⟨k0_pay87 t y (rowsOf X4 (rot c 4)) (CV (rot c 3)) (rowsOf X4 (rot c 3)), Scalar.remsi (Scalar.subi (Scalar.addi (wd c) 7#32) 5#32) 8#32⟩) -∗ WP c (k0_part28 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t y w) Q) := by
  rw [k0_part28_eq_skeleton]; unfold k0_part28_skel
  simp only [semSignalWord, semWaitWord, Prog.lift, Prog.bind_op, Prog.bind_ret, Prog.pure_eq_ret, Prog.bind_assoc, wp_deviceId]
  unfold Got3
  iintro ⟨#HC, W4, HO, HW⟩ Hcont
  iapply (ld_rows c (rot c 4) (off := k0_off16 c 3#32) (off16_at c 3)) $$ HW; iintro HW
  iapply (step_recv2 SV CV κ c (rot c 3) (rot_ne c (by decide) (by decide)) (recv2_at (rot c 3) (off := k0_off7 c 4#32) (off7_at c 4) _)) $$ [W4 HO]
  · isplitr; · iexact HC
    isplitl [W4]; · iexact W4
    iexact HO
  iintro ⟨HO, A4, R4⟩
  iapply (ld_slot24 c (rot c 3) (off := k0_off15 c 4#32) (off15_at c 4)) $$ R4; iintro R4
  iapply (ld_rows c (rot c 3) (off := k0_off16 c 4#32) (off16_at c 4)) $$ HW; iintro HW
  iapply (wp_done c)
  iapply Hcont
  isplitl [A4 R4]
  · isplitl [A4]; · iexact A4
    iexact R4
  isplitl [HO]; · iexact HO
  iexact HW

theorem part29 {X4 : Vec F S1024x1024 .bf16} (t : FVec F S1024x1024 .f32) (w : BitVec 32) (X5 : Vec F S1x1024x1024 .f32) {Q : _ → sProp (MM F)} :
    iprop(Ctx SV CV κ ∗ WaitIn c 3 (rot c 2) ∗ WaitIn c 3 (rot c 1) ∗ Ow c 8 8 8 ∗ ownsTc c a4 fullShare X4 ∗ ownsTc c a5 fullShare X5)
      ⊢ iprop((Got3 CV c (rot c 2) ∗ Got3 CV c (rot c 1) ∗ Ow c 8 8 8 ∗ ownsTc c a4 fullShare X4 ∗ ownsTc c a5 fullShare X5 -∗ Q (k0_pay88 t (CV (rot c 2)) (rowsOf X4 (rot c 2)) (CV (rot c 1)) (rowsOf X4 (rot c 1)))) -∗ WP c (k0_part29 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t w) Q) := by
  rw [k0_part29_eq_skeleton]; unfold k0_part29_skel
  simp only [semSignalWord, semWaitWord, Prog.lift, Prog.bind_op, Prog.bind_ret, Prog.pure_eq_ret, Prog.bind_assoc, wp_deviceId]
  unfold Got3
  iintro ⟨#HC, W5, W6, HO, HW, H5⟩ Hcont
  iapply (step_recv2 SV CV κ c (rot c 2) (rot_ne c (by decide) (by decide)) (recv2_at (rot c 2) (off := k0_off7 c 5#32) (off7_at c 5) _)) $$ [W5 HO]
  · isplitr; · iexact HC
    isplitl [W5]; · iexact W5
    iexact HO
  iintro ⟨HO, A5, R5⟩
  iapply (ld_slot24 c (rot c 2) (off := k0_off15 c 5#32) (off15_at c 5)) $$ R5; iintro R5
  iapply (ld_rows c (rot c 2) (off := k0_off16 c 5#32) (off16_at c 5)) $$ HW; iintro HW
  iapply (step_recv2 SV CV κ c (rot c 1) (rot_ne c (by decide) (by decide)) (recv2_at (rot c 1) (off := k0_off7 c 6#32) (off7_at c 6) _)) $$ [W6 HO]
  · isplitr; · iexact HC
    isplitl [W6]; · iexact W6
    iexact HO
  iintro ⟨HO, A6, R6⟩
  iapply (ld_slot24 c (rot c 1) (off := k0_off15 c 6#32) (off15_at c 6)) $$ R6; iintro R6
  iapply (ld_rows c (rot c 1) (off := k0_off16 c 6#32) (off16_at c 6)) $$ HW; iintro HW
  iapply (ld_out c) $$ H5; iintro H5
  iapply (wp_done c)
  iapply Hcont
  isplitl [A5 R5]
  · isplitl [A5]; · iexact A5
    iexact R5
  isplitl [A6 R6]
  · isplitl [A6]; · iexact A6
    iexact R6
  isplitl [HO]; · iexact HO
  isplitl [HW]; · iexact HW
  iexact H5

/-- What waiting for the credit of a send leaves. -/
def Back (k : Fin 4) (i : Dev nD) : sProp (MM F) := iprop(atPos ER (dmaC c k i) 1 ∅ 0 ∗ dmaPay SV CV c k i)

theorem part30 (t : FVec F S1024x1024 .f32) (X5 : Vec F S1x1024x1024 .f32) {Q : _ → sProp (MM F)} :
    iprop(Ctx SV CV κ ∗ WaitIn c 0 0 ∗ WaitIn c 0 1 ∗ WaitIn c 0 2 ∗ Ow c 8 8 8 ∗ ownsTc c a5 fullShare X5)
      ⊢ iprop((Back SV CV c 0 0 ∗ Back SV CV c 0 1 ∗ Back SV CV c 0 2 ∗ Ow c 8 8 8 ∗ ownsTc c a5 fullShare (k0_pay89 t) -∗ Q 1#32) -∗ WP c (k0_part30 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) t) Q) := by
  rw [k0_part30_eq_skeleton]; unfold k0_part30_skel
  simp only [semSignalWord, semWaitWord, Prog.lift, Prog.bind_op, Prog.bind_ret, Prog.pure_eq_ret, Prog.bind_assoc, wp_deviceId]
  unfold Back
  iintro ⟨#HC, W00, W01, W02, HO, H5⟩ Hcont
  iapply (st_out c) $$ H5; iintro H5
  iapply (step_sent1 SV CV κ c 0 (by decide) (send1_at 0 (off := ![0]) rfl _)) $$ [W00 HO]
  · isplitr; · iexact HC
    isplitl [W00]; · iexact W00
    iexact HO
  iintro ⟨HO, A00, R00⟩
  iapply (step_sent1 SV CV κ c 1 (by decide) (send1_at 1 (off := ![1]) rfl _)) $$ [W01 HO]
  · isplitr; · iexact HC
    isplitl [W01]; · iexact W01
    iexact HO
  iintro ⟨HO, A01, R01⟩
  iapply (step_sent1 SV CV κ c 2 (by decide) (send1_at 2 (off := ![2]) rfl _)) $$ [W02 HO]
  · isplitr; · iexact HC
    isplitl [W02]; · iexact W02
    iexact HO
  iintro ⟨HO, A02, R02⟩
  iapply (wp_done c)
  iapply Hcont
  isplitl [A00 R00]
  · isplitl [A00]; · iexact A00
    iexact R00
  isplitl [A01 R01]
  · isplitl [A01]; · iexact A01
    iexact R01
  isplitl [A02 R02]
  · isplitl [A02]; · iexact A02
    iexact R02
  isplitl [HO]; · iexact HO
  iexact H5

theorem part31 (w : BitVec 32) {Q : _ → sProp (MM F)} :
    iprop(Ctx SV CV κ ∗ WaitIn c 0 3 ∗ WaitIn c 0 4 ∗ WaitIn c 0 5 ∗ Ow c 8 8 8)
      ⊢ iprop((Back SV CV c 0 3 ∗ Back SV CV c 0 4 ∗ Back SV CV c 0 5 ∗ Ow c 8 8 8 -∗ Q (Scalar.addi (Scalar.addi (wd c) 1#32) 6#32)) -∗ WP c (k0_part31 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) w) Q) := by
  rw [k0_part31_eq_skeleton]; unfold k0_part31_skel
  simp only [semSignalWord, semWaitWord, Prog.lift, Prog.bind_op, Prog.bind_ret, Prog.pure_eq_ret, Prog.bind_assoc, wp_deviceId]
  unfold Back
  iintro ⟨#HC, W03, W04, W05, HO⟩ Hcont
  iapply (step_sent1 SV CV κ c 3 (by decide) (send1_at 3 (off := ![3]) rfl _)) $$ [W03 HO]
  · isplitr; · iexact HC
    isplitl [W03]; · iexact W03
    iexact HO
  iintro ⟨HO, A03, R03⟩
  iapply (step_sent1 SV CV κ c 4 (by decide) (send1_at 4 (off := ![4]) rfl _)) $$ [W04 HO]
  · isplitr; · iexact HC
    isplitl [W04]; · iexact W04
    iexact HO
  iintro ⟨HO, A04, R04⟩
  iapply (step_sent1 SV CV κ c 5 (by decide) (send1_at 5 (off := ![5]) rfl _)) $$ [W05 HO]
  · isplitr; · iexact HC
    isplitl [W05]; · iexact W05
    iexact HO
  iintro ⟨HO, A05, R05⟩
  iapply (wp_done c)
  iapply Hcont
  isplitl [A03 R03]
  · isplitl [A03]; · iexact A03
    iexact R03
  isplitl [A04 R04]
  · isplitl [A04]; · iexact A04
    iexact R04
  isplitl [A05 R05]
  · isplitl [A05]; · iexact A05
    iexact R05
  iexact HO

theorem part32 (w : BitVec 32) {Q : _ → sProp (MM F)} :
    iprop(Ctx SV CV κ ∗ WaitIn c 0 6 ∗ WaitIn c 2 1 ∗ WaitIn c 2 2 ∗ Ow c 8 8 8)
      ⊢ iprop((Back SV CV c 0 6 ∗ Back SV CV c 2 1 ∗ Back SV CV c 2 2 ∗ Ow c 8 8 8 -∗ Q ⟨⟩) -∗ WP c (k0_part32 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c) w) Q) := by
  rw [k0_part32_eq_skeleton]; unfold k0_part32_skel
  simp only [semSignalWord, semWaitWord, Prog.lift, Prog.bind_op, Prog.bind_ret, Prog.pure_eq_ret, Prog.bind_assoc, wp_deviceId]
  unfold Back
  iintro ⟨#HC, W06, W21, W22, HO⟩ Hcont
  iapply (step_sent1 SV CV κ c 6 (by decide) (send1_at 6 (off := ![6]) rfl _)) $$ [W06 HO]
  · isplitr; · iexact HC
    isplitl [W06]; · iexact W06
    iexact HO
  iintro ⟨HO, A06, R06⟩
  iapply (step_sent2 SV CV κ c 1 (by decide) (send2_at 1 (off := ![1]) rfl _)) $$ [W21 HO]
  · isplitr; · iexact HC
    isplitl [W21]; · iexact W21
    iexact HO
  iintro ⟨HO, A21, R21⟩
  iapply (step_sent2 SV CV κ c 2 (by decide) (send2_at 2 (off := ![2]) rfl _)) $$ [W22 HO]
  · isplitr; · iexact HC
    isplitl [W22]; · iexact W22
    iexact HO
  iintro ⟨HO, A22, R22⟩
  iapply (wp_done c)
  iapply Hcont
  isplitl [A06 R06]
  · isplitl [A06]; · iexact A06
    iexact R06
  isplitl [A21 R21]
  · isplitl [A21]; · iexact A21
    iexact R21
  isplitl [A22 R22]
  · isplitl [A22]; · iexact A22
    iexact R22
  iexact HO

theorem part33 {Q : _ → sProp (MM F)} :
    iprop(Ctx SV CV κ ∗ WaitIn c 2 3 ∗ WaitIn c 2 4 ∗ WaitIn c 2 5 ∗ WaitIn c 2 6 ∗ Ow c 8 8 8)
      ⊢ iprop((Back SV CV c 2 3 ∗ Back SV CV c 2 4 ∗ Back SV CV c 2 5 ∗ Back SV CV c 2 6 ∗ Ow c 8 8 8 -∗ Q ⟨Scalar.addi (wd c) 7#32, 8#32⟩) -∗ WP c (k0_part33 (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9 c (wd c)) Q) := by
  rw [k0_part33_eq_skeleton]; unfold k0_part33_skel
  simp only [semSignalWord, semWaitWord, Prog.lift, Prog.bind_op, Prog.bind_ret, Prog.pure_eq_ret, Prog.bind_assoc, wp_deviceId]
  unfold Back
  iintro ⟨#HC, W23, W24, W25, W26, HO⟩ Hcont
  iapply (step_sent2 SV CV κ c 3 (by decide) (send2_at 3 (off := ![3]) rfl _)) $$ [W23 HO]
  · isplitr; · iexact HC
    isplitl [W23]; · iexact W23
    iexact HO
  iintro ⟨HO, A23, R23⟩
  iapply (step_sent2 SV CV κ c 4 (by decide) (send2_at 4 (off := ![4]) rfl _)) $$ [W24 HO]
  · isplitr; · iexact HC
    isplitl [W24]; · iexact W24
    iexact HO
  iintro ⟨HO, A24, R24⟩
  iapply (step_sent2 SV CV κ c 5 (by decide) (send2_at 5 (off := ![5]) rfl _)) $$ [W25 HO]
  · isplitr; · iexact HC
    isplitl [W25]; · iexact W25
    iexact HO
  iintro ⟨HO, A25, R25⟩
  iapply (step_sent2 SV CV κ c 6 (by decide) (send2_at 6 (off := ![6]) rfl _)) $$ [W26 HO]
  · isplitr; · iexact HC
    isplitl [W26]; · iexact W26
    iexact HO
  iintro ⟨HO, A26, R26⟩
  iapply (wp_done c)
  iapply Hcont
  isplitl [A23 R23]
  · isplitl [A23]; · iexact A23
    iexact R23
  isplitl [A24 R24]
  · isplitl [A24]; · iexact A24
    iexact R24
  isplitl [A25 R25]
  · isplitl [A25]; · iexact A25
    iexact R25
  isplitl [A26 R26]
  · isplitl [A26]; · iexact A26
    iexact R26
  iexact HO

end Cert.Proto

end
-- ==== Proof.Peers.lean ====
/-
  What a device holds for each of its peers.
-/
module

public import proofs.«01_k».proof.Proof.PartA
public import proofs.«01_k».proof.Proof.PartB
public import proofs.«01_k».proof.Proof.PartC

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a device holds before and after, peer by peer -/

variable (SV : Dev nD → Dev nD → Vec F S1x1032x128 .bf16) (CV : Dev nD → Vec F S1x1024x128 .bf16) (κ : GSem nD τ sig → ℕ) (c : Dev nD)

/-- For the exchange of heads with the peer `j` places on, and with the peer that `j` names as a sender; -/
def In1 (j : ℕ) (i : Dev nD) : sProp (MM F) :=
  iprop(dutyTok ER (dmaC c 0 i) 0 0 ∗ reached ER (dmaC c 0 i) 0 ∗ dutyTok ER (dmaC (rot c j) 1 c) 0 0 ∗ atPos ER (dmaC c 0 i) 0 ∅ 0 ∗ Stg c (rot c j)
    ∗ WaitIn c 1 (rot c j))
/-- and of contexts. -/
def In2 (j : ℕ) (i : Dev nD) : sProp (MM F) :=
  iprop(dutyTok ER (dmaC c 2 i) 0 0 ∗ reached ER (dmaC c 2 i) 0 ∗ dutyTok ER (dmaC (rot c j) 3 c) 0 0 ∗ atPos ER (dmaC c 2 i) 0 ∅ 0
    ∗ WaitIn c 3 (rot c j))
def Fin1 (j : ℕ) (i : Dev nD) : sProp (MM F) :=
  iprop(atPos ER (dmaC c 0 i) 1 ∅ 0 ∗ atPos ER (dmaC c 1 (rot c j)) 1 ∅ 0 ∗ Stg c (rot c j) ∗ ∃ Y, ownsTc c (slot32 comM (rot c j)) fullShare Y)
def Fin2 (j : ℕ) (i : Dev nD) : sProp (MM F) :=
  iprop(atPos ER (dmaC c 2 i) 1 ∅ 0 ∗ atPos ER (dmaC c 3 (rot c j)) 1 ∅ 0 ∗ ∃ Y, ownsTc c (slot24 ctxM (rot c j)) fullShare Y)

/-- Once the peer has signalled, both transfers to it are ready to start. -/
theorem ready (j : ℕ) (i i' : Dev nD) :
    iprop(barPay (F := F) c (rot c j) ∗ In1 c j i ∗ In2 c j i')
      ⊢ iprop(Out1 (F := F) c j i ∗ Stg c (rot c j) ∗ atPos ER (dmaC c 0 i) 0 ∅ 0 ∗ WaitIn c 1 (rot c j)
        ∗ Out2 c j i' ∗ atPos ER (dmaC c 2 i') 0 ∅ 0 ∗ WaitIn c 3 (rot c j)) := by
  unfold barPay In1 In2 Out1 Out2 SendIn
  iintro ⟨⟨HX, HY, Hr1, Hr3⟩, ⟨T0, R0, T1, A0, HS, W1⟩, T2, R2, T3, A2, W3⟩
  isplitl [HX Hr1 T0 R0 T1]
  · isplitl [Hr1 T0 R0 T1]
    · isplitl [T0]; · iexact T0
      isplitl [R0]; · iexact R0
      isplitl [T1]; · iexact T1
      iexact Hr1
    iexact HX
  isplitl [HS]; · iexact HS
  isplitl [A0]; · iexact A0
  isplitl [W1]; · iexact W1
  isplitl [HY Hr3 T2 R2 T3]
  · isplitl [Hr3 T2 R2 T3]
    · isplitl [T2]; · iexact T2
      isplitl [R2]; · iexact R2
      isplitl [T3]; · iexact T3
      iexact Hr3
    iexact HY
  isplitl [A2]; · iexact A2
  iexact W3

theorem wait_in1 (i : Dev nD) : iprop(cred (tallyAt (dmaC c 0 i) () N1) ∗ atPos ER (dmaC c 0 i) 0 ∅ 0) ⊢ (WaitIn c 0 i : sProp (MM F)) := .rfl
theorem wait_in2 (i : Dev nD) : iprop(cred (tallyAt (dmaC c 2 i) () N2) ∗ atPos ER (dmaC c 2 i) 0 ∅ 0) ⊢ (WaitIn c 2 i : sProp (MM F)) := .rfl

theorem done1 (j : ℕ) (i : Dev nD) (hi : i.val + 1 = j) : iprop(Back SV CV c 0 i ∗ Got1 SV c (rot c j)) ⊢ (Fin1 c j i : sProp (MM F)) := by
  subst hi
  unfold Fin1 Got1 Back Stg
  iintro ⟨⟨A0, HS⟩, A1, HR⟩
  isplitl [A0]; · iexact A0
  isplitl [A1]; · iexact A1
  isplitl [HS]
  · iapply (show dmaPay SV CV c 0 i ⊢ iprop(∃ X, ownsTc c (slot32 stgM (rot c (i.val + 1))) fullShare X) from .rfl); iexact HS
  iexists _; iexact HR

theorem done2 (j : ℕ) (i : Dev nD) : iprop(atPos ER (dmaC c 2 i) 1 ∅ 0 ∗ Got3 CV c (rot c j)) ⊢ (Fin2 c j i : sProp (MM F)) := by
  unfold Fin2 Got3
  iintro ⟨A2, A3, HR⟩
  isplitl [A2]; · iexact A2
  isplitl [A3]; · iexact A3
  iexists _; iexact HR

/-- The rows of the device's own staging slot below its context. -/
def StgRest : sProp (MM F) := iprop(∃ f, stgM.view.loc (c : Thread nD τ) ↦[(slot32 stgM c).view.set \ (slotCtx stgM c).view.set]{fullShare} f)

theorem ctx_sub : (slotCtx stgM c).view.set ⊆ (slot32 stgM c).view.set := by
  show (stgM.view.slice (Rect.unit (s := S8x1032x128) ![c.val, 0, 0] S1x1024x128.size (fitCtx c))).set
    ⊆ (stgM.view.slice (Rect.unit (s := S8x1032x128) ![c.val, 0, 0] S1x1032x128.size (fit32 c))).set
  rw [View.set_slice, View.set_slice]
  refine Finset.map_subset_map.mpr fun x hx => ?_
  rw [Rect.mem_set_unit] at hx ⊢
  intro a
  refine ⟨(hx a).1, lt_of_lt_of_le (hx a).2 ?_⟩
  fin_cases a <;> simp

theorem stg_split : (Stg c c : sProp (MM F)) ⊢ iprop((∃ Y, ownsTc c (slotCtx stgM c) fullShare Y) ∗ StgRest c) := by
  unfold Stg StgRest ownsTc owns
  iintro ⟨%Y, %f, %hf, H⟩
  ihave H := (pointsTo_split_subset (ctx_sub c)).1 $$ H
  icases H with ⟨H, Hr⟩
  isplitl [H]
  · iexists _; iexists f; isplitr; · ipureintro; rfl
    iexact H
  iexists f; iexact Hr

theorem stg_join : iprop((∃ Y, ownsTc c (slotCtx stgM c) fullShare Y) ∗ StgRest c) ⊢ (Stg c c : sProp (MM F)) := by
  unfold Stg StgRest ownsTc owns
  iintro ⟨⟨%Y, %f, %hf, H⟩, ⟨%g, Hr⟩⟩
  iexists _; iexists _
  isplitr
  swap
  · iapply (pointsTo_join_subset (ctx_sub c) (g := f) (f := g))
    isplitl [H]; · iexact H
    iexact Hr
  ipureintro; rfl

/-- A family over the other devices, in the order in which a device serves them. -/
theorem others (Φ : Dev nD → sProp (MM F)) :
    bigSep (Finset.univ.erase c) Φ = iprop(Φ (rot c 1) ∗ Φ (rot c 2) ∗ Φ (rot c 3) ∗ Φ (rot c 4) ∗ Φ (rot c 5) ∗ Φ (rot c 6) ∗ Φ (rot c 7)) := by
  rw [show (Finset.univ.erase c : Finset (Dev nD)) = insert (rot c 1) (insert (rot c 2) (insert (rot c 3) (insert (rot c 4) (insert (rot c 5) (insert (rot c 6) {rot c 7})))))
    from by revert c; decide]
  have ne (a b : ℕ) (ha : a < 8) (hb : b < 8) (h : a ≠ b) : rot c a ≠ rot c b := fun e => h (rot_inj c ha hb e)
  rw [bigSep_insert (by simp [ne]), bigSep_insert (by simp [ne]), bigSep_insert (by simp [ne]), bigSep_insert (by simp [ne]), bigSep_insert (by simp [ne]),
    bigSep_insert (by simp [ne]), bigSep_singleton]
  rfl

end Cert.Proto

end
-- ==== Proof.Body.lean ====
/-
  The body of the kernel, on one device.
-/
module

public import proofs.«01_k».proof.Proof.Peers

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A run in two parts. -/
theorem seq_run (c : Dev nD) {α β : Type} (p : PR F α) (k : α → PR F β) (Q : β → sProp (MM F)) :
    WP c (p >>= k) Q = WP c p fun a => WP c (k a) Q := wp_bind _ _ _ p k Q

/-- The context of device `c`'s own head as a matrix, as it enters the first product of the output. -/
def ctxT (c : Dev nD) (X0 X1 X2 X3 : Vec F S1024x1024 .bf16) (y : Dev nD → Vec F S1x1032x128 .bf16) : FVec F S1024x128 .bf16 :=
  k0_pay81 (k0_pay36 (F := F))
    (k0_pay80 (k0_pay79 (ownO (maskF c) (qF (k0_pay1 (allOf X0) (allOf X1)) c) (kF X2 c) (kF X3 c) (y (rot c 7))) (y (rot c 6)) (y (rot c 5)))
      (y (rot c 4)) (y (rot c 3))) (y (rot c 2)) (y (rot c 1))

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (SV : Dev nD → Dev nD → Vec F S1x1032x128 .bf16) (CV : Dev nD → Vec F S1x1024x128 .bf16) (κ : GSem nD τ sig → ℕ) (c : Dev nD)
  (X0 X1 X2 X3 X4 : Vec F S1024x1024 .bf16) (X5 : Vec F S1x1024x1024 .f32)

set_option maxHeartbeats 2000000 in
/-- One device's whole run: from its arrays, its scratch and its part of the protocol, the result, everything else as it was and every cell at its end. -/
theorem body_run (hSV₀ : ∀ h, SV c h = pieceO c X0 X1 X2 X3 h) (hCV₀ : CV c = ctxO c X0 X1 X2 X3 fun h => SV h c) {Q : _ → sProp (MM F)} :
    iprop(Ctx SV CV κ ∗ Ow c 1 1 1 ∗ cred (tallyAt (barC c) () 7) ∗ atPos ER (barC c) 0 ∅ 0 ∗ SigIn c 1 ∗ SigIn c 2 ∗ SigIn c 3 ∗ SigIn c 4 ∗ SigIn c 5 ∗ SigIn c 6 ∗ SigIn c 7 ∗ In1 c 1 0 ∗ In1 c 2 1 ∗ In1 c 3 2 ∗ In1 c 4 3 ∗ In1 c 5 4 ∗ In1 c 6 5 ∗ In1 c 7 6 ∗ In2 c 1 1 ∗ In2 c 2 2 ∗ In2 c 3 3 ∗ In2 c 4 4 ∗ In2 c 5 5 ∗ In2 c 6 6 ∗ In2 c 7 7 ∗ Stg c c ∗ (∃ Y, fam c qM Y) ∗ (∃ Y, fam c kM Y) ∗ (∃ Y, fam c vM Y) ∗ ownsTc c a0 fullShare X0 ∗ ownsTc c a1 fullShare X1 ∗ ownsTc c a2 fullShare X2 ∗ ownsTc c a3 fullShare X3 ∗ ownsTc c a4 fullShare X4 ∗ ownsTc c a5 fullShare X5)
      ⊢ iprop((Ow c 8 8 8 ∗ atPos ER (barC c) 1 ∅ 0 ∗ Fin1 c 1 0 ∗ Fin1 c 2 1 ∗ Fin1 c 3 2 ∗ Fin1 c 4 3 ∗ Fin1 c 5 4 ∗ Fin1 c 6 5 ∗ Fin1 c 7 6 ∗ Fin2 c 1 1 ∗ Fin2 c 2 2 ∗ Fin2 c 3 3 ∗ Fin2 c 4 4 ∗ Fin2 c 5 5 ∗ Fin2 c 6 6 ∗ Fin2 c 7 7 ∗ Stg c c ∗ (∃ Y, fam c qM Y) ∗ (∃ Y, fam c kM Y) ∗ (∃ Y, fam c vM Y) ∗ ownsTc c a0 fullShare X0 ∗ ownsTc c a1 fullShare X1 ∗ ownsTc c a2 fullShare X2 ∗ ownsTc c a3 fullShare X3 ∗ ownsTc c a4 fullShare X4 ∗ ownsTc c a5 fullShare (outO c X4 (ctxT c X0 X1 X2 X3 fun h => SV h c) CV) -∗ Q ⟨⟩) -∗ WP c (cc0__body (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9) Q) := by
  have hSV : ∀ h, SV c h = headO (maskF c) ((qF (k0_pay1 (allOf X0) (allOf X1))) h) ((kF X2) h) ((kF X3) h) := hSV₀
  have hCV : (k0_pay82 k0_pay36 (k0_pay80 (k0_pay79 (k0_pay78 k0_pay35 (k0_pay72 (maskF c) ((qF (k0_pay1 (allOf X0) (allOf X1))) c) ((kF X2) c)) (k0_pay73 (maskF c) ((qF (k0_pay1 (allOf X0) (allOf X1))) c) ((kF X2) c) ((kF X3) c)) (k0_pay74 (maskF c) k0_pay35 ((qF (k0_pay1 (allOf X0) (allOf X1))) c) ((kF X2) c)) (k0_pay75 (maskF c) k0_pay35 ((qF (k0_pay1 (allOf X0) (allOf X1))) c) ((kF X2) c)) (k0_pay76 (maskF c) k0_pay35 ((qF (k0_pay1 (allOf X0) (allOf X1))) c) ((kF X2) c)) (k0_pay77 (maskF c) k0_pay35 ((qF (k0_pay1 (allOf X0) (allOf X1))) c) ((kF X2) c)) (SV (rot c 7) c)) (SV (rot c 6) c) (SV (rot c 5) c)) (SV (rot c 4) c) (SV (rot c 3) c)) (SV (rot c 2) c) (SV (rot c 1) c)) = CV c := hCV₀.symm
  iintro ⟨#HC, HO, Hcr, Hat, S1, S2, S3, S4, S5, S6, S7, I1, I2, I3, I4, I5, I6, I7, J1, J2, J3, J4, J5, J6, J7, Hst, ⟨%Yq, Hq⟩, ⟨%Yk, Hk⟩, ⟨%Yv, Hv⟩, H0, H1, H2, H3, H4, H5⟩ Hcont
  rw [cc0__body_eq_skeleton]; unfold cc0__body_skel
  ihave Hq := (Entails.of_eq (congrArg (fam c qM) (mix_zero (qF (k0_pay1 (allOf X0) (allOf X1))) Yq).symm)) $$ Hq
  ihave Hk := (Entails.of_eq (congrArg (fam c kM) (mix_zero (kF X2) Yk).symm)) $$ Hk
  ihave Hv := (Entails.of_eq (congrArg (fam c vM) (mix_zero (kF X3) Yv).symm)) $$ Hv
  rw [seq_run]
  iapply (part1 a0 h0 a1 h1 a2 h2 a3 h3 a4 h4 a5 h5 SV CV κ c) $$ [S1 S2 S3 S4 S5 HO]
  · isplitr; · iexact HC
    isplitl [S1]; · iexact S1
    isplitl [S2]; · iexact S2
    isplitl [S3]; · iexact S3
    isplitl [S4]; · iexact S4
    isplitl [S5]; · iexact S5
    iexact HO
  iintro HO
  try dsimp only
  rw [seq_run]
  iapply (part2 a0 h0 a1 h1 a2 h2 a3 h3 a4 h4 a5 h5 SV CV κ c X0 X1 X2 X3 Yq Yk Yv) $$ [S6 S7 HO Hcr Hat H0 H1 H2 H3 Hq Hk Hv]
  · isplitr; · iexact HC
    isplitl [S6]; · iexact S6
    isplitl [S7]; · iexact S7
    isplitl [HO]; · iexact HO
    isplitl [Hcr]; · iexact Hcr
    isplitl [Hat]; · iexact Hat
    unfold Heads
    isplitl [H0]; · iexact H0
    isplitl [H1]; · iexact H1
    isplitl [H2]; · iexact H2
    isplitl [H3]; · iexact H3
    isplitl [Hq]; · iexact Hq
    isplitl [Hk]; · iexact Hk
    iexact Hv
  iintro ⟨HO, Hbar, Hp, HH⟩
  try dsimp only
  rw [seq_run]
  iapply (part3 a0 h0 a1 h1 a2 h2 a3 h3 a4 h4 a5 h5 c X0 X1 X2 X3 Yq Yk Yv) $$ [HH]
  · iexact HH
  iintro HH
  try dsimp only
  rw [seq_run]
  iapply (part4 a0 h0 a1 h1 a2 h2 a3 h3 a4 h4 a5 h5 c X0 X1 X2 X3 Yq Yk Yv) $$ [HH]
  · iexact HH
  iintro HH
  try dsimp only
  rw [seq_run]
  iapply (part5 a0 h0 a1 h1 a2 h2 a3 h3 a4 h4 a5 h5 c X0 X1 X2 X3 Yq Yk Yv) $$ [HH]
  · iexact HH
  iintro HH
  try dsimp only
  rw [seq_run]
  iapply (part6 a0 h0 a1 h1 a2 h2 a3 h3 a4 h4 a5 h5 c X0 X1 X2 X3 Yq Yk Yv) $$ [HH]
  · iexact HH
  iintro HH
  try dsimp only
  ihave HH := (Entails.of_eq (show Heads a0 a1 a2 a3 c X0 X1 X2 X3 Yq Yk Yv 8 8
    = iprop(ownsTc c a0 fullShare X0 ∗ ownsTc c a1 fullShare X1 ∗ ownsTc c a2 fullShare X2 ∗ ownsTc c a3 fullShare X3 ∗ fam c qM (qF (k0_pay1 (allOf X0) (allOf X1))) ∗ fam c kM (kF X2) ∗ fam c vM (kF X3))
    from by unfold Heads; rw [mix_eight, mix_eight, mix_eight])) $$ HH
  icases HH with ⟨H0, H1, H2, H3, Hq, Hk, Hv⟩
  ihave Hp := (Entails.of_eq (others c (barPay c))) $$ Hp
  icases Hp with ⟨P1, P2, P3, P4, P5, P6, P7⟩
  ihave Hr := (ready c 1 0 1) $$ [P1 I1 J1]
  · isplitl [P1]; · iexact P1
    isplitl [I1]; · iexact I1
    iexact J1
  icases Hr with ⟨O1, S1, A1, W1, U1, B1, Z1⟩
  ihave Hr := (ready c 2 1 2) $$ [P2 I2 J2]
  · isplitl [P2]; · iexact P2
    isplitl [I2]; · iexact I2
    iexact J2
  icases Hr with ⟨O2, S2, A2, W2, U2, B2, Z2⟩
  ihave Hr := (ready c 3 2 3) $$ [P3 I3 J3]
  · isplitl [P3]; · iexact P3
    isplitl [I3]; · iexact I3
    iexact J3
  icases Hr with ⟨O3, S3, A3, W3, U3, B3, Z3⟩
  ihave Hr := (ready c 4 3 4) $$ [P4 I4 J4]
  · isplitl [P4]; · iexact P4
    isplitl [I4]; · iexact I4
    iexact J4
  icases Hr with ⟨O4, S4, A4, W4, U4, B4, Z4⟩
  ihave Hr := (ready c 5 4 5) $$ [P5 I5 J5]
  · isplitl [P5]; · iexact P5
    isplitl [I5]; · iexact I5
    iexact J5
  icases Hr with ⟨O5, S5, A5, W5, U5, B5, Z5⟩
  ihave Hr := (ready c 6 5 6) $$ [P6 I6 J6]
  · isplitl [P6]; · iexact P6
    isplitl [I6]; · iexact I6
    iexact J6
  icases Hr with ⟨O6, S6, A6, W6, U6, B6, Z6⟩
  ihave Hr := (ready c 7 6 7) $$ [P7 I7 J7]
  · isplitl [P7]; · iexact P7
    isplitl [I7]; · iexact I7
    iexact J7
  icases Hr with ⟨O7, S7, A7, W7, U7, B7, Z7⟩
  rw [seq_run]
  iapply (part7 a0 h0 a1 h1 a2 h2 a3 h3 a4 h4 a5 h5 c)
  try dsimp only
  rw [seq_run]
  iapply (part8 a0 h0 a1 h1 a2 h2 a3 h3 a4 h4 a5 h5 c (qF (k0_pay1 (allOf X0) (allOf X1))) (kF X2) (kF X3)) $$ [Hq Hk Hv]
  · unfold Full
    isplitl [Hq]; · iexact Hq
    isplitl [Hk]; · iexact Hk
    iexact Hv
  iintro HF
  try dsimp only
  rw [seq_run]
  iapply (part9 a0 h0 a1 h1 a2 h2 a3 h3 a4 h4 a5 h5 SV CV κ c (maskF c) (qF (k0_pay1 (allOf X0) (allOf X1))) (kF X2) (kF X3) hSV _) $$ [HF S1 O1 HO]
  · isplitr; · iexact HC
    isplitl [HF]; · iexact HF
    isplitl [S1]; · iexact S1
    isplitl [O1]; · iexact O1
    iexact HO
  iintro ⟨HF, C1, HO⟩
  try dsimp only
  rw [seq_run]
  iapply (part10 a0 h0 a1 h1 a2 h2 a3 h3 a4 h4 a5 h5 c (maskF c) (qF (k0_pay1 (allOf X0) (allOf X1))) (kF X2) (kF X3) _) $$ [HF S2]
  · isplitl [HF]; · iexact HF
    iexact S2
  iintro ⟨HF, S2⟩
  try dsimp only
  rw [seq_run]
  iapply (part11 a0 h0 a1 h1 a2 h2 a3 h3 a4 h4 a5 h5 SV CV κ c (maskF c) (qF (k0_pay1 (allOf X0) (allOf X1))) (kF X2) (kF X3) hSV) $$ [HF S2 O2 HO]
  · isplitr; · iexact HC
    isplitl [HF]; · iexact HF
    isplitl [S2]; · iexact S2
    isplitl [O2]; · iexact O2
    iexact HO
  iintro ⟨HF, C2, HO⟩
  try dsimp only
  rw [seq_run]
  iapply (part12 a0 h0 a1 h1 a2 h2 a3 h3 a4 h4 a5 h5 SV CV κ c (maskF c) (qF (k0_pay1 (allOf X0) (allOf X1))) (kF X2) (kF X3) hSV _) $$ [HF S3 O3 HO]
  · isplitr; · iexact HC
    isplitl [HF]; · iexact HF
    isplitl [S3]; · iexact S3
    isplitl [O3]; · iexact O3
    iexact HO
  iintro ⟨HF, C3, HO⟩
  try dsimp only
  rw [seq_run]
  iapply (part13 a0 h0 a1 h1 a2 h2 a3 h3 a4 h4 a5 h5 c (maskF c) (qF (k0_pay1 (allOf X0) (allOf X1))) (kF X2) (kF X3) _) $$ [HF S4]
  · isplitl [HF]; · iexact HF
    iexact S4
  iintro ⟨HF, S4⟩
  try dsimp only
  rw [seq_run]
  iapply (part14 a0 h0 a1 h1 a2 h2 a3 h3 a4 h4 a5 h5 SV CV κ c (maskF c) (qF (k0_pay1 (allOf X0) (allOf X1))) (kF X2) (kF X3) hSV) $$ [HF S4 O4 HO]
  · isplitr; · iexact HC
    isplitl [HF]; · iexact HF
    isplitl [S4]; · iexact S4
    isplitl [O4]; · iexact O4
    iexact HO
  iintro ⟨HF, C4, HO⟩
  try dsimp only
  rw [seq_run]
  iapply (part15 a0 h0 a1 h1 a2 h2 a3 h3 a4 h4 a5 h5 SV CV κ c (maskF c) (qF (k0_pay1 (allOf X0) (allOf X1))) (kF X2) (kF X3) hSV _) $$ [HF S5 O5 HO]
  · isplitr; · iexact HC
    isplitl [HF]; · iexact HF
    isplitl [S5]; · iexact S5
    isplitl [O5]; · iexact O5
    iexact HO
  iintro ⟨HF, C5, HO⟩
  try dsimp only
  rw [seq_run]
  iapply (part16 a0 h0 a1 h1 a2 h2 a3 h3 a4 h4 a5 h5 SV CV κ c (maskF c) (qF (k0_pay1 (allOf X0) (allOf X1))) (kF X2) (kF X3) hSV _) $$ [HF S6 O6 HO]
  · isplitr; · iexact HC
    isplitl [HF]; · iexact HF
    isplitl [S6]; · iexact S6
    isplitl [O6]; · iexact O6
    iexact HO
  iintro ⟨HF, C6, HO⟩
  try dsimp only
  ihave S7 := (show (Stg c (rot c 7) : sProp (MM F)) ⊢ iprop(∃ Y, ownsTc c (slot32 stgM (rot c 7)) fullShare Y) from .rfl) $$ S7
  icases S7 with ⟨%Y7, S7⟩
  rw [seq_run]
  iapply (part17 a0 h0 a1 h1 a2 h2 a3 h3 a4 h4 a5 h5 c (maskF c) (qF (k0_pay1 (allOf X0) (allOf X1))) (kF X2) (kF X3) _ Y7) $$ [HF S7]
  · isplitl [HF]; · iexact HF
    iexact S7
  iintro ⟨HF, S7⟩
  try dsimp only
  rw [seq_run]
  iapply (part18 a0 h0 a1 h1 a2 h2 a3 h3 a4 h4 a5 h5 SV CV κ c (maskF c) (qF (k0_pay1 (allOf X0) (allOf X1))) (kF X2) (kF X3) hSV _ Y7) $$ [HF S7 O7 HO]
  · isplitr; · iexact HC
    isplitl [HF]; · iexact HF
    isplitl [S7]
    · unfold Stg; iexists Y7; iexact S7
    isplitl [O7]; · iexact O7
    iexact HO
  iintro ⟨HF, C7, HO⟩
  try dsimp only
  rw [seq_run]
  iapply (part19 a0 h0 a1 h1 a2 h2 a3 h3 a4 h4 a5 h5 SV CV κ c _ _ _ _ _ _ _) $$ [W7 HO]
  · isplitr; · iexact HC
    isplitl [W7]; · iexact W7
    iexact HO
  iintro ⟨G7, HO⟩
  try dsimp only
  rw [seq_run]
  iapply (part20 a0 h0 a1 h1 a2 h2 a3 h3 a4 h4 a5 h5 SV CV κ c _ _) $$ [W6 W5 HO]
  · isplitr; · iexact HC
    isplitl [W6]; · iexact W6
    isplitl [W5]; · iexact W5
    iexact HO
  iintro ⟨G6, G5, HO⟩
  try dsimp only
  rw [seq_run]
  iapply (part21 a0 h0 a1 h1 a2 h2 a3 h3 a4 h4 a5 h5 SV CV κ c _ _) $$ [W4 W3 HO]
  · isplitr; · iexact HC
    isplitl [W4]; · iexact W4
    isplitl [W3]; · iexact W3
    iexact HO
  iintro ⟨G4, G3, HO⟩
  try dsimp only
  ihave Hst := (stg_split c) $$ Hst
  icases Hst with ⟨⟨%Ys, HS⟩, Hrest⟩
  rw [seq_run]
  iapply (part22 a0 h0 a1 h1 a2 h2 a3 h3 a4 h4 a5 h5 SV CV κ c _ _ _ Ys) $$ [W2 W1 HO HS]
  · isplitr; · iexact HC
    isplitl [W2]; · iexact W2
    isplitl [W1]; · iexact W1
    isplitl [HO]; · iexact HO
    iexact HS
  iintro ⟨G2, G1, HO, HS⟩
  try dsimp only
  rw [seq_run]
  iapply (part23 a0 h0 a1 h1 a2 h2 a3 h3 a4 h4 a5 h5 SV CV κ c _ Ys hCV) $$ [U1 U2 HS HO]
  · isplitr; · iexact HC
    isplitl [U1]; · iexact U1
    isplitl [U2]; · iexact U2
    isplitl [HS]; · iexact HS
    iexact HO
  iintro ⟨D1, D2, HS, HO⟩
  try dsimp only
  rw [seq_run]
  iapply (part24 a0 h0 a1 h1 a2 h2 a3 h3 a4 h4 a5 h5 SV CV κ c) $$ [U3 U4 U5 HS HO]
  · isplitr; · iexact HC
    isplitl [U3]; · iexact U3
    isplitl [U4]; · iexact U4
    isplitl [U5]; · iexact U5
    isplitl [HS]; · iexact HS
    iexact HO
  iintro ⟨D3, D4, D5, HS, HO⟩
  try dsimp only
  rw [seq_run]
  iapply (part25 a0 h0 a1 h1 a2 h2 a3 h3 a4 h4 a5 h5 SV CV κ c _) $$ [U6 U7 HS HO H4]
  · isplitr; · iexact HC
    isplitl [U6]; · iexact U6
    isplitl [U7]; · iexact U7
    isplitl [HS]; · iexact HS
    isplitl [HO]; · iexact HO
    iexact H4
  iintro ⟨D6, D7, HS, HO, H4⟩
  try dsimp only
  rw [seq_run]
  iapply (part26 a0 h0 a1 h1 a2 h2 a3 h3 a4 h4 a5 h5 SV CV κ c _ _) $$ [Z7 Z6 HO H4]
  · isplitr; · iexact HC
    isplitl [Z7]; · iexact Z7
    isplitl [Z6]; · iexact Z6
    isplitl [HO]; · iexact HO
    iexact H4
  iintro ⟨E7, E6, HO, H4⟩
  try dsimp only
  rw [seq_run]
  iapply (part27 a0 h0 a1 h1 a2 h2 a3 h3 a4 h4 a5 h5 SV CV κ c _ _ _) $$ [Z5 Z4 HO H4]
  · isplitr; · iexact HC
    isplitl [Z5]; · iexact Z5
    isplitl [Z4]; · iexact Z4
    isplitl [HO]; · iexact HO
    iexact H4
  iintro ⟨E5, E4, HO, H4⟩
  try dsimp only
  rw [seq_run]
  iapply (part28 a0 h0 a1 h1 a2 h2 a3 h3 a4 h4 a5 h5 SV CV κ c _ _ _) $$ [Z3 HO H4]
  · isplitr; · iexact HC
    isplitl [Z3]; · iexact Z3
    isplitl [HO]; · iexact HO
    iexact H4
  iintro ⟨E3, HO, H4⟩
  try dsimp only
  rw [seq_run]
  iapply (part29 a0 h0 a1 h1 a2 h2 a3 h3 a4 h4 a5 h5 SV CV κ c _ _ X5) $$ [Z2 Z1 HO H4 H5]
  · isplitr; · iexact HC
    isplitl [Z2]; · iexact Z2
    isplitl [Z1]; · iexact Z1
    isplitl [HO]; · iexact HO
    isplitl [H4]; · iexact H4
    iexact H5
  iintro ⟨E2, E1, HO, H4, H5⟩
  try dsimp only
  ihave C1 := (wait_in1 c 0) $$ [C1 A1]
  · isplitl [C1]; · iexact C1
    iexact A1
  ihave D1 := (wait_in2 c 1) $$ [D1 B1]
  · isplitl [D1]; · iexact D1
    iexact B1
  ihave C2 := (wait_in1 c 1) $$ [C2 A2]
  · isplitl [C2]; · iexact C2
    iexact A2
  ihave D2 := (wait_in2 c 2) $$ [D2 B2]
  · isplitl [D2]; · iexact D2
    iexact B2
  ihave C3 := (wait_in1 c 2) $$ [C3 A3]
  · isplitl [C3]; · iexact C3
    iexact A3
  ihave D3 := (wait_in2 c 3) $$ [D3 B3]
  · isplitl [D3]; · iexact D3
    iexact B3
  ihave C4 := (wait_in1 c 3) $$ [C4 A4]
  · isplitl [C4]; · iexact C4
    iexact A4
  ihave D4 := (wait_in2 c 4) $$ [D4 B4]
  · isplitl [D4]; · iexact D4
    iexact B4
  ihave C5 := (wait_in1 c 4) $$ [C5 A5]
  · isplitl [C5]; · iexact C5
    iexact A5
  ihave D5 := (wait_in2 c 5) $$ [D5 B5]
  · isplitl [D5]; · iexact D5
    iexact B5
  ihave C6 := (wait_in1 c 5) $$ [C6 A6]
  · isplitl [C6]; · iexact C6
    iexact A6
  ihave D6 := (wait_in2 c 6) $$ [D6 B6]
  · isplitl [D6]; · iexact D6
    iexact B6
  ihave C7 := (wait_in1 c 6) $$ [C7 A7]
  · isplitl [C7]; · iexact C7
    iexact A7
  ihave D7 := (wait_in2 c 7) $$ [D7 B7]
  · isplitl [D7]; · iexact D7
    iexact B7
  rw [seq_run]
  iapply (part30 a0 h0 a1 h1 a2 h2 a3 h3 a4 h4 a5 h5 SV CV κ c _ X5) $$ [C1 C2 C3 HO H5]
  · isplitr; · iexact HC
    isplitl [C1]; · iexact C1
    isplitl [C2]; · iexact C2
    isplitl [C3]; · iexact C3
    isplitl [HO]; · iexact HO
    iexact H5
  iintro ⟨C1, C2, C3, HO, H5⟩
  try dsimp only
  rw [seq_run]
  iapply (part31 a0 h0 a1 h1 a2 h2 a3 h3 a4 h4 a5 h5 SV CV κ c _) $$ [C4 C5 C6 HO]
  · isplitr; · iexact HC
    isplitl [C4]; · iexact C4
    isplitl [C5]; · iexact C5
    isplitl [C6]; · iexact C6
    iexact HO
  iintro ⟨C4, C5, C6, HO⟩
  try dsimp only
  rw [seq_run]
  iapply (part32 a0 h0 a1 h1 a2 h2 a3 h3 a4 h4 a5 h5 SV CV κ c _) $$ [C7 D1 D2 HO]
  · isplitr; · iexact HC
    isplitl [C7]; · iexact C7
    isplitl [D1]; · iexact D1
    isplitl [D2]; · iexact D2
    iexact HO
  iintro ⟨C7, D1, D2, HO⟩
  try dsimp only
  rw [seq_run]
  iapply (part33 a0 h0 a1 h1 a2 h2 a3 h3 a4 h4 a5 h5 SV CV κ c) $$ [D3 D4 D5 D6 HO]
  · isplitr; · iexact HC
    isplitl [D3]; · iexact D3
    isplitl [D4]; · iexact D4
    isplitl [D5]; · iexact D5
    isplitl [D6]; · iexact D6
    iexact HO
  iintro ⟨D3, D4, D5, D6, HO⟩
  try dsimp only
  simp only [semSignalWord, semWaitWord, Prog.lift, Prog.bind_op, Prog.bind_ret, Prog.pure_eq_ret, Prog.bind_assoc, wp_deviceId]
  iapply (step_sent2 SV CV κ c 7 (by decide) (send2_at 7 (off := ![7]) rfl _)) $$ [D7 HO]
  · isplitr; · iexact HC
    isplitl [D7]; · iexact D7
    iexact HO
  iintro ⟨HO, A7, R7⟩
  iapply (wp_done c)
  unfold Back
  icases D1 with ⟨A1, R1⟩
  icases D2 with ⟨A2, R2⟩
  icases D3 with ⟨A3, R3⟩
  icases D4 with ⟨A4, R4⟩
  icases D5 with ⟨A5, R5⟩
  icases D6 with ⟨A6, R6⟩
  ihave HS := (rest_join SV CV c) $$ [HS R1 R2 R3 R4 R5 R6 R7]
  · isplitl [HS]; · iexact HS
    isplitl [R1]; · iexact R1
    isplitl [R2]; · iexact R2
    isplitl [R3]; · iexact R3
    isplitl [R4]; · iexact R4
    isplitl [R5]; · iexact R5
    isplitl [R6]; · iexact R6
    iexact R7
  ihave Hst := (stg_join c) $$ [HS Hrest]
  · isplitl [HS]; · iexists _; iexact HS
    iexact Hrest
  ihave HF := (show Full c (qF (k0_pay1 (allOf X0) (allOf X1))) (kF X2) (kF X3) ⊢ (iprop(fam c qM (qF (k0_pay1 (allOf X0) (allOf X1))) ∗ fam c kM (kF X2) ∗ fam c vM (kF X3)) : sProp (MM F)) from .rfl) $$ HF
  icases HF with ⟨Hq, Hk, Hv⟩
  iapply Hcont
  isplitl [HO]; · iexact HO
  isplitl [Hbar]; · iexact Hbar
  isplitl [C1 G1]
  · iapply (done1 SV CV c 1 0 rfl); unfold Back; isplitl [C1]; · iexact C1
    iexact G1
  isplitl [C2 G2]
  · iapply (done1 SV CV c 2 1 rfl); unfold Back; isplitl [C2]; · iexact C2
    iexact G2
  isplitl [C3 G3]
  · iapply (done1 SV CV c 3 2 rfl); unfold Back; isplitl [C3]; · iexact C3
    iexact G3
  isplitl [C4 G4]
  · iapply (done1 SV CV c 4 3 rfl); unfold Back; isplitl [C4]; · iexact C4
    iexact G4
  isplitl [C5 G5]
  · iapply (done1 SV CV c 5 4 rfl); unfold Back; isplitl [C5]; · iexact C5
    iexact G5
  isplitl [C6 G6]
  · iapply (done1 SV CV c 6 5 rfl); unfold Back; isplitl [C6]; · iexact C6
    iexact G6
  isplitl [C7 G7]
  · iapply (done1 SV CV c 7 6 rfl); unfold Back; isplitl [C7]; · iexact C7
    iexact G7
  isplitl [A1 E1]
  · iapply (done2 CV c 1 1); isplitl [A1]; · iexact A1
    iexact E1
  isplitl [A2 E2]
  · iapply (done2 CV c 2 2); isplitl [A2]; · iexact A2
    iexact E2
  isplitl [A3 E3]
  · iapply (done2 CV c 3 3); isplitl [A3]; · iexact A3
    iexact E3
  isplitl [A4 E4]
  · iapply (done2 CV c 4 4); isplitl [A4]; · iexact A4
    iexact E4
  isplitl [A5 E5]
  · iapply (done2 CV c 5 5); isplitl [A5]; · iexact A5
    iexact E5
  isplitl [A6 E6]
  · iapply (done2 CV c 6 6); isplitl [A6]; · iexact A6
    iexact E6
  isplitl [A7 E7]
  · iapply (done2 CV c 7 7); isplitl [A7]; · iexact A7
    iexact E7
  isplitl [Hst]; · iexact Hst
  isplitl [Hq]; · iexists _; iexact Hq
  isplitl [Hk]; · iexists _; iexact Hk
  isplitl [Hv]; · iexists _; iexact Hv
  isplitl [H0]; · iexact H0
  isplitl [H1]; · iexact H1
  isplitl [H2]; · iexact H2
  isplitl [H3]; · iexact H3
  isplitl [H4]; · iexact H4
  iapply (show (ownsTc c a5 fullShare _ : sProp (MM F)) ⊢ ownsTc c a5 fullShare (outO c X4 (ctxT c X0 X1 X2 X3 fun h => SV h c) CV) from .rfl)
  iexact H5

end Cert.Proto

end
-- ==== Proof.Entry.lean ====
/-
  The body of the kernel between what a device enters with and what it leaves with.
-/
module

public import Idealize.ShloMosaic.Lib.Ring
public import proofs.«01_k».proof.Proof.Body

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (SV : Dev nD → Dev nD → Vec F S1x1032x128 .bf16) (CV : Dev nD → Vec F S1x1024x128 .bf16) (κ : GSem nD τ sig → ℕ) (c : Dev nD)

/-- A product over the devices, written out. -/
theorem eight (Φ : Dev nD → sProp (MM F)) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = insert 0 (insert 1 (insert 2 (insert 3 (insert 4 (insert 5 (insert 6 {7})))))) from by decide]
  rw [bigSep_insert (by decide), bigSep_insert (by decide), bigSep_insert (by decide), bigSep_insert (by decide), bigSep_insert (by decide),
    bigSep_insert (by decide), bigSep_insert (by decide), bigSep_singleton]
  rfl

/-- The device itself and its peers. -/
theorem self_others (Φ : Dev nD → sProp (MM F)) : bigSep Finset.univ Φ = iprop(Φ c ∗ bigSep (Finset.univ.erase c) Φ) := bigSep_univ_at Φ c

/-- What device `c` enters with for its peer `d`: the right to signal it and to land on it, the waits for what it sends, and the slots `d` will
    land on, with the slot `d`'s head is staged in. -/
def Peer (d : Dev nD) : sProp (MM F) :=
  iprop(dutyTok ER (barC d) 0 c ∗ dutyTok ER (dmaC d 1 c) 0 0 ∗ dutyTok ER (dmaC d 3 c) 0 0 ∗ WaitIn c 1 d ∗ WaitIn c 3 d
    ∗ (∃ X, ownsTc c (slot32 comM d) fullShare X) ∗ (∃ X, ownsTc c (slot24 ctxM d) fullShare X) ∗ Stg c d)
/-- One of its sending cells. -/
def Mine (k : Fin 4) (i : Dev nD) : sProp (MM F) := iprop(dutyTok ER (dmaC c k i) 0 0 ∗ atPos ER (dmaC c k i) 0 ∅ 0)
/-- Every barrier, and every cell of its own, is at its first round or later. -/
def Opened : sProp (MM F) :=
  iprop((bigSep Finset.univ fun d : Dev nD => reached ER (barC d) 0) ∗ bigSep Finset.univ fun x : Fin 4 × Dev nD => reached ER (dmaC c x.1 x.2) 0)

theorem opened_bar (d : Dev nD) : (Opened c : sProp (MM F)) ⊢ reached ER (barC d) 0 :=
  sep_elim_left.trans (bigSep_elim (Φ := fun d : Dev nD => (reached ER (barC d) 0 : sProp (MM F))) (Finset.mem_univ d))
theorem opened_dma (k : Fin 4) (h : Dev nD) : (Opened c : sProp (MM F)) ⊢ reached ER (dmaC c k h) 0 :=
  sep_elim_right.trans (bigSep_elim (Φ := fun x : Fin 4 × Dev nD => (reached ER (dmaC c x.1 x.2) 0 : sProp (MM F))) (Finset.mem_univ (k, h)))
instance : Persistent (Opened c : sProp (MM F)) := by unfold Opened; infer_instance

theorem peer_in (j : ℕ) (i i' : Dev nD) :
    iprop(Opened c ∗ Peer c (rot c j) ∗ Mine c 0 i ∗ Mine c 2 i') ⊢ (iprop(SigIn c j ∗ In1 c j i ∗ In2 c j i') : sProp (MM F)) := by
  unfold Peer Mine SigIn In1 In2 barPay
  iintro ⟨#HR, ⟨Tb, T1, T3, W1, W3, Hx, Hy, Hs⟩, ⟨T0, A0⟩, T2, A2⟩
  isplitl [Tb Hx Hy]
  · isplitl [Tb]; · iexact Tb
    isplitr; · iapply (opened_bar c (rot c j)); iexact HR
    isplitl [Hx]; · iexact Hx
    isplitl [Hy]; · iexact Hy
    isplitr; · iapply (opened_dma c 1 (rot c j)); iexact HR
    iapply (opened_dma c 3 (rot c j)); iexact HR
  isplitl [T0 T1 A0 Hs W1]
  · isplitl [T0]; · iexact T0
    isplitr; · iapply (opened_dma c 0 i); iexact HR
    isplitl [T1]; · iexact T1
    isplitl [A0]; · iexact A0
    isplitl [Hs]; · iexact Hs
    iexact W1
  isplitl [T2]; · iexact T2
  isplitr; · iapply (opened_dma c 2 i'); iexact HR
  isplitl [T3]; · iexact T3
  isplitl [A2]; · iexact A2
  iexact W3

/-- A cell of device `c` with no round left. -/
def Ended (k : Fin 4) (i : Dev nD) : sProp (MM F) :=
  iprop(∃ R : ℕ, ⌜∀ r, R ≤ r → (Rd SV CV).duties (dmaC c k i) r = ∅⌝ ∗ atPos ER (dmaC c k i) R ∅ 0)

theorem ended_used (k : Fin 4) (i : Dev nD) : (atPos ER (dmaC c k i) 1 ∅ 0 : sProp (MM F)) ⊢ Ended SV CV c k i := by
  unfold Ended
  iintro H
  iexists 1
  isplitr; · ipureintro; exact duties_later SV CV _
  iexact H
theorem ended_unused (k : Fin 4) (i : Dev nD) (hu : ¬used c k i) : (atPos ER (dmaC c k i) 0 ∅ 0 : sProp (MM F)) ⊢ Ended SV CV c k i := by
  unfold Ended
  iintro H
  iexists 0
  isplitr; · ipureintro; exact fun r _ => duties_unused SV CV c k i hu r
  iexact H
theorem ended_mine (k : Fin 4) (i : Dev nD) (hu : ¬used c k i) : (Mine c k i : sProp (MM F)) ⊢ Ended SV CV c k i := by
  unfold Mine
  iintro ⟨-, H⟩
  iapply (ended_unused SV CV c k i hu); iexact H

/-- What device `c` leaves with for its peer `d`. -/
def PeerOut (d : Dev nD) : sProp (MM F) :=
  iprop(Ended SV CV c 1 d ∗ Ended SV CV c 3 d ∗ Stg c d ∗ (∃ X, ownsTc c (slot32 comM d) fullShare X) ∗ ∃ X, ownsTc c (slot24 ctxM d) fullShare X)

theorem peer_out (j : ℕ) (i i' : Dev nD) :
    iprop(Fin1 c j i ∗ Fin2 c j i') ⊢ (iprop(PeerOut SV CV c (rot c j) ∗ Ended SV CV c 0 i ∗ Ended SV CV c 2 i') : sProp (MM F)) := by
  unfold Fin1 Fin2 PeerOut
  iintro ⟨⟨A0, A1, Hs, Hx⟩, A2, A3, Hy⟩
  isplitl [A1 A3 Hs Hx Hy]
  · isplitl [A1]; · iapply (ended_used SV CV c 1 (rot c j)); iexact A1
    isplitl [A3]; · iapply (ended_used SV CV c 3 (rot c j)); iexact A3
    isplitl [Hs]; · iexact Hs
    isplitl [Hx]; · iexact Hx
    iexact Hy
  isplitl [A0]; · iapply (ended_used SV CV c 0 i); iexact A0
  iapply (ended_used SV CV c 2 i'); iexact A2

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (X0 X1 X2 X3 X4 : Vec F S1024x1024 .bf16) (X5 : Vec F S1x1024x1024 .f32)

/-- What a device holds of the exchange before its body runs, -/
def Before : sProp (MM F) :=
  iprop(Opened c ∗ Ow c 1 1 1 ∗ cred (tallyAt (barC c) () 7) ∗ atPos ER (barC c) 0 ∅ 0 ∗ bigSep (Finset.univ.erase c) (Peer c)
    ∗ bigSep Finset.univ (Mine c 0) ∗ bigSep Finset.univ (Mine c 2) ∗ Stg c c ∗ (∃ Y, fam c qM Y) ∗ (∃ Y, fam c kM Y) ∗ ∃ Y, fam c vM Y)
/-- and after. -/
def After : sProp (MM F) :=
  iprop(Ow c 8 8 8 ∗ atPos ER (barC c) 1 ∅ 0 ∗ bigSep (Finset.univ.erase c) (PeerOut SV CV c)
    ∗ bigSep Finset.univ (Ended SV CV c 0) ∗ bigSep Finset.univ (Ended SV CV c 2) ∗ Stg c c ∗ (∃ Y, fam c qM Y) ∗ (∃ Y, fam c kM Y) ∗ ∃ Y, fam c vM Y)

theorem body_all (hSV₀ : ∀ h, SV c h = pieceO c X0 X1 X2 X3 h) (hCV₀ : CV c = ctxO c X0 X1 X2 X3 fun h => SV h c) {Q : _ → sProp (MM F)} :
    iprop(Ctx SV CV κ ∗ Before c ∗ ownsTc c a0 fullShare X0 ∗ ownsTc c a1 fullShare X1 ∗ ownsTc c a2 fullShare X2 ∗ ownsTc c a3 fullShare X3 ∗ ownsTc c a4 fullShare X4 ∗ ownsTc c a5 fullShare X5)
      ⊢ iprop((After SV CV c ∗ ownsTc c a0 fullShare X0 ∗ ownsTc c a1 fullShare X1 ∗ ownsTc c a2 fullShare X2 ∗ ownsTc c a3 fullShare X3 ∗ ownsTc c a4 fullShare X4 ∗ ownsTc c a5 fullShare (outO c X4 (ctxT c X0 X1 X2 X3 fun h => SV h c) CV) -∗ Q ⟨⟩) -∗ WP c (cc0__body (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9) Q) := by
  unfold Before After
  rw [others c (Peer c), others c (PeerOut SV CV c), eight (Mine c 0), eight (Mine c 2), eight (Ended SV CV c 0), eight (Ended SV CV c 2)]
  iintro ⟨#HC, ⟨#HR, HO, Hcr, Hat, ⟨P1, P2, P3, P4, P5, P6, P7⟩, ⟨M0, M1, M2, M3, M4, M5, M6, M7⟩, ⟨N0, N1, N2, N3, N4, N5, N6, N7⟩, Hst, Hq, Hk, Hv⟩, H0, H1, H2, H3, H4, H5⟩ Hcont
  ihave Hr := (peer_in c 1 0 1) $$ [P1 M0 N1]
  · isplitr; · iexact HR
    isplitl [P1]; · iexact P1
    isplitl [M0]; · iexact M0
    iexact N1
  icases Hr with ⟨S1, I1, J1⟩
  ihave Hr := (peer_in c 2 1 2) $$ [P2 M1 N2]
  · isplitr; · iexact HR
    isplitl [P2]; · iexact P2
    isplitl [M1]; · iexact M1
    iexact N2
  icases Hr with ⟨S2, I2, J2⟩
  ihave Hr := (peer_in c 3 2 3) $$ [P3 M2 N3]
  · isplitr; · iexact HR
    isplitl [P3]; · iexact P3
    isplitl [M2]; · iexact M2
    iexact N3
  icases Hr with ⟨S3, I3, J3⟩
  ihave Hr := (peer_in c 4 3 4) $$ [P4 M3 N4]
  · isplitr; · iexact HR
    isplitl [P4]; · iexact P4
    isplitl [M3]; · iexact M3
    iexact N4
  icases Hr with ⟨S4, I4, J4⟩
  ihave Hr := (peer_in c 5 4 5) $$ [P5 M4 N5]
  · isplitr; · iexact HR
    isplitl [P5]; · iexact P5
    isplitl [M4]; · iexact M4
    iexact N5
  icases Hr with ⟨S5, I5, J5⟩
  ihave Hr := (peer_in c 6 5 6) $$ [P6 M5 N6]
  · isplitr; · iexact HR
    isplitl [P6]; · iexact P6
    isplitl [M5]; · iexact M5
    iexact N6
  icases Hr with ⟨S6, I6, J6⟩
  ihave Hr := (peer_in c 7 6 7) $$ [P7 M6 N7]
  · isplitr; · iexact HR
    isplitl [P7]; · iexact P7
    isplitl [M6]; · iexact M6
    iexact N7
  icases Hr with ⟨S7, I7, J7⟩
  iapply (body_run a0 h0 a1 h1 a2 h2 a3 h3 a4 h4 a5 h5 SV CV κ c X0 X1 X2 X3 X4 X5 hSV₀ hCV₀) $$ [HO Hcr Hat S1 S2 S3 S4 S5 S6 S7 I1 I2 I3 I4 I5 I6 I7 J1 J2 J3 J4 J5 J6 J7 Hst Hq Hk Hv H0 H1 H2 H3 H4 H5]
  · isplitr; · iexact HC
    isplitl [HO]; · iexact HO
    isplitl [Hcr]; · iexact Hcr
    isplitl [Hat]; · iexact Hat
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [J1]; · iexact J1
    isplitl [J2]; · iexact J2
    isplitl [J3]; · iexact J3
    isplitl [J4]; · iexact J4
    isplitl [J5]; · iexact J5
    isplitl [J6]; · iexact J6
    isplitl [J7]; · iexact J7
    isplitl [Hst]; · iexact Hst
    isplitl [Hq]; · iexact Hq
    isplitl [Hk]; · iexact Hk
    isplitl [Hv]; · iexact Hv
    isplitl [H0]; · iexact H0
    isplitl [H1]; · iexact H1
    isplitl [H2]; · iexact H2
    isplitl [H3]; · iexact H3
    isplitl [H4]; · iexact H4
    iexact H5
  iintro ⟨HO, Hat, I1, I2, I3, I4, I5, I6, I7, J1, J2, J3, J4, J5, J6, J7, Hst, Hq, Hk, Hv, H0, H1, H2, H3, H4, H5⟩
  ihave Hr := (peer_out SV CV c 1 0 1) $$ [I1 J1]
  · isplitl [I1]; · iexact I1
    iexact J1
  icases Hr with ⟨P1, E0, D1⟩
  ihave Hr := (peer_out SV CV c 2 1 2) $$ [I2 J2]
  · isplitl [I2]; · iexact I2
    iexact J2
  icases Hr with ⟨P2, E1, D2⟩
  ihave Hr := (peer_out SV CV c 3 2 3) $$ [I3 J3]
  · isplitl [I3]; · iexact I3
    iexact J3
  icases Hr with ⟨P3, E2, D3⟩
  ihave Hr := (peer_out SV CV c 4 3 4) $$ [I4 J4]
  · isplitl [I4]; · iexact I4
    iexact J4
  icases Hr with ⟨P4, E3, D4⟩
  ihave Hr := (peer_out SV CV c 5 4 5) $$ [I5 J5]
  · isplitl [I5]; · iexact I5
    iexact J5
  icases Hr with ⟨P5, E4, D5⟩
  ihave Hr := (peer_out SV CV c 6 5 6) $$ [I6 J6]
  · isplitl [I6]; · iexact I6
    iexact J6
  icases Hr with ⟨P6, E5, D6⟩
  ihave Hr := (peer_out SV CV c 7 6 7) $$ [I7 J7]
  · isplitl [I7]; · iexact I7
    iexact J7
  icases Hr with ⟨P7, E6, D7⟩
  ihave E7 := (ended_mine SV CV c 0 7 (fun h => h rfl)) $$ M7
  ihave D0 := (ended_mine SV CV c 2 0 (fun h => h rfl)) $$ N0
  iapply Hcont
  isplitr [H0 H1 H2 H3 H4 H5]
  · isplitl [HO]; · iexact HO
    isplitl [Hat]; · iexact Hat
    isplitl [P1 P2 P3 P4 P5 P6 P7]
    · isplitl [P1]; · iexact P1
      isplitl [P2]; · iexact P2
      isplitl [P3]; · iexact P3
      isplitl [P4]; · iexact P4
      isplitl [P5]; · iexact P5
      isplitl [P6]; · iexact P6
      iexact P7
    isplitl [E0 E1 E2 E3 E4 E5 E6 E7]
    · isplitl [E0]; · iexact E0
      isplitl [E1]; · iexact E1
      isplitl [E2]; · iexact E2
      isplitl [E3]; · iexact E3
      isplitl [E4]; · iexact E4
      isplitl [E5]; · iexact E5
      isplitl [E6]; · iexact E6
      iexact E7
    isplitl [D0 D1 D2 D3 D4 D5 D6 D7]
    · isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
    isplitl [Hst]; · iexact Hst
    isplitl [Hq]; · iexact Hq
    isplitl [Hk]; · iexact Hk
    iexact Hv
  isplitl [H0]; · iexact H0
  isplitl [H1]; · iexact H1
  isplitl [H2]; · iexact H2
  isplitl [H3]; · iexact H3
  isplitl [H4]; · iexact H4
  iexact H5

/-! ## The scratch buffers, cut into slots and joined again -/

theorem slots_cut (b : Ref sig .tc) (r : Dev nD → Rect b.ty.shape) (hr : ∀ h a, (r h).stride a = 1)
    (hd : ∀ h h', h ≠ h' → Disjoint (r h).set (r h').set) (hc : Finset.univ.biUnion (fun h => (r h).set) = Finset.univ) :
    (iprop(∃ f, ((c : Thread nD τ).loc b) ↦{fullShare} f) : sProp (MM F))
      ⊢ bigSep Finset.univ fun h => iprop(∃ X, ownsTc c ((Memref.whole b).slice (r h) (hr h)) fullShare X) := by
  iintro ⟨%f, H⟩
  ihave H := (Entails.of_eq (owns_whole (c : Thread nD τ) b fullShare f).symm) $$ H
  ihave H := (owns_rects (c : Thread nD τ) (Memref.whole b) fullShare r hr hd hc f) $$ H
  have e (h : Dev nD) : (owns (c : Thread nD τ) ((Memref.whole b).slice (r h) (hr h)) fullShare (fun j => f ((r h).emb j)) : sProp (MM F))
      ⊢ iprop(∃ X, ownsTc c ((Memref.whole b).slice (r h) (hr h)) fullShare X) := by iintro H; iexists _; iexact H
  iapply (show (bigSep Finset.univ fun h => owns (c : Thread nD τ) ((Memref.whole b).slice (r h) (hr h)) fullShare fun j => f ((r h).emb j) : sProp (MM F))
    ⊢ bigSep Finset.univ fun h => iprop(∃ X, ownsTc c ((Memref.whole b).slice (r h) (hr h)) fullShare X) from bigSep_mono fun h _ => e h)
  iexact H

theorem slots_join (b : Ref sig .tc) (r : Dev nD → Rect b.ty.shape) (hr : ∀ h a, (r h).stride a = 1)
    (hd : ∀ h h', h ≠ h' → Disjoint (r h).set (r h').set) (hc : Finset.univ.biUnion (fun h => (r h).set) = Finset.univ) (f₀ : Buf (Elt F) ((c : Thread nD τ).loc b)) :
    (bigSep Finset.univ fun h => iprop(∃ X, ownsTc c ((Memref.whole b).slice (r h) (hr h)) fullShare X))
      ⊢ (iprop(∃ f, ((c : Thread nD τ).loc b) ↦{fullShare} f) : sProp (MM F)) := by
  have e (h : Dev nD) : (iprop(∃ X, ownsTc c ((Memref.whole b).slice (r h) (hr h)) fullShare X) : sProp (MM F))
      ⊢ iprop(∃ f, ((c : Thread nD τ).loc b) ↦[(r h).set]{fullShare} f) := by
    unfold ownsTc owns
    simp only [Memref.view_slice, Memref.view_whole, View.set_slice_whole]
    iintro ⟨%X, %g, -, H⟩
    iexists g; iexact H
  refine BIBase.Entails.trans (Q := bigSep Finset.univ fun h => iprop(∃ f, ((c : Thread nD τ).loc b) ↦[(r h).set]{fullShare} f)) (bigSep_mono fun h _ => e h) ?_
  have hm (i : b.ty.shape.Idx) : ∃ h, i ∈ (r h).set := by
    obtain ⟨h, -, hi⟩ := Finset.mem_biUnion.mp (hc.symm ▸ Finset.mem_univ i)
    exact ⟨h, hi⟩
  exact Ring.pointsTo_blocks_join_exists (ℓ := (c : Thread nD τ).loc b) (fun h => (r h).set) hd
    (Finset.eq_univ_iff_forall.mpr fun i => by obtain ⟨h, hi⟩ := hm i; exact Finset.mem_biUnion.mpr ⟨h, Finset.mem_univ h, hi⟩) f₀

theorem off_zero (h : Dev nD) : ∀ a : Fin 3, a ≠ 0 → (![h.val, 0, 0] : Fin 3 → ℕ) a = 0 := by revert h; decide

abbrev rect32 (h : Dev nD) : Rect S8x1032x128 := Rect.unit (s := S8x1032x128) ![h.val, 0, 0] S1x1032x128.size (fit32 h)
abbrev rect24 (h : Dev nD) : Rect S8x1024x128 := Rect.unit (s := S8x1024x128) ![h.val, 0, 0] S1x1024x128.size (fit24 h)
theorem apart32 (h h' : Dev nD) (hh : h ≠ h') : Disjoint (rect32 h).set (rect32 h').set :=
  Ring.lead_disjoint (s := S8x1032x128) 0 1 (fun h : Dev nD => ![h.val, 0, 0]) S1x1032x128.size fit32 (fun h => (one_mul h.val).symm) rfl h h' hh
theorem cover32 : Finset.univ.biUnion (fun h => (rect32 h).set) = Finset.univ :=
  Ring.lead_cover (s := S8x1032x128) 0 1 (fun h : Dev nD => ![h.val, 0, 0]) S1x1032x128.size fit32 (fun h => (one_mul h.val).symm) off_zero rfl (by decide) rfl
theorem apart24 (h h' : Dev nD) (hh : h ≠ h') : Disjoint (rect24 h).set (rect24 h').set :=
  Ring.lead_disjoint (s := S8x1024x128) 0 1 (fun h : Dev nD => ![h.val, 0, 0]) S1x1024x128.size fit24 (fun h => (one_mul h.val).symm) rfl h h' hh
theorem cover24 : Finset.univ.biUnion (fun h => (rect24 h).set) = Finset.univ :=
  Ring.lead_cover (s := S8x1024x128) 0 1 (fun h : Dev nD => ![h.val, 0, 0]) S1x1024x128.size fit24 (fun h => (one_mul h.val).symm) off_zero rfl (by decide) rfl

/-- A scratch buffer held whole, at contents not chosen. -/
abbrev Some (b : Ref sig .tc) : sProp (MM F) := iprop(∃ f, ((c : Thread nD τ).loc b) ↦{fullShare} f)

theorem cut_stg : (Some c cc0_scratch3 : sProp (MM F)) ⊢ bigSep Finset.univ (Stg c) := slots_cut c cc0_scratch3 rect32 (fun _ _ => rfl) apart32 cover32
theorem cut_com : (Some c cc0_scratch4 : sProp (MM F)) ⊢ bigSep Finset.univ fun h => iprop(∃ X, ownsTc c (slot32 comM h) fullShare X) :=
  slots_cut c cc0_scratch4 rect32 (fun _ _ => rfl) apart32 cover32
theorem cut_ctx : (Some c cc0_scratch5 : sProp (MM F)) ⊢ bigSep Finset.univ fun h => iprop(∃ X, ownsTc c (slot24 ctxM h) fullShare X) :=
  slots_cut c cc0_scratch5 rect24 (fun _ _ => rfl) apart24 cover24

theorem join_stg : bigSep Finset.univ (Stg c) ⊢ (Some c cc0_scratch3 : sProp (MM F)) := slots_join c cc0_scratch3 rect32 (fun _ _ => rfl) apart32 cover32 (fun _ => (FloatOps.ofBits .bf16 0 : F .bf16))
theorem join_com : (bigSep Finset.univ fun h => iprop(∃ X, ownsTc c (slot32 comM h) fullShare X)) ⊢ (Some c cc0_scratch4 : sProp (MM F)) :=
  slots_join c cc0_scratch4 rect32 (fun _ _ => rfl) apart32 cover32 (fun _ => (FloatOps.ofBits .bf16 0 : F .bf16))
theorem join_ctx : (bigSep Finset.univ fun h => iprop(∃ X, ownsTc c (slot24 ctxM h) fullShare X)) ⊢ (Some c cc0_scratch5 : sProp (MM F)) :=
  slots_join c cc0_scratch5 rect24 (fun _ _ => rfl) apart24 cover24 (fun _ => (FloatOps.ofBits .bf16 0 : F .bf16))

/-- The three buffers whose slots stay on the device. -/
theorem cut_fam (b : Ref sig .tc) (M : Memref sig .tc .vmem S8x1024x128 .bf16)
    (h : (Some c b : sProp (MM F)) ⊢ bigSep Finset.univ fun h => iprop(∃ X, ownsTc c (slot24 M h) fullShare X)) :
    (Some c b : sProp (MM F)) ⊢ iprop(∃ Y, fam c M Y) :=
  haveI : Nonempty (Vec F S1x1024x128 .bf16) := ⟨fun _ => (FloatOps.ofBits .bf16 0 : F .bf16)⟩
  h.trans (bigSep_exists_pi Finset.univ fun h (X : Vec F S1x1024x128 .bf16) => ownsTc c (slot24 M h) fullShare X)
theorem join_fam (b : Ref sig .tc) (M : Memref sig .tc .vmem S8x1024x128 .bf16)
    (h : (bigSep Finset.univ fun h => iprop(∃ X, ownsTc c (slot24 M h) fullShare X)) ⊢ (Some c b : sProp (MM F))) :
    iprop(∃ Y, fam c M Y) ⊢ (Some c b : sProp (MM F)) := by
  iintro ⟨%Y, H⟩
  have e (h : Dev nD) : (ownsTc c (slot24 M h) fullShare (Y h) : sProp (MM F)) ⊢ iprop(∃ X, ownsTc c (slot24 M h) fullShare X) := by iintro H; iexists _; iexact H
  iapply h
  iapply (show (fam c M Y : sProp (MM F)) ⊢ bigSep Finset.univ fun h => iprop(∃ X, ownsTc c (slot24 M h) fullShare X) from bigSep_mono fun h _ => e h)
  iexact H
theorem cut_q : (Some c cc0_scratch0 : sProp (MM F)) ⊢ iprop(∃ Y, fam c qM Y) := cut_fam c _ qM (slots_cut c cc0_scratch0 rect24 (fun _ _ => rfl) apart24 cover24)
theorem cut_k : (Some c cc0_scratch1 : sProp (MM F)) ⊢ iprop(∃ Y, fam c kM Y) := cut_fam c _ kM (slots_cut c cc0_scratch1 rect24 (fun _ _ => rfl) apart24 cover24)
theorem cut_v : (Some c cc0_scratch2 : sProp (MM F)) ⊢ iprop(∃ Y, fam c vM Y) := cut_fam c _ vM (slots_cut c cc0_scratch2 rect24 (fun _ _ => rfl) apart24 cover24)
theorem join_q : iprop(∃ Y, fam c qM Y) ⊢ (Some c cc0_scratch0 : sProp (MM F)) :=
  join_fam c _ qM (slots_join c cc0_scratch0 rect24 (fun _ _ => rfl) apart24 cover24 (fun _ => (FloatOps.ofBits .bf16 0 : F .bf16)))
theorem join_k : iprop(∃ Y, fam c kM Y) ⊢ (Some c cc0_scratch1 : sProp (MM F)) :=
  join_fam c _ kM (slots_join c cc0_scratch1 rect24 (fun _ _ => rfl) apart24 cover24 (fun _ => (FloatOps.ofBits .bf16 0 : F .bf16)))
theorem join_v : iprop(∃ Y, fam c vM Y) ⊢ (Some c cc0_scratch2 : sProp (MM F)) :=
  join_fam c _ vM (slots_join c cc0_scratch2 rect24 (fun _ _ => rfl) apart24 cover24 (fun _ => (FloatOps.ofBits .bf16 0 : F .bf16)))

end Cert.Proto

end
-- ==== Proof.Cells.lean ====
/-
  The cells of a device opened when its kernel starts and closed when it ends.
-/
module

public import proofs.«01_k».proof.Proof.Entry

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (SV : Dev nD → Dev nD → Vec F S1x1032x128 .bf16) (CV : Dev nD → Vec F S1x1024x128 .bf16) (κ : GSem nD τ sig → ℕ) (c : Dev nD)

theorem bigSep_four (Φ : Fin 4 → sProp (MM F)) : bigSep Finset.univ Φ = iprop(Φ 0 ∗ Φ 1 ∗ Φ 2 ∗ Φ 3) := by
  rw [show (Finset.univ : Finset (Fin 4)) = insert 0 (insert 1 (insert 2 {3})) from by decide, bigSep_insert (by decide), bigSep_insert (by decide),
    bigSep_insert (by decide), bigSep_singleton]
  rfl

/-- Over the cells of a device: its four families. -/
theorem families (Φ : Fin 4 × Dev nD → sProp (MM F)) :
    bigSep Finset.univ Φ = iprop((bigSep Finset.univ fun h => Φ (0, h)) ∗ (bigSep Finset.univ fun h => Φ (1, h)) ∗ (bigSep Finset.univ fun h => Φ (2, h))
      ∗ bigSep Finset.univ fun h => Φ (3, h)) := by
  rw [bigSep_univ_prod, bigSep_four]

/-- The DMA semaphores of the kernel's own. -/
abbrev osem : Fin 4 × Dev nD → SemLoc sig := fun x => .dma (dmaS x.1 x.2)

/-- The duties that device `c` pays: a signal to each peer, what it lands on each, and the sends. -/
def Toks : sProp (MM F) :=
  iprop((bigSep (Finset.univ.erase c) fun d => dutyTok ER (barC d) 0 c) ∗ (bigSep (Finset.univ.erase c) fun d => dutyTok ER (dmaC d 1 c) 0 0)
    ∗ (bigSep (Finset.univ.erase c) fun d => dutyTok ER (dmaC d 3 c) 0 0)
    ∗ (bigSep Finset.univ fun i => dutyTok ER (dmaC c 0 i) 0 0) ∗ bigSep Finset.univ fun i => dutyTok ER (dmaC c 2 i) 0 0)
/-- What it may wait for: the signals of its peers and what they land on it. -/
def Creds : sProp (MM F) :=
  iprop(cred (tallyAt (barC c) () 7) ∗ (bigSep (Finset.univ.erase c) fun d => cred (tallyAt (dmaC c 1 d) () (amt 1)))
    ∗ bigSep (Finset.univ.erase c) fun d => cred (tallyAt (dmaC c 3 d) () (amt 3)))
/-- The positions at its cells. -/
def Ats : sProp (MM F) := bigSep Finset.univ fun x : Fin 4 × Dev nD => atPos ER (dmaC c x.1 x.2) 0 ∅ 0
/-- Its scratch buffers. -/
def Scratch : sProp (MM F) :=
  iprop(Some c cc0_scratch0 ∗ Some c cc0_scratch1 ∗ Some c cc0_scratch2 ∗ Some c cc0_scratch3 ∗ Some c cc0_scratch4 ∗ Some c cc0_scratch5)
/-- What the body does not touch: the cells and the slots that no peer lands on. -/
def Left : sProp (MM F) :=
  iprop(atPos ER (dmaC c 1 c) 0 ∅ 0 ∗ atPos ER (dmaC c 3 c) 0 ∅ 0 ∗ (∃ X, ownsTc c (slot32 comM c) fullShare X) ∗ ∃ X, ownsTc c (slot24 ctxM c) fullShare X)

theorem peers_eq : bigSep (Finset.univ.erase c) (Peer c)
    = (iprop((bigSep (Finset.univ.erase c) fun d => dutyTok ER (barC d) 0 c) ∗ (bigSep (Finset.univ.erase c) fun d => dutyTok ER (dmaC d 1 c) 0 0)
      ∗ (bigSep (Finset.univ.erase c) fun d => dutyTok ER (dmaC d 3 c) 0 0)
      ∗ ((bigSep (Finset.univ.erase c) fun d => cred (tallyAt (dmaC c 1 d) () (amt 1))) ∗ bigSep (Finset.univ.erase c) fun d => atPos ER (dmaC c 1 d) 0 ∅ 0)
      ∗ ((bigSep (Finset.univ.erase c) fun d => cred (tallyAt (dmaC c 3 d) () (amt 3))) ∗ bigSep (Finset.univ.erase c) fun d => atPos ER (dmaC c 3 d) 0 ∅ 0)
      ∗ (bigSep (Finset.univ.erase c) fun d => iprop(∃ X, ownsTc c (slot32 comM d) fullShare X))
      ∗ (bigSep (Finset.univ.erase c) fun d => iprop(∃ X, ownsTc c (slot24 ctxM d) fullShare X)) ∗ bigSep (Finset.univ.erase c) (Stg c)) : sProp (MM F)) := by
  rw [← bigSep_sep', ← bigSep_sep', ← bigSep_sep', ← bigSep_sep', ← bigSep_sep', ← bigSep_sep', ← bigSep_sep', ← bigSep_sep', ← bigSep_sep']
  rfl

theorem mine_eq (k : Fin 4) : bigSep Finset.univ (Mine c k)
    = (iprop((bigSep Finset.univ fun i => dutyTok ER (dmaC c k i) 0 0) ∗ bigSep Finset.univ fun i => atPos ER (dmaC c k i) 0 ∅ 0) : sProp (MM F)) := by
  rw [← bigSep_sep']; rfl

theorem outs_eq : bigSep (Finset.univ.erase c) (PeerOut SV CV c)
    = (iprop((bigSep (Finset.univ.erase c) (Ended SV CV c 1)) ∗ (bigSep (Finset.univ.erase c) (Ended SV CV c 3)) ∗ (bigSep (Finset.univ.erase c) (Stg c))
      ∗ (bigSep (Finset.univ.erase c) fun d => iprop(∃ X, ownsTc c (slot32 comM d) fullShare X))
      ∗ bigSep (Finset.univ.erase c) fun d => iprop(∃ X, ownsTc c (slot24 ctxM d) fullShare X)) : sProp (MM F)) := by
  rw [← bigSep_sep', ← bigSep_sep', ← bigSep_sep', ← bigSep_sep']
  rfl

theorem enter : iprop(Opened c ∗ Ow c 1 1 1 ∗ atPos ER (barC c) 0 ∅ 0 ∗ Ats c ∗ Toks c ∗ Creds c ∗ Scratch c) ⊢ (iprop(Before c ∗ Left c) : sProp (MM F)) := by
  unfold Before Left Ats Toks Creds Scratch
  rw [peers_eq, mine_eq, mine_eq, families]
  iintro ⟨#HR, HO, Hat, ⟨A0, A1, A2, A3⟩, ⟨Tb, T1, T3, T0, T2⟩, ⟨Hcr, C1, C3⟩, Hq, Hk, Hv, Hs, Hx, Hy⟩
  ihave Hq := (cut_q c) $$ Hq
  ihave Hk := (cut_k c) $$ Hk
  ihave Hv := (cut_v c) $$ Hv
  ihave Hs := (cut_stg c) $$ Hs
  ihave Hx := (cut_com c) $$ Hx
  ihave Hy := (cut_ctx c) $$ Hy
  ihave Hs := (Entails.of_eq (self_others c (Stg c))) $$ Hs
  ihave Hx := (Entails.of_eq (self_others c fun d => iprop(∃ X, ownsTc c (slot32 comM d) fullShare X))) $$ Hx
  ihave Hy := (Entails.of_eq (self_others c fun d => iprop(∃ X, ownsTc c (slot24 ctxM d) fullShare X))) $$ Hy
  ihave A1 := (Entails.of_eq (self_others c fun d => atPos ER (dmaC c 1 d) 0 ∅ 0)) $$ A1
  ihave A3 := (Entails.of_eq (self_others c fun d => atPos ER (dmaC c 3 d) 0 ∅ 0)) $$ A3
  icases Hs with ⟨Hsc, Hs⟩
  icases Hx with ⟨Hxc, Hx⟩
  icases Hy with ⟨Hyc, Hy⟩
  icases A1 with ⟨A1c, A1⟩
  icases A3 with ⟨A3c, A3⟩
  isplitr [A1c A3c Hxc Hyc]
  · isplitr; · iexact HR
    isplitl [HO]; · iexact HO
    isplitl [Hcr]; · iexact Hcr
    isplitl [Hat]; · iexact Hat
    isplitl [Tb T1 T3 C1 A1 C3 A3 Hx Hy Hs]
    · isplitl [Tb]; · iexact Tb
      isplitl [T1]; · iexact T1
      isplitl [T3]; · iexact T3
      isplitl [C1 A1]
      · isplitl [C1]; · iexact C1
        iexact A1
      isplitl [C3 A3]
      · isplitl [C3]; · iexact C3
        iexact A3
      isplitl [Hx]; · iexact Hx
      isplitl [Hy]; · iexact Hy
      iexact Hs
    isplitl [T0 A0]
    · isplitl [T0]; · iexact T0
      iexact A0
    isplitl [T2 A2]
    · isplitl [T2]; · iexact T2
      iexact A2
    isplitl [Hsc]; · iexact Hsc
    isplitl [Hq]; · iexact Hq
    isplitl [Hk]; · iexact Hk
    iexact Hv
  isplitl [A1c]; · iexact A1c
  isplitl [A3c]; · iexact A3c
  isplitl [Hxc]; · iexact Hxc
  iexact Hyc

/-- Every cell of its own, with no round left. -/
def AllEnded : sProp (MM F) := bigSep Finset.univ fun x : Fin 4 × Dev nD => Ended SV CV c x.1 x.2

theorem leave : iprop(After SV CV c ∗ Left c) ⊢ (iprop(Ow c 8 8 8 ∗ atPos ER (barC c) 1 ∅ 0 ∗ AllEnded SV CV c ∗ Scratch c) : sProp (MM F)) := by
  unfold After Left AllEnded Scratch
  rw [outs_eq, families]
  iintro ⟨⟨HO, Hat, ⟨E1, E3, Hs, Hx, Hy⟩, E0, E2, Hsc, Hq, Hk, Hv⟩, A1c, A3c, Hxc, Hyc⟩
  isplitl [HO]; · iexact HO
  isplitl [Hat]; · iexact Hat
  isplitl [E0 E1 E2 E3 A1c A3c]
  · isplitl [E0]; · iexact E0
    isplitl [E1 A1c]
    · iapply (Entails.of_eq (self_others c (Ended SV CV c 1)).symm)
      isplitl [A1c]; · iapply (ended_unused SV CV c 1 c (fun h => h rfl)); iexact A1c
      iexact E1
    isplitl [E2]; · iexact E2
    iapply (Entails.of_eq (self_others c (Ended SV CV c 3)).symm)
    isplitl [A3c]; · iapply (ended_unused SV CV c 3 c (fun h => h rfl)); iexact A3c
    iexact E3
  isplitl [Hq]; · iapply (join_q c); iexact Hq
  isplitl [Hk]; · iapply (join_k c); iexact Hk
  isplitl [Hv]; · iapply (join_v c); iexact Hv
  isplitl [Hs Hsc]
  · iapply (join_stg c)
    iapply (Entails.of_eq (self_others c (Stg c)).symm)
    isplitl [Hsc]; · iexact Hsc
    iexact Hs
  isplitl [Hx Hxc]
  · iapply (join_com c)
    iapply (Entails.of_eq (self_others c fun d => iprop(∃ X, ownsTc c (slot32 comM d) fullShare X)).symm)
    isplitl [Hxc]; · iexact Hxc
    iexact Hx
  iapply (join_ctx c)
  iapply (Entails.of_eq (self_others c fun d => iprop(∃ X, ownsTc c (slot24 ctxM d) fullShare X)).symm)
  isplitl [Hyc]; · iexact Hyc
  iexact Hy

theorem close_one (k : Fin 4) (h : Dev nD) : iprop(Ctx SV CV κ ∗ Ended SV CV c k h) ⊢ (|={Set.univ}=> semVal (dmaC c k h) 0 : sProp (MM F)) := by
  unfold Ended
  iintro ⟨#HC, %R, %hR, H⟩
  iapply (Rounds.cell_close ER (Rd SV CV) (g := dmaC c k h) (κ := κ (dmaC c k h)) (Set.mem_univ _) (fun h => h) hR)
  isplitr; · iapply (Ctx_inv SV CV κ (dma_mem c k h)); iexact HC
  iexact H

theorem close_bar : iprop(Ctx SV CV κ ∗ atPos ER (barC c) 1 ∅ 0) ⊢ (|={Set.univ}=> semVal (barC c) 0 : sProp (MM F)) := by
  iintro ⟨#HC, H⟩
  iapply (Rounds.cell_close ER (Rd SV CV) (g := barC c) (κ := κ (barC c)) (Set.mem_univ _) (fun h => h) (duties_later SV CV _))
  isplitr; · iapply (Ctx_inv SV CV κ (bar_mem c)); iexact HC
  iexact H

theorem close_all : iprop(Ctx SV CV κ ∗ atPos ER (barC c) 1 ∅ 0 ∗ AllEnded SV CV c)
    ⊢ (|={Set.univ}=> iprop(semVal (barC c) 0 ∗ bigSep Finset.univ fun x : Fin 4 × Dev nD => semVal (dmaC c x.1 x.2) 0) : sProp (MM F)) := by
  unfold AllEnded
  iintro ⟨#HC, Hat, HE⟩
  imod (close_bar SV CV κ c) $$ [Hat] with Hb
  · isplitr; · iexact HC
    iexact Hat
  ihave HE := (show iprop(Ctx SV CV κ ∗ bigSep Finset.univ fun x : Fin 4 × Dev nD => Ended SV CV c x.1 x.2)
    ⊢ (|={Set.univ}=> bigSep Finset.univ fun x : Fin 4 × Dev nD => semVal (dmaC c x.1 x.2) 0 : sProp (MM F)) from
      (bigSep_with_persistent fun x _ => close_one SV CV κ c x.1 x.2).trans (bigSep_fupd _ _)) $$ [HE]
  · isplitr; · iexact HC
    iexact HE
  imod HE with HE
  imodintro
  isplitl [Hb]; · iexact Hb
  iexact HE

/-! ## Opening the cells at the region's entry -/

/-- What every device may consult from the launch on. -/
def Records : sProp (MM F) :=
  iprop((bigSep (barCells ∪ dmaCells) fun g => cellInv ER (Rd SV CV) (κ g) g) ∗ bigSep Finset.univ fun d : Dev nD => reached ER (barC d) 0)
instance : Persistent (Records SV CV κ) := by unfold Records; infer_instance

theorem Records_inv {g : GSem nD τ sig} (hg : g ∈ (barCells ∪ dmaCells : Finset (GSem nD τ sig))) :
    (Records SV CV κ : sProp (MM F)) ⊢ cellInv ER (Rd SV CV) (κ g) g := sep_elim_left.trans (bigSep_elim (Φ := fun g => cellInv ER (Rd SV CV) (κ g) g) hg)

theorem open_one (x : Fin 4 × Dev nD) : iprop(Records SV CV κ ∗ openTok ER (dmaC c x.1 x.2) ∗ semVal (dmaC c x.1 x.2) 0)
    ⊢ (|={Set.univ}=> iprop(atPos ER (dmaC c x.1 x.2) 0 ∅ 0 ∗ reached ER (dmaC c x.1 x.2) 0) : sProp (MM F)) := by
  iintro ⟨#HR, Ho, Hs⟩
  iapply (Rounds.cell_open ER (Rd SV CV) (g := dmaC c x.1 x.2) (κ := κ (dmaC c x.1 x.2)) (Set.mem_univ _))
  isplitr; · iapply (Records_inv SV CV κ (dma_mem c x.1 x.2)); iexact HR
  isplitl [Ho]; · iexact Ho
  iexact Hs

theorem open_all : iprop(Records SV CV κ ∗ (bigSep Finset.univ fun x : Fin 4 × Dev nD => openTok ER (dmaC c x.1 x.2))
      ∗ (bigSep Finset.univ fun x : Fin 4 × Dev nD => semVal (dmaC c x.1 x.2) 0) ∗ levAts L lv)
    ⊢ (|={Set.univ}=> iprop(Ctx SV CV κ ∗ Opened c ∗ Ats c) : sProp (MM F)) := by
  iintro ⟨#HR, Ho, Hs, #Hlev⟩
  ihave H := (show iprop(Records SV CV κ ∗ (bigSep Finset.univ fun x : Fin 4 × Dev nD => openTok ER (dmaC c x.1 x.2))
      ∗ bigSep Finset.univ fun x : Fin 4 × Dev nD => semVal (dmaC c x.1 x.2) 0)
    ⊢ (|={Set.univ}=> iprop((bigSep Finset.univ fun x : Fin 4 × Dev nD => atPos ER (dmaC c x.1 x.2) 0 ∅ 0)
      ∗ bigSep Finset.univ fun x : Fin 4 × Dev nD => reached ER (dmaC c x.1 x.2) 0) : sProp (MM F)) from by
        rw [← bigSep_sep', ← bigSep_sep']
        exact (bigSep_with_persistent fun x _ => open_one SV CV κ c x).trans (bigSep_fupd _ _)) $$ [Ho Hs]
  · isplitr; · iexact HR
    isplitl [Ho]; · iexact Ho
    iexact Hs
  imod H with ⟨HA, #HD⟩
  imodintro
  unfold Ctx Opened Ats
  isplitr
  · isplitr; · iapply (show (Records SV CV κ : sProp (MM F)) ⊢ bigSep (barCells ∪ dmaCells) fun g => cellInv ER (Rd SV CV) (κ g) g from sep_elim_left); iexact HR
    iexact Hlev
  isplitr
  · isplitr; · iapply (show (Records SV CV κ : sProp (MM F)) ⊢ bigSep Finset.univ fun d : Dev nD => reached ER (barC d) 0 from sep_elim_right); iexact HR
    iexact HD
  iexact HA

end Cert.Proto

end
-- ==== Proof.Region.lean ====
/-
  What each device holds when its kernel starts and ends, and the whole run of the kernel between the two.
-/
module

public import proofs.«01_k».proof.Proof.Cells
public import proofs.«01_k».proof.Proof.Gen.KernelIdeal.Frame
public import Idealize.ShloMosaic.Lib.Pipeline.RegionTalk

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD)

/-- The arrays of device `c` as its kernel finds them: queries' input, its projection, keys, values, the output's projection. -/
def x0 : Vec F S1024x1024 .bf16 := iblk m c 0 t0_0
def x1 : Vec F S1024x1024 .bf16 := iblk m c 1 t0_0
def x2 : Vec F S1024x1024 .bf16 := iblk m c 2 t0_0
def x3 : Vec F S1024x1024 .bf16 := iblk m c 3 t0_0
def x4 : Vec F S1024x1024 .bf16 := iblk m c 4 t0_0
/-- What device `c` computes of head `h`, -/
def pieceV (h : Dev nD) : Vec F S1x1032x128 .bf16 := pieceO c (x0 m c) (x1 m c) (x2 m c) (x3 m c) h
/-- the context of its own head, -/
def ctxV : Vec F S1x1024x128 .bf16 := ctxO c (x0 m c) (x1 m c) (x2 m c) (x3 m c) fun h => pieceV m h c
/-- and its result. -/
def resV : Vec F S1x1024x1024 .f32 :=
  outO c (x4 m c) (ctxT c (x0 m c) (x1 m c) (x2 m c) (x3 m c) fun h => pieceV m h c) (ctxV m)

/-- What the launch leaves with device `c`, its cells not yet open, -/
def Linear : sProp (MM F) :=
  iprop(atPos ER (barC c) 0 ∅ 0 ∗ (bigSep Finset.univ fun x : Fin 4 × Dev nD => openTok ER (dmaC c x.1 x.2)) ∗ Toks c)
def Tk : sProp (MM F) := iprop((∃ κ, Records (pieceV m) (ctxV m) κ ∗ Linear c) ∗ Creds c)
/-- what it enters its body with, -/
def Xk : sProp (MM F) :=
  iprop(∃ κ, Ctx (pieceV m) (ctxV m) κ ∗ Opened c ∗ atPos ER (barC c) 0 ∅ 0 ∗ Ats c ∗ Toks c ∗ Creds c)
/-- and what it leaves with. -/
def Yk : sProp (MM F) := semVal (barC c) 0
def Sems : sProp (MM F) := bigSep Finset.univ fun x : Fin 4 × Dev nD => semVal (dmaC c x.1 x.2) 0

theorem ownSems_eq : (Pipeline.ownSems0 osem c : sProp (MM F)) = Sems c := rfl

/-- The arrays and the other buffers when the kernel starts. -/
def V₀ : Valuation τ sig (Elt F) := fun b => m (c, b)
def V₁ : Valuation τ sig (Elt F) := StableHlo.after hostOps0 (V₀ m c)

/-- The one point of the kernel: from the launch's part of the protocol to the semaphores at zero. -/
def dat : Pipeline.Dat τ (Elt F) Unit ℕ UU ℕ cfg0 c where
  A w := V m c (Pipeline.arrRef spec0 w)
  after w _ := match w with
    | 0 => x0 m c | 1 => x1 m c | 2 => x2 m c | 3 => x3 m c | 4 => x4 m c | 5 => resV m c
    | ⟨_ + 6, h⟩ => absurd h (Nat.not_lt.2 (Nat.le_add_left _ _))
  Φ t := if t.val = 0 then iprop(Xk m c ∗ Scratch c ∗ ∃ r, prngReg c r) else iprop(Yk c ∗ Sems c ∗ Scratch c ∗ ∃ r, prngReg c r)
  q _ := fullShare
  owed t := if t.val = 0 then debt c 1 1 1 else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ => dat m

theorem before_0 (t : Fin cfg0.N) (d) : (dat m c).before 0 t d = x0 m c := by
  obtain rfl := fin_N0 t
  exact ((dat m c).before_in_eq_fetched 0 rfl (fun _ => rfl) (fun _ _ _ => rfl) (fun t => by obtain rfl := fin_N0 t; rfl) _ d).trans rfl
theorem before_1 (t : Fin cfg0.N) (d) : (dat m c).before 1 t d = x1 m c := by
  obtain rfl := fin_N0 t
  exact ((dat m c).before_in_eq_fetched 1 rfl (fun _ => rfl) (fun _ _ _ => rfl) (fun t => by obtain rfl := fin_N0 t; rfl) _ d).trans rfl
theorem before_2 (t : Fin cfg0.N) (d) : (dat m c).before 2 t d = x2 m c := by
  obtain rfl := fin_N0 t
  exact ((dat m c).before_in_eq_fetched 2 rfl (fun _ => rfl) (fun _ _ _ => rfl) (fun t => by obtain rfl := fin_N0 t; rfl) _ d).trans rfl
theorem before_3 (t : Fin cfg0.N) (d) : (dat m c).before 3 t d = x3 m c := by
  obtain rfl := fin_N0 t
  exact ((dat m c).before_in_eq_fetched 3 rfl (fun _ => rfl) (fun _ _ _ => rfl) (fun t => by obtain rfl := fin_N0 t; rfl) _ d).trans rfl
theorem before_4 (t : Fin cfg0.N) (d) : (dat m c).before 4 t d = x4 m c := by
  obtain rfl := fin_N0 t
  exact ((dat m c).before_in_eq_fetched 4 rfl (fun _ => rfl) (fun _ _ _ => rfl) (fun t => by obtain rfl := fin_N0 t; rfl) _ d).trans rfl

theorem owed_first : (dat m c).owed t0_0.castSucc = debt c 1 1 1 := by
  show (if (t0_0.castSucc : Fin (cfg0.N + 1)).val = 0 then debt c 1 1 1 else 0) = _; exact if_pos rfl
theorem owed_after : (dat m c).owed t0_0.succ = 0 := by
  show (if (t0_0.succ : Fin (cfg0.N + 1)).val = 0 then debt c 1 1 1 else 0) = _; exact if_neg (by decide)
theorem owed_zero : (pdats m 0 c).owed 0 = debt c 1 1 1 := by
  show (if (0 : Fin (cfg0.N + 1)).val = 0 then debt c 1 1 1 else 0) = _; exact if_pos rfl
theorem owed_last : (pdats m 0 c).owed (Fin.last _) = 0 := by
  show (if (Fin.last cfg0.N).val = 0 then debt c 1 1 1 else 0) = 0
  rw [Fin.val_last, if_neg (by rw [show cfg0.N = 1 from N_0]; decide)]

theorem owesAt_intro (t : Fin (cfg0.N + 1)) (O : CellTallies nD τ sig Unit) (h0 : (dat m c).owed t = O) :
    iprop(∃ W, owes (c : Thread nD τ) O W) ⊢ ((dat m c).owesAt () t : sProp (MM F)) := by
  unfold Pipeline.Dat.owesAt Pipeline.owesWithin Pipeline.Dat.bound; rw [h0]
  iintro ⟨%W, HO⟩; iexists W; isplitr; · ipureintro; exact fun _ _ => Or.inl trivial
  iexact HO
theorem owesAt_elim (t : Fin (cfg0.N + 1)) (O : CellTallies nD τ sig Unit) (h0 : (dat m c).owed t = O) :
    ((dat m c).owesAt () t : sProp (MM F)) ⊢ iprop(∃ W, owes (c : Thread nD τ) O W) := by
  unfold Pipeline.Dat.owesAt Pipeline.owesWithin; rw [h0]
  iintro ⟨%W, -, HO⟩; iexists W; iexact HO

/-- A run may end with an update. -/
theorem run_update {α : Type} (p : PR F α) (Q : α → sProp (MM F)) : WP c p (fun a => iprop(|={Set.univ}=> Q a)) ⊢ WP c p Q := by
  have e : WP c (p >>= fun a => Prog.ret a) Q = WP c p fun a => WP c (Prog.ret a) Q := seq_run c p _ Q
  rw [show (p >>= fun a => Prog.ret a) = p from bind_pure p] at e
  rw [e, show (fun a => WP c (Prog.ret a) Q) = fun a => iprop(|={Set.univ}=> Q a) from funext fun a => wp_ret _ _ _ a Q]

theorem opens : iprop(Tk m c ∗ Pipeline.ownSems0 osem c ∗ levAts L lv) ⊢ (|={Set.univ}=> Xk m c : sProp (MM F)) := by
  rw [ownSems_eq]
  unfold Tk Xk Linear Sems
  iintro ⟨⟨⟨%κ, #HR, Hat, Ho, Ht⟩, Hc⟩, Hs, #Hlev⟩
  imod (open_all (pieceV m) (ctxV m) κ c) $$ [Ho Hs] with ⟨#HC, #HD, HA⟩
  · isplitr; · iexact HR
    isplitl [Ho]; · iexact Ho
    isplitl [Hs]; · iexact Hs
    iexact Hlev
  imodintro
  iexists κ
  isplitr; · iexact HC
  isplitr; · iexact HD
  isplitl [Hat]; · iexact Hat
  isplitl [HA]; · iexact HA
  isplitl [Ht]; · iexact Ht
  iexact Hc

variable (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)

/-- The whole kernel of a device, from what the launch leaves it to the semaphores at zero. -/
theorem kernel_run (X5 : Vec F S1x1024x1024 .f32) {Q : PUnit → sProp (MM F)} :
    iprop(Xk m c ∗ Scratch c ∗ Ow c 1 1 1 ∗ ownsTc c a0 fullShare (x0 m c) ∗ ownsTc c a1 fullShare (x1 m c) ∗ ownsTc c a2 fullShare (x2 m c) ∗ ownsTc c a3 fullShare (x3 m c)
        ∗ ownsTc c a4 fullShare (x4 m c) ∗ ownsTc c a5 fullShare X5)
      ⊢ iprop((Yk c ∗ Sems c ∗ Scratch c ∗ Ow c 8 8 8 ∗ ownsTc c a0 fullShare (x0 m c) ∗ ownsTc c a1 fullShare (x1 m c) ∗ ownsTc c a2 fullShare (x2 m c)
          ∗ ownsTc c a3 fullShare (x3 m c) ∗ ownsTc c a4 fullShare (x4 m c) ∗ ownsTc c a5 fullShare (resV m c) -∗ Q ⟨⟩)
        -∗ WP c (cc0__body (F := F) a0 h0 a1 h1 a2 h2 a3 h3 a4 h4 a5 h5 qM (Memref.isWhole_whole _) kM (Memref.isWhole_whole _) vM (Memref.isWhole_whole _) stgM (Memref.isWhole_whole _) comM (Memref.isWhole_whole _) ctxM (Memref.isWhole_whole _) cc0_scratch6 cc0_scratch7 cc0_scratch8 cc0_scratch9) Q) := by
  unfold Xk Yk Sems
  iintro ⟨⟨%κ, #HC, #HR, Hat, HA, Ht, Hc⟩, Hs, HO, H0, H1, H2, H3, H4, H5⟩ Hk
  ihave HB := (enter c) $$ [HO Hat HA Ht Hc Hs]
  · isplitr; · iexact HR
    isplitl [HO]; · iexact HO
    isplitl [Hat]; · iexact Hat
    isplitl [HA]; · iexact HA
    isplitl [Ht]; · iexact Ht
    isplitl [Hc]; · iexact Hc
    iexact Hs
  icases HB with ⟨HB, HL⟩
  iapply (run_update c _ Q)
  iapply (body_all (a0 := a0) (h0 := h0) (a1 := a1) (h1 := h1) (a2 := a2) (h2 := h2) (a3 := a3) (h3 := h3) (a4 := a4) (h4 := h4) (a5 := a5) (h5 := h5)
    (SV := pieceV m) (CV := ctxV m) (κ := κ) (c := c) (X0 := x0 m c) (X1 := x1 m c) (X2 := x2 m c) (X3 := x3 m c) (X4 := x4 m c) (X5 := X5)
    (hSV₀ := fun _ => rfl) (hCV₀ := rfl) (Q := fun a => iprop(|={Set.univ}=> Q a))) $$ [HB H0 H1 H2 H3 H4 H5]
  · isplitr; · iexact HC
    isplitl [HB]; · iexact HB
    isplitl [H0]; · iexact H0
    isplitl [H1]; · iexact H1
    isplitl [H2]; · iexact H2
    isplitl [H3]; · iexact H3
    isplitl [H4]; · iexact H4
    iexact H5
  iintro ⟨HA, H0, H1, H2, H3, H4, H5⟩
  ihave HE := (leave (pieceV m) (ctxV m) c) $$ [HA HL]
  · isplitl [HA]; · iexact HA
    iexact HL
  icases HE with ⟨HO, Hat, HE, Hs⟩
  imod (close_all (pieceV m) (ctxV m) κ c) $$ [Hat HE] with ⟨Hb, Hd⟩
  · isplitr; · iexact HC
    isplitl [Hat]; · iexact Hat
    iexact HE
  imodintro
  iapply Hk
  isplitl [Hb]; · iexact Hb
  isplitl [Hd]; · iexact Hd
  isplitl [Hs]; · iexact Hs
  isplitl [HO]; · iexact HO
  isplitl [H0]; · iexact H0
  isplitl [H1]; · iexact H1
  isplitl [H2]; · iexact H2
  isplitl [H3]; · iexact H3
  isplitl [H4]; · iexact H4
  iexact H5

end Cert.Proto

end
-- ==== Proof.Segment.lean ====
/-
  The kernel as a segment of the program.
-/
module

public import proofs.«01_k».proof.Proof.Region

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD)

set_option maxHeartbeats 800000 in
/-- The body at its one point. -/
theorem body : Pipeline.BodyObligation (dat m c) defs₀ 𝒱₀ () Set.univ := fun t => by
  obtain rfl := fin_N0 t
  rw [bigSep_W0, bigSep_W0]
  rw [show (dat m c).Φ t0_0.castSucc = iprop(Xk m c ∗ Scratch c ∗ ∃ r, prngReg c r) from rfl,
    show (dat m c).Φ t0_0.succ = iprop(Yk c ∗ Sems c ∗ Scratch c ∗ ∃ r, prngReg c r) from rfl]
  iintro ⟨⟨HX, Hs, Hreg⟩, HO, ⟨%d0, H0⟩, ⟨%d1, H1⟩, ⟨%d2, H2⟩, ⟨%d3, H3⟩, ⟨%d4, H4⟩, ⟨%d5, H5⟩⟩
  ihave HO := (owesAt_elim m c _ _ (owed_first m c)) $$ HO
  rw [before_0 m c t0_0 d0, before_1 m c t0_0 d1, before_2 m c t0_0 d2, before_3 m c t0_0 d3, before_4 m c t0_0 d4]
  iapply (kernel_run m c (win0_0.stage (cfg0.slots t0_0 0)) (hstage0_0 0) (win0_1.stage (cfg0.slots t0_0 1)) (hstage0_1 0) (win0_2.stage (cfg0.slots t0_0 2)) (hstage0_2 0)
    (win0_3.stage (cfg0.slots t0_0 3)) (hstage0_3 0) (win0_4.stage (cfg0.slots t0_0 4)) (hstage0_4 0) (win0_5.stage (cfg0.slots t0_0 5)) (hstage0_5 0)
    ((dat m c).before 5 t0_0 d5)) $$ [HX Hs HO H0 H1 H2 H3 H4 H5]
  · isplitl [HX]; · iexact HX
    isplitl [Hs]; · iexact Hs
    isplitl [HO]; · iapply (show iprop(∃ W, owes (c : Thread nD τ) (debt c 1 1 1) W) ⊢ (Ow c 1 1 1 : sProp (MM F)) from .rfl); iexact HO
    isplitl [H0]; · iexact H0
    isplitl [H1]; · iexact H1
    isplitl [H2]; · iexact H2
    isplitl [H3]; · iexact H3
    isplitl [H4]; · iexact H4
    iexact H5
  iintro ⟨HY, Hd, Hs, HO, H0, H1, H2, H3, H4, H5⟩
  isplitl [HY Hd Hs Hreg]
  · isplitl [HY]; · iexact HY
    isplitl [Hd]; · iexact Hd
    isplitl [Hs]; · iexact Hs
    iexact Hreg
  isplitl [HO]
  · iapply (owesAt_intro m c t0_0.succ 0 (owed_after m c))
    iapply (show (Ow c 8 8 8 : sProp (MM F)) ⊢ iprop(∃ W, owes (c : Thread nD τ) (0 : CellTallies nD τ sig Unit) W) from by unfold Ow; rw [debt_done])
    iexact HO
  isplitl [H0]; · iexact H0
  isplitl [H1]; · iexact H1
  isplitl [H2]; · iexact H2
  isplitl [H3]; · iexact H3
  isplitl [H4]; · iexact H4
  iexact H5

/-! ## The region -/

/-- The buffers after the kernel: the result's array, everything else as the kernel found it. -/
def V₂ : Valuation τ sig (Elt F) := Function.update (V₁ m c) (Proc.devRef .tc main_v6) ((dat m c).arrAt 5 cfg0.N)

theorem V₂_out : V₂ m c (Proc.devRef .tc main_v6) = (dat m c).arrAt 5 cfg0.N := Function.update_self ..
theorem V₂_ne (b : DevRef τ sig) (h : b ≠ Proc.devRef .tc main_v6) : V₂ m c b = V₁ m c b := Function.update_of_ne h ..

/-- The buffers that no window stages. -/
abbrev rest : Finset (DevRef τ sig) := Pipeline.ucRefs τ sig \ Pipeline.arrRefs (τ := τ) spec0

theorem out_mem : (Proc.devRef .tc main_v6 : DevRef τ sig) ∈ Pipeline.arrRefs (τ := τ) spec0 := by decide

theorem cut (t : Fin ((Pipeline.pin (pcfgs (F := F)) adm 0).N + 1)) (g : GSem nD τ sig) (i : Unit) (h : 0 < (pdats m 0 c).owed t g i) : i ∈ L g ∧ (0 : ℕ) < lv g i := by
  have e : (pdats m 0 c).owed t = if t.val = 0 then debt c 1 1 1 else 0 := rfl
  rw [e] at h
  split at h
  · rcases debt_pos h with ⟨j, -, rfl⟩ | ⟨j, -, rfl⟩ | ⟨j, -, rfl⟩
    · exact ⟨by rw [L_tc]; exact Finset.mem_singleton_self _, by rw [lv_bar]; decide⟩
    · exact ⟨by rw [L_tc]; exact Finset.mem_singleton_self _, by rw [lv_dma]; decide⟩
    · exact ⟨by rw [L_tc]; exact Finset.mem_singleton_self _, by rw [lv_dma]; decide⟩
  · exact absurd h (Nat.lt_irrefl 0)

theorem enters : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ Scratch c ∗ ∃ r, prngReg c r) from rfl,
    show (Pipeline.scopedRest (Pipeline.pin (pcfgs (F := F)) adm 0).spec c : sProp (MM F)) = Scratch c from scopedRest0_eq c]
  iintro ⟨Hs, Hp, -, HX⟩
  isplitl [HX]; · iexact HX
  isplitl [Hs]; · iexact Hs
  iexact Hp

theorem leaves : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(Yk c ∗ Sems c ∗ Scratch c ∗ ∃ r, prngReg c r) from rfl,
    show (Pipeline.scopedRest (Pipeline.pin (pcfgs (F := F)) adm 0).spec c : sProp (MM F)) = Scratch c from scopedRest0_eq c, ownSems_eq,
    show (StableHlo.held (c.tc : Thread nD τ) ∅ (V₂ m c) : sProp (MM F)) = BI.emp from bigSep_empty]
  iintro ⟨HY, Hd, Hs, Hp⟩
  isplitl [Hs]; · iexact Hs
  isplitl [Hp]; · iexact Hp
  isplitr; · iempintro
  isplitl [Hd]; · iexact Hd
  iexact HY

theorem arrays_in (w : Fin 6) : (dat m c).arrAt w 0 = V₁ m c (Proc.devRef .tc (Pipeline.arrRef spec0 w)) := rfl
theorem arrays_out (w : Fin 6) : (dat m c).arrAt w cfg0.N = V₂ m c (Proc.devRef .tc (Pipeline.arrRef spec0 w)) := by
  fin_cases w
  · exact ((dat m c).arrAt_in 0 rfl _).trans (V₂_ne m c (Proc.devRef .tc main_v1) (by decide)).symm
  · exact ((dat m c).arrAt_in 1 rfl _).trans (V₂_ne m c (Proc.devRef .tc main_arg1) (by decide)).symm
  · exact ((dat m c).arrAt_in 2 rfl _).trans (V₂_ne m c (Proc.devRef .tc main_v3) (by decide)).symm
  · exact ((dat m c).arrAt_in 3 rfl _).trans (V₂_ne m c (Proc.devRef .tc main_v5) (by decide)).symm
  · exact ((dat m c).arrAt_in 4 rfl _).trans (V₂_ne m c (Proc.devRef .tc main_arg4) (by decide)).symm
  · exact (V₂_out m c).symm

/-- The semaphores of the windows are at the bottom. -/
theorem staged_zero : ∀ (w : Fin 6) (s : Fin (spec0 w).nbuf), lv (((0 : Dev nD) : Thread nD τ), .dma ((spec0 w).sem s)) () ≤ 0 := by decide

theorem own_sems : Pipeline.OwnSemFacts spec0 osem := by decide

set_option backward.isDefEq.respectTransparency.types false in
/-- The kernel's region, with what it owes its peers. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ rest (Finset.empty_subset _) launch0.toP rfl (fun c => (body m c).loose)
    (fun _ => 0) (fun c => debt c 1 1 1) (fun c => (owed_zero m c).trans (zero_add _).symm) (owed_last m) (fun _ => rfl)
    (fun c w => by unfold Pipeline.Dat.share; split <;> rfl)
    (V₁ m) (V₂ m) (fun c b hb => V₂_ne m c b (by
      rintro rfl; exact (Finset.mem_sdiff.mp (Finset.mem_sdiff.mp hb).1).2 out_mem))
    (Tk m) Yk (Xk m) Yk (opens m) (enters m) (leaves m)
    (fun c => by iintro H; imodintro; iexact H)
    (fun _ => 0)
    ⟨fun c w s => by rw [L_tc]; exact Finset.mem_singleton_self _, fun _ w s => staged_zero w s, fun c t g i h => cut m c t g i h⟩
    (fun _ => iprop(emp))
    (fun c w => arrays_in m c w) (fun c w => arrays_out m c w)

end Cert.Proto

end
-- ==== Proof.Deal.lean ====
/-
  What the launch deals to each device: the waits it may make and the duties it pays.
-/
module

public import proofs.«01_k».proof.Proof.Segment

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem bar_eq (c d : Dev nD) : barC c = barC d ↔ c = d := ⟨fun h => barEmb.injective h, fun h => by rw [h]⟩
theorem dma_eq (c d : Dev nD) (k k' : Fin 4) (h h' : Dev nD) : dmaC c k h = dmaC d k' h' ↔ c = d ∧ k = k' ∧ h = h' := by
  constructor
  · intro e
    have e' : (c, (k, h)) = (d, (k', h')) := dmaEmb.injective e
    exact ⟨congrArg Prod.fst e', congrArg (fun x => x.2.1) e', congrArg (fun x => x.2.2) e'⟩
  · rintro ⟨rfl, rfl, rfl⟩; rfl
theorem bar_ne (c d : Dev nD) (k : Fin 4) (h : Dev nD) : barC c ≠ dmaC d k h := fun e => by
  have := congrArg Prod.snd e; cases this

/-- What a device owes at a cell when it starts. -/
theorem debt_at (d : Dev nD) (g : GSem nD τ sig) : debt d 1 1 1 g ()
    = (∑ j ∈ Finset.Ico 1 8, if g = barC (rot d j) then 1 else 0) + (∑ j ∈ Finset.Ico 1 8, if g = dmaC (rot d j) 1 d then N1 else 0)
      + ∑ j ∈ Finset.Ico 1 8, if g = dmaC (rot d j) 3 d then N2 else 0 := by
  unfold debt
  rw [Pi.add_apply, Finsupp.add_apply, Pi.add_apply, Finsupp.add_apply, Finset.sum_apply, Finsupp.finset_sum_apply, Finset.sum_apply, Finsupp.finset_sum_apply,
    Finset.sum_apply, Finsupp.finset_sum_apply]
  simp only [tallyAt_apply, and_true]

/-- Each device is signalled by its seven peers, -/
theorem seven : ∀ c : Dev nD, (∑ d : Dev nD, ∑ j ∈ Finset.Ico 1 8, if c = rot d j then 1 else 0) = 7 := by decide
/-- and each peer lands on it once. -/
theorem once : ∀ c h : Dev nD, h ≠ c → (∑ d : Dev nD, ∑ j ∈ Finset.Ico 1 8, if c = rot d j ∧ h = d then 1 else 0) = 1 := by decide

theorem once_times (n : ℕ) (c h : Dev nD) (hc : h ≠ c) : (∑ d : Dev nD, ∑ j ∈ Finset.Ico 1 8, if c = rot d j ∧ h = d then n else 0) = n := by
  have e := congrArg (fun k => k * n) (once c h hc)
  rw [Finset.sum_mul, Nat.one_mul] at e
  refine Eq.trans ?_ e
  refine Finset.sum_congr rfl fun d _ => ?_
  rw [Finset.sum_mul]
  refine Finset.sum_congr rfl fun j _ => ?_
  rw [ite_mul, Nat.one_mul, Nat.zero_mul]

theorem owed_bar (c : Dev nD) : ∑ d : Dev nD, debt d 1 1 1 (barC c) () = 7 := by
  rw [← seven c]
  refine Finset.sum_congr rfl fun d _ => ?_
  rw [debt_at, Finset.sum_congr rfl fun j _ => if_congr (bar_eq c (rot d j)) rfl rfl, Finset.sum_eq_zero fun j _ => if_neg (bar_ne c _ _ _),
    Finset.sum_eq_zero fun j _ => if_neg (bar_ne c _ _ _), Nat.add_zero, Nat.add_zero]
theorem owed_one (c h : Dev nD) (hc : h ≠ c) : ∑ d : Dev nD, debt d 1 1 1 (dmaC c 1 h) () = N1 := by
  rw [← once_times N1 c h hc]
  refine Finset.sum_congr rfl fun d _ => ?_
  rw [debt_at, Finset.sum_eq_zero fun j _ => if_neg (bar_ne _ c _ _).symm,
    Finset.sum_congr (g := fun j => if c = rot d j ∧ h = d then N1 else 0) rfl fun j _ => if_congr ((dma_eq c (rot d j) 1 1 h d).trans (by simp)) rfl rfl,
    Finset.sum_eq_zero fun j _ => if_neg (fun e => absurd ((dma_eq c (rot d j) 1 3 h d).mp e).2.1 (by decide)), Nat.zero_add, Nat.add_zero]
theorem owed_three (c h : Dev nD) (hc : h ≠ c) : ∑ d : Dev nD, debt d 1 1 1 (dmaC c 3 h) () = N2 := by
  rw [← once_times N2 c h hc]
  refine Finset.sum_congr rfl fun d _ => ?_
  rw [debt_at, Finset.sum_eq_zero fun j _ => if_neg (bar_ne _ c _ _).symm,
    Finset.sum_eq_zero fun j _ => if_neg (fun e => absurd ((dma_eq c (rot d j) 3 1 h d).mp e).2.1 (by decide)),
    Finset.sum_congr (g := fun j => if c = rot d j ∧ h = d then N2 else 0) rfl fun j _ => if_congr ((dma_eq c (rot d j) 3 3 h d).trans (by simp)) rfl rfl, Nat.zero_add, Nat.zero_add]

/-- What the devices owe at the start. -/
abbrev O₀ : Dev nD → CellTallies nD τ sig Unit := fun d => debt d 1 1 1

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

set_option backward.proofsInPublic true in
def osemEmb : Fin 4 × Dev nD ↪ SemLoc sig := ⟨osem, fun x y h => by
  have h₂ : dmaS x.1 x.2 = dmaS y.1 y.2 := by injection h
  exact Prod.ext (dmaS_inj h₂).1 (dmaS_inj h₂).2⟩

theorem osem_sub : Finset.univ.map osemEmb ⊆ Finset.univ.erase (SemLoc.reg barS) := fun x hx => by
  obtain ⟨y, -, rfl⟩ := Finset.mem_map.mp hx
  exact Finset.mem_erase.mpr ⟨(fun e => nomatch e), Finset.mem_univ _⟩

theorem amt_one : amt 1 = N1 := rfl
theorem amt_three : amt 3 = N2 := rfl

/-- The waits the launch gives to a device. -/
theorem credits (c : Dev nD) : (Pipeline.launchCred O₀ c : sProp (MM F)) ⊢ Creds c := by
  unfold Pipeline.launchCred Creds
  rw [bigSep_univ_at _ (SemLoc.reg barS), launch_at (barC c) 7 (owed_bar c)]
  refine sep_mono_right ?_
  refine BIBase.Entails.trans (Q := bigSep (Finset.univ.map osemEmb) fun sm : SemLoc sig =>
    (cred (tallyOn ((c.tc : Thread nD τ), sm) (launchCredit (Pipeline.owing O₀) 0 ((c.tc : Thread nD τ), sm))) : sProp (MM F))) (bigSep_subset osem_sub) ?_
  rw [bigSep_map, families]
  iintro ⟨-, H1, -, H3⟩
  isplitl [H1]
  · iapply (show (bigSep Finset.univ fun h : Dev nD => (cred (tallyOn (dmaC c 1 h) (launchCredit (Pipeline.owing O₀) 0 (dmaC c 1 h))) : sProp (MM F)))
      ⊢ bigSep (Finset.univ.erase c) fun d => (cred (tallyAt (dmaC c 1 d) () (amt 1)) : sProp (MM F)) from
        (bigSep_subset (Finset.erase_subset _ _)).trans (bigSep_mono fun d hd => by
          rw [launch_at (dmaC c 1 d) N1 (owed_one c d (Finset.ne_of_mem_erase hd))]; exact BI.Entails.refl _))
    iexact H1
  iapply (show (bigSep Finset.univ fun h : Dev nD => (cred (tallyOn (dmaC c 3 h) (launchCredit (Pipeline.owing O₀) 0 (dmaC c 3 h))) : sProp (MM F)))
    ⊢ bigSep (Finset.univ.erase c) fun d => (cred (tallyAt (dmaC c 3 d) () (amt 3)) : sProp (MM F)) from
      (bigSep_subset (Finset.erase_subset _ _)).trans (bigSep_mono fun d hd => by
        rw [launch_at (dmaC c 3 d) N2 (owed_three c d (Finset.ne_of_mem_erase hd))]; exact BI.Entails.refl _))
  iexact H3

/-! ## The tokens -/

def barTok : Dev nD × Dev nD ↪ GSem nD τ sig × ℕ × Dev nD := ⟨fun x => (barC x.1, 0, x.2), fun x y h =>
  Prod.ext ((bar_eq _ _).mp (congrArg Prod.fst h)) (congrArg (fun t => t.2.2) h)⟩
def dmaTok : Dev nD × (Fin 4 × Dev nD) ↪ GSem nD τ sig × ℕ × Dev nD := ⟨fun x => (dmaC x.1 x.2.1 x.2.2, 0, 0), fun _ _ h => dmaEmb.injective (congrArg Prod.fst h)⟩
def toks : Finset (GSem nD τ sig × ℕ × Dev nD) := Finset.univ.map barTok ∪ Finset.univ.map dmaTok

theorem toks_apart : Disjoint (Finset.univ.map barTok) (Finset.univ.map dmaTok) := by
  rw [Finset.disjoint_left]
  rintro x h₁ h₂
  obtain ⟨a, -, rfl⟩ := Finset.mem_map.mp h₁
  obtain ⟨b, -, h⟩ := Finset.mem_map.mp h₂
  exact bar_ne _ _ _ _ (congrArg Prod.fst h).symm

theorem swap (Φ : Dev nD → Dev nD → sProp (MM F)) :
    (bigSep Finset.univ fun d => bigSep Finset.univ fun c => Φ d c) = bigSep Finset.univ fun c => bigSep Finset.univ fun d => Φ d c := by
  rw [← bigSep_univ_prod (fun x : Dev nD × Dev nD => Φ x.1 x.2), bigSep_univ_equiv (Equiv.prodComm (Dev nD) (Dev nD)), bigSep_univ_prod]
  rfl

/-- Every duty's token, to the device that pays it. -/
theorem toks_dealt : bigSep toks (fun x => (dutyTok ER x.1 x.2.1 x.2.2 : sProp (MM F))) ⊢ bigSep Finset.univ fun c : Dev nD => Toks c := by
  unfold toks Toks
  rw [bigSep_union toks_apart, bigSep_map, bigSep_map, bigSep_univ_prod, bigSep_univ_prod,
    show (fun d : Dev nD => bigSep Finset.univ fun y : Fin 4 × Dev nD => (dutyTok ER (dmaTok (d, y)).1 (dmaTok (d, y)).2.1 (dmaTok (d, y)).2.2 : sProp (MM F)))
      = fun d : Dev nD => iprop((bigSep Finset.univ fun h => dutyTok ER (dmaC d 0 h) 0 0) ∗ (bigSep Finset.univ fun h => dutyTok ER (dmaC d 1 h) 0 0)
        ∗ (bigSep Finset.univ fun h => dutyTok ER (dmaC d 2 h) 0 0) ∗ bigSep Finset.univ fun h => dutyTok ER (dmaC d 3 h) 0 0) from funext fun d => families _,
    bigSep_sep', bigSep_sep', bigSep_sep', swap (fun d h => dutyTok ER (barTok (d, h)).1 (barTok (d, h)).2.1 (barTok (d, h)).2.2), swap (fun d h => dutyTok ER (dmaC d 1 h) 0 0), swap (fun d h => dutyTok ER (dmaC d 3 h) 0 0),
    bigSep_sep', bigSep_sep', bigSep_sep', bigSep_sep']
  have e (Φ : Dev nD → Dev nD → sProp (MM F)) : (bigSep Finset.univ fun c => bigSep Finset.univ (Φ c)) ⊢ bigSep Finset.univ fun c => bigSep (Finset.univ.erase c) (Φ c) :=
    bigSep_mono fun c _ => bigSep_subset (Finset.erase_subset _ _)
  change iprop(_ ∗ _) ⊢ _
  iintro ⟨Hb, H0, H1, H2, H3⟩
  isplitl [Hb]; · iapply (e fun c d => dutyTok ER (barC d) 0 c); iexact Hb
  isplitl [H1]; · iapply (e fun c d => dutyTok ER (dmaC d 1 c) 0 0); iexact H1
  isplitl [H3]; · iapply (e fun c d => dutyTok ER (dmaC d 3 c) 0 0); iexact H3
  isplitl [H0]; · iexact H0
  iexact H2

end Cert.Proto

end
-- ==== Proof.Launch.lean ====
/-
  The run of the eight devices.
-/
module

public import proofs.«01_k».proof.Proof.Deal

@[expose] public section

set_option maxRecDepth 16384

noncomputable section

namespace Cert.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg) (c : Dev nD)

/-- What rides beside the buffers up to the kernel. -/
def Ride : sProp (MM F) := iprop(Tk m c ∗ (∃ r, prngReg c r) ∗ ∃ W, owes (c : Thread nD τ) (debt c 1 1 1) W)

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h => List.forall_iff_forall_mem.mp hostOps0_fresh op h

/-- The reshapes before the kernel. -/
def host : Pipeline.HostSeg (Name := ℕ) (U := UU) (pcfgs (F := F)) defs₀ 𝒱₀ L lv :=
  Pipeline.HostSeg.ofOps _ _ _ _ _ (Pipeline.ucRefs τ sig) hostOps0 ops_sub ops_fresh (V₀ m) (Ride m)

/-- The program's two segments. -/
def segs : List (Pipeline.Seg (pcfgs (F := F)) adm (pdats m) () defs₀ 𝒱₀ L lv) := [.host (host m), .region (reg m)]

theorem main_eq : main (F := F) c = Pipeline.Seg.run (segs m) := main_segs adm (pdats m) () 𝒱₀ L lv (host m) (reg m) rfl c

theorem arrays_sub : Pipeline.arrRefs (τ := τ) spec0 ⊆ Pipeline.ucRefs τ sig := by decide

theorem reg_pre : iprop(StableHlo.held (c : Thread nD τ) (Pipeline.ucRefs τ sig) (V₁ m c) ∗ Ride m c) ⊢ (reg m).pre c := by
  change _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + debt c 1 1 1) Wd)
  rw [zero_add, StableHlo.held_sub_split (c : Thread nD τ) arrays_sub (V₁ m c)]
  unfold Ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device ends with. -/
abbrev Tₙ : sProp (MM F) := iprop(StableHlo.held (c : Thread nD τ) (Pipeline.ucRefs τ sig) (V₂ m c) ∗ semVal (barC c) 0)

theorem reg_post : (reg m).post c ⊢ iprop(Tₙ m c ∗ ∃ W, owes (c : Thread nD τ) (0 : CellTallies nD τ sig Unit) W) := by
  change iprop(StableHlo.held (c.tc : Thread nD τ) (Pipeline.arrRefs (τ := τ) spec0) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  unfold Tₙ Yk
  rw [StableHlo.held_sub_split (c : Thread nD τ) arrays_sub (V₂ m c)]
  iintro ⟨Ha, -, ⟨Hr, -⟩, Hb, HO⟩
  isplitr [HO]
  · isplitl [Ha Hr]
    · isplitl [Ha]; · iexact Ha
      iexact Hr
    iexact Hb
  iexact HO

theorem sems_eq : (unscopedSems0 c : sProp (MM F)) = semVal (barC c) 0 := by
  unfold unscopedSems0
  rw [show (Finset.univ.filter fun sm : SemLoc sig => ¬ sm.isScoped .tc) = {SemLoc.reg barS} from by decide, bigSep_singleton]

/-! ## The launch -/

/-- A resource of all the devices, kept with the first. -/
def first (X : sProp (MM F)) (c : Dev nD) : sProp (MM F) := if c = 0 then X else iprop(emp)
theorem first_eq (X : sProp (MM F)) : bigSep Finset.univ (first X) = X := by
  rw [bigSep_univ_at _ (0 : Dev nD), bigSep_congr (s := Finset.univ.erase (0 : Dev nD)) (Ψ := fun _ => (BI.emp : sProp (MM F)))
      fun c hc => by unfold first; rw [if_neg (Finset.ne_of_mem_erase hc)]; rfl, bigSep_emp_const]
  unfold first; rw [if_pos rfl]
  exact BI.equiv_iff.mp sep_emp

theorem pipe_inj : Function.Injective (Pipeline.cellOf (nD := nD) (τ := τ) (Pipeline.pin (pcfgs (F := F)) adm)) := cellOf_inj

def u₀ : UU :=
  (initOf (Pipeline.cells (Pipeline.pin (pcfgs (F := F)) adm) pipe_inj) (Pipeline.launchToks (Pipeline.pin (pcfgs (F := F)) adm) pipe_inj),
    launchOf barCells dmaCells toks)
def G : Dev nD → sProp (MM F) := first (BI.own (ER (launchOf barCells dmaCells toks)))

/-- What a device enters the program with. -/
abbrev T₀ : sProp (MM F) := iprop(StableHlo.held (c : Thread nD τ) (Pipeline.ucRefs τ sig) (V₀ m c) ∗ Ride m c)
/-- What of it is not the protocol's. -/
def Bundle : sProp (MM F) :=
  iprop(StableHlo.held (c : Thread nD τ) (Pipeline.ucRefs τ sig) (V₀ m c) ∗ Creds c ∗ owes (c : Thread nD τ) (debt c 1 1 1) ∅ ∗ ∃ r, prngReg c r)

theorem start (κ : GSem nD τ sig → ℕ) : iprop(Records (pieceV m) (ctxV m) κ ∗ (Linear c ∗ Bundle m c)) ⊢ T₀ m c := by
  unfold Bundle T₀ Ride Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

theorem cells_apart : Disjoint (barCells : Finset (GSem nD τ sig)) dmaCells := by
  rw [Finset.disjoint_left]
  rintro g h₁ h₂
  obtain ⟨a, -, rfl⟩ := Finset.mem_map.mp h₁
  obtain ⟨b, -, h⟩ := Finset.mem_map.mp h₂
  exact bar_ne _ _ _ _ h.symm

theorem core : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Bundle m c ∗ (semVal (barC c) 0 ∗ G c)) : sProp (MM F)) := by
  rw [show unscopedBufs c (fun b => m ((c : Thread nD τ).loc b)) = StableHlo.held (c : Thread nD τ) (Pipeline.ucRefs τ sig) (V₀ m c) from
    Pipeline.unscopedBufs_held c (V₀ m c), sems_eq]
  unfold Bundle
  iintro ⟨Hh, Hus, HO, Hcr, Hp, HG⟩
  ihave Hc := (credits (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- The cells are funded, their invariants made and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (MM F)) := by
  have hv : bigSep Finset.univ (fun c : Dev nD => (semVal (barC c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barC c) 0 ∅ 0 : sProp (MM F))) :=
    Entails.of_eq (bigSep_map (s := Finset.univ) barEmb (Φ := fun g : GSem nD τ sig => (atPos ER g 0 ∅ 0 : sProp (MM F))))
  have hr : bigSep barCells (fun g => (reached ER g 0 : sProp (MM F))) ⊢ bigSep Finset.univ (fun c : Dev nD => (reached ER (barC c) 0 : sProp (MM F))) :=
    Entails.of_eq (bigSep_map (s := Finset.univ) barEmb (Φ := fun g : GSem nD τ sig => (reached ER g 0 : sProp (MM F))))
  have hopen : bigSep dmaCells (fun g => (openTok ER g : sProp (MM F)))
      ⊢ bigSep Finset.univ (fun c : Dev nD => bigSep Finset.univ fun x : Fin 4 × Dev nD => openTok ER (dmaC c x.1 x.2)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Bundle m c ∗ (semVal (barC c) 0 ∗ G c)) : sProp (MM F)) from bigSep_mono fun c _ => core m ρ c) $$ H
  ihave H2 := (Entails.of_eq (bigSep_sep' (M := MM F) Finset.univ (Bundle m) fun c => iprop(semVal (barC c) 0 ∗ G c))) $$ H'; icases H2 with ⟨HB, H3⟩
  ihave H4 := (Entails.of_eq (bigSep_sep' (M := MM F) Finset.univ (fun c => semVal (barC c) 0) G)) $$ H3; icases H4 with ⟨Hv, HG⟩
  ihave Hu := (show bigSep Finset.univ (G (F := F)) ⊢ BI.own (ER (launchOf barCells dmaCells toks)) from
    Entails.of_eq (first_eq (F := F) (BI.own (ER (launchOf barCells dmaCells toks))))) $$ HG
  imod (Rounds.fund_launch ER (Rd (pieceV m) (ctxV m)) cells_apart (fun g _ h => h) toks) $$ [Hv Hu] with ⟨%κ, -, #Hinv, #Hr, Hat, Hopen, Htok⟩
  · isplitl [Hv]
    · iapply hv $$ Hv
    · iexact Hu
  imodintro
  iapply (bigSep_with_persistent (R := Records (pieceV m) (ctxV m) κ) (Φ := fun c => iprop(Linear c ∗ Bundle m c)) fun c _ => start m c κ)
  isplitr
  · unfold Records
    isplitr; · iexact Hinv
    iapply hr; iexact Hr
  iapply (Entails.of_eq (bigSep_sep' (M := MM F) Finset.univ (fun c => Linear c) (Bundle m)).symm)
  isplitr [HB]
  · unfold Linear
    rw [bigSep_sep', bigSep_sep']
    isplitl [Hat]; · iapply hat $$ Hat
    isplitl [Hopen]; · iapply hopen $$ Hopen
    iapply (toks_dealt (F := F)); iexact Htok
  iexact HB

theorem unscoped_eq : ∀ sm : SemLoc sig, sm.isScoped .tc = false → sm = .reg barS := by decide

/-- The buffers that outlive the kernel. -/
theorem kept_eq (W : Valuation τ sig (Elt F)) : (StableHlo.held (c : Thread nD τ) (Pipeline.ucRefs τ sig) W : sProp (MM F))
    = iprop((((c : Thread nD τ).loc main_arg0) ↦{fullShare} W (Proc.devRef .tc main_arg0)) ∗ (((c : Thread nD τ).loc main_arg1) ↦{fullShare} W (Proc.devRef .tc main_arg1)) ∗ (((c : Thread nD τ).loc main_arg2) ↦{fullShare} W (Proc.devRef .tc main_arg2)) ∗ (((c : Thread nD τ).loc main_arg3) ↦{fullShare} W (Proc.devRef .tc main_arg3)) ∗ (((c : Thread nD τ).loc main_arg4) ↦{fullShare} W (Proc.devRef .tc main_arg4)) ∗ (((c : Thread nD τ).loc main_v6) ↦{fullShare} W (Proc.devRef .tc main_v6)) ∗ (((c : Thread nD τ).loc main_v1) ↦{fullShare} W (Proc.devRef .tc main_v1)) ∗ (((c : Thread nD τ).loc main_v2) ↦{fullShare} W (Proc.devRef .tc main_v2)) ∗ (((c : Thread nD τ).loc main_v3) ↦{fullShare} W (Proc.devRef .tc main_v3)) ∗ (((c : Thread nD τ).loc main_v4) ↦{fullShare} W (Proc.devRef .tc main_v4)) ∗ (((c : Thread nD τ).loc main_v5) ↦{fullShare} W (Proc.devRef .tc main_v5))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v6, Proc.devRef .tc main_v1, Proc.devRef .tc main_v2, Proc.devRef .tc main_v3, Proc.devRef .tc main_v4, Proc.devRef .tc main_v5] (by decide) (by decide)]
  rfl

/-- What the final memory of a device is known to hold. -/
def Known (s : MemSt nD τ sig (Elt F)) : Prop :=
  s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_arg3) = V₂ m c main_arg3
    ∧ s.mem ((c : Thread nD τ).loc main_arg4) = V₂ m c main_arg4 ∧ s.mem ((c : Thread nD τ).loc main_v6) = V₂ m c main_v6 ∧ s.sem (barC c) = 0

theorem known (s' : Phys nD τ sig (Elt F)) : iprop(Tₙ m c ∗ SI s') ⊢ (|={Set.univ}=> iprop(⌜Known m c s'.mem⌝ ∗ SI s') : sProp (MM F)) := by
  dsimp only [Tₙ]; rw [kept_eq]
  iintro ⟨⟨⟨H0, H1, H2, H3, H4, H5, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨Buf.eq_of_forall_mem_univ h0, Buf.eq_of_forall_mem_univ h1, Buf.eq_of_forall_mem_univ h2, Buf.eq_of_forall_mem_univ h3, Buf.eq_of_forall_mem_univ h4,
      Buf.eq_of_forall_mem_univ h5, by simpa using hb⟩
  iexact HSI

theorem V₂_arg0 : V₂ m c main_arg0 = m ((c : Thread nD τ).loc main_arg0) := (V₂_ne m c (Proc.devRef .tc main_arg0) (by decide)).trans (V_main_arg0 m c)
theorem V₂_arg1 : V₂ m c main_arg1 = m ((c : Thread nD τ).loc main_arg1) := (V₂_ne m c (Proc.devRef .tc main_arg1) (by decide)).trans (V_main_arg1 m c)
theorem V₂_arg2 : V₂ m c main_arg2 = m ((c : Thread nD τ).loc main_arg2) := (V₂_ne m c (Proc.devRef .tc main_arg2) (by decide)).trans (V_main_arg2 m c)
theorem V₂_arg3 : V₂ m c main_arg3 = m ((c : Thread nD τ).loc main_arg3) := (V₂_ne m c (Proc.devRef .tc main_arg3) (by decide)).trans (V_main_arg3 m c)
theorem V₂_arg4 : V₂ m c main_arg4 = m ((c : Thread nD τ).loc main_arg4) := (V₂_ne m c (Proc.devRef .tc main_arg4) (by decide)).trans (V_main_arg4 m c)

set_option backward.isDefEq.respectTransparency.types false in
/-- The run: on every memory, with every semaphore at zero, the eight devices finish, their arguments are as they were, each result is what the
    kernel's single point leaves, and every semaphore is back at zero. -/
theorem run_main [∀ e, Nonempty (Elt F e)] : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1) ∧ r.2.mem ((c : Thread nD τ).loc main_arg2) = m ((c : Thread nD τ).loc main_arg2)
        ∧ r.2.mem ((c : Thread nD τ).loc main_arg3) = m ((c : Thread nD τ).loc main_arg3) ∧ r.2.mem ((c : Thread nD τ).loc main_arg4) = m ((c : Thread nD τ).loc main_arg4)
        ∧ r.2.mem ((c : Thread nD τ).loc main_v6) = (dat m c).arrAt 5 cfg0.N) ∧ r.2.sem = fun _ => 0) :=
  Pipeline.θ_run_regions_kit_sems (pcfgs (F := F)) adm (pdats m) () pipe_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      iapply (Entails.of_eq (first_eq (F := F) (BI.own (ER (launchOf barCells dmaCells toks)))).symm); iexact HX)
    (T₀ := T₀ m) (Tₙ := Tₙ m)
    (hch := ⟨fun c => .rfl, fun c => reg_pre m c, fun c => reg_post m c⟩)
    (hinit := init m ρ)
    (QY := Known m)
    (hfin := known m)
    (hQ := fun s h hs => ⟨fun c => by
        obtain ⟨h0, h1, h2, h3, h4, h5, -⟩ := h c
        exact ⟨h0.trans (V₂_arg0 m c), h1.trans (V₂_arg1 m c), h2.trans (V₂_arg2 m c), h3.trans (V₂_arg3 m c), h4.trans (V₂_arg4 m c), h5.trans (V₂_out m c)⟩,
      sem_eq_zero hs fun c sm hsm => by
        obtain rfl := unscoped_eq sm hsm
        exact (h c).2.2.2.2.2.2⟩)

end Cert.Proto

end
-- ==== Proof.FrameProof.lean ====
/-
  The frames of the kernel, at the machine's floats and at the extended reals.
-/
module

public import proofs.«01_k».proof.Proof.Launch
public import proofs.«01_k».proof.Proof.Gen.Kernel
public import proofs.«01_k».proof.Defs

@[expose] public section

set_option maxRecDepth 16384

noncomputable section

namespace Cert.Proto

open Idealize.ShloMosaic Idealize.SL.Sem

/-- The kernel over the extended reals finishes, leaves its arguments as they were and every semaphore at zero. -/
theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main (F := Ideal) m ρ)

local instance : Cert.Kernel.Facts := Cert.Kernel.Gen.facts
local instance : Cert.KernelIdeal.Facts := Cert.KernelIdeal.Gen.facts

/-- The printed program and the one read over the extended reals have the same body, line by line. -/
theorem body_same : @Cert.Kernel.cc0__body Bits _ _ = @Cert.KernelIdeal.cc0__body Bits _ _ := rfl

theorem main_same : @Cert.Kernel.main Bits _ = @Cert.KernelIdeal.main Bits _ := rfl

theorem defs₀_same : @Cert.Kernel.defs₀ Bits _ _ = @Cert.KernelIdeal.defs₀ Bits _ _ := by
  unfold Cert.Kernel.defs₀ Cert.KernelIdeal.defs₀
  apply congrArg Defs.onTc
  funext l a
  match l, a with
  | 0, (t, s) => exact rfl

theorem defs_same : @Cert.Kernel.defs Bits _ _ = @Cert.KernelIdeal.defs Bits _ _ :=
  congrArg (fun d => Pipeline.defs (Cert.KernelIdeal.pcfgs (F := Bits)) d) defs₀_same

/-- The kernel at the machine's floats finishes, leaves its arguments as they were and every semaphore at zero. -/
theorem frame_bits : Cert.quiescent_Kernel (hKernel := Cert.Kernel.Gen.facts) := fun m ρ _ => by
  rw [main_same, defs_same]
  exact (θ_run (Cert.KernelIdeal.defs (F := Bits)) _ _).mono
    (fun _ h => ⟨fun c => ⟨(h.1 c).1, (h.1 c).2.1, (h.1 c).2.2.1, (h.1 c).2.2.2.1, (h.1 c).2.2.2.2.1⟩, h.2⟩) (run_main (F := Bits) m ρ)

end Cert.Proto

end
-- ==== Proof.Pay.lean ====
/-
  What a device computes of a head, element by element, over the extended reals.
-/
module

public import proofs.«01_k».proof.Proof.Vals
public import Idealize.ShloMosaic.Lib.Pointwise

@[expose] public section

set_option maxRecDepth 16384

noncomputable section

namespace Cert.Proto

open Cert.KernelIdeal Cert.KernelIdeal.Gen

open Idealize.ShloMosaic
open Idealize.ShloMosaic.TcCoe

/-- The scale of the scores. -/
abbrev scl : EReal := Ideal.ofBits .f32 0x3DB504F3#32

/-- The weight of key `j` for query row `i` of a head: the exponential of the scaled score where the mask lets it, else 0. -/
def wgt (m : IVec S1024x1024 1) (q k : FVec Ideal S1x1024x128 .bf16) (i j : Fin 1024) : EReal :=
  if m (ix2 i j) = 1#1 then Ideal.exp ((∑ d : Fin 128, q (ix3 0 i d) * k (ix3 0 j d)) * scl) else 0

theorem pay72_at (m : IVec S1024x1024 1) (q k : FVec Ideal S1x1024x128 .bf16) (i j : Fin 1024) :
    (k0_pay72 m q k : FVec Ideal S1024x1024 .bf16) (ix2 i j) = wgt m q k i j := by
  unfold wgt
  pointwise [k0_pay72]
  rfl

/-- The eight rows of row sums of a head, out of its weights. -/
def sumsO (p : FVec Ideal S1024x1024 .bf16) : FVec Ideal S8x128 .f32 :=
  let one : FVec Ideal S1x1024 .bf16 := k0_pay35 (F := Ideal)
  let z : FVec Ideal S1x128 .f32 := constant S1x128 .f32 0x00000000#32
  concatenate S8x128 0
    [⟨S1x128, matmul dot_S1x1024_S128x1024_S1x128_1_1_0_0_n_n none one (extractStridedSlice S128x1024 ![0, 0] p slices_S1024x1024_o0_0_S128x1024) z⟩,
     ⟨S1x128, matmul dot_S1x1024_S128x1024_S1x128_1_1_0_0_n_n none one (extractStridedSlice S128x1024 ![128, 0] p slices_S1024x1024_o128_0_S128x1024) z⟩,
     ⟨S1x128, matmul dot_S1x1024_S128x1024_S1x128_1_1_0_0_n_n none one (extractStridedSlice S128x1024 ![256, 0] p slices_S1024x1024_o256_0_S128x1024) z⟩,
     ⟨S1x128, matmul dot_S1x1024_S128x1024_S1x128_1_1_0_0_n_n none one (extractStridedSlice S128x1024 ![384, 0] p slices_S1024x1024_o384_0_S128x1024) z⟩,
     ⟨S1x128, matmul dot_S1x1024_S128x1024_S1x128_1_1_0_0_n_n none one (extractStridedSlice S128x1024 ![512, 0] p slices_S1024x1024_o512_0_S128x1024) z⟩,
     ⟨S1x128, matmul dot_S1x1024_S128x1024_S1x128_1_1_0_0_n_n none one (extractStridedSlice S128x1024 ![640, 0] p slices_S1024x1024_o640_0_S128x1024) z⟩,
     ⟨S1x128, matmul dot_S1x1024_S128x1024_S1x128_1_1_0_0_n_n none one (extractStridedSlice S128x1024 ![768, 0] p slices_S1024x1024_o768_0_S128x1024) z⟩,
     ⟨S1x128, matmul dot_S1x1024_S128x1024_S1x128_1_1_0_0_n_n none one (extractStridedSlice S128x1024 ![896, 0] p slices_S1024x1024_o896_0_S128x1024) z⟩]
    concatenates_S1x128_S1x128_S1x128_S1x128_S1x128_S1x128_S1x128_S1x128_S8x128_d0

theorem sumsO_at (p : FVec Ideal S1024x1024 .bf16) (a : Fin 8) (r : Fin 128) :
    sumsO p (ix2 a r) = ∑ j : Fin 1024, p (ix2 ⟨128 * a.val + r.val, by omega⟩ j) := by
  pointwise [sumsO, k0_pay35]
  fin_cases a <;> first | rfl | simp

/-- A head's sums before any rounding: the weighted values, then the row sums. -/
def partO (p : FVec Ideal S1024x1024 .bf16) (v : FVec Ideal S1x1024x128 .bf16) : FVec Ideal S1032x128 .f32 :=
  concatenate S1032x128 0
    [⟨S1024x128, matmul dot_S1024x1024_S1024x128_S1024x128_1_0_0_1_n_n none p (shapeCast S1024x128 v shapeCasts_S1x1024x128_S1024x128 : FVec Ideal S1024x128 .bf16)
      (constant S1024x128 .f32 0x00000000#32)⟩, ⟨S8x128, sumsO p⟩] concatenates_S1024x128_S8x128_S1032x128_d0

theorem partO_lo (p : FVec Ideal S1024x1024 .bf16) (v : FVec Ideal S1x1024x128 .bf16) (i : Fin 1024) (d : Fin 128) :
    partO p v (ix2 ⟨i.val, by omega⟩ d) = ∑ j : Fin 1024, p (ix2 i j) * v (ix3 0 j d) := by
  pointwise [partO]

theorem partO_hi (p : FVec Ideal S1024x1024 .bf16) (v : FVec Ideal S1x1024x128 .bf16) (a : Fin 8) (r : Fin 128) :
    partO p v (ix2 ⟨1024 + a.val, by omega⟩ r) = ∑ j : Fin 1024, p (ix2 ⟨128 * a.val + r.val, by omega⟩ j) := by
  rw [← sumsO_at p a r]
  pointwise [partO]

theorem headO_eq (m : IVec S1024x1024 1) (q k v : FVec Ideal S1x1024x128 .bf16) :
    (headO (F := Ideal) m q k v : FVec Ideal S1x1032x128 .bf16) = shapeCast S1x1032x128 (partO (k0_pay72 (F := Ideal) m q k) v) shapeCasts_S1032x128_S1x1032x128 := rfl

theorem ownO_eq (m : IVec S1024x1024 1) (q k v : FVec Ideal S1x1024x128 .bf16) (y : FVec Ideal S1x1032x128 .bf16) :
    (ownO (F := Ideal) m q k v y : FVec Ideal S1032x128 .f32) = addf (partO (k0_pay72 (F := Ideal) m q k) v) (shapeCast S1032x128 y shapeCasts_S1x1032x128_S1032x128 : FVec Ideal S1032x128 .bf16) := rfl

end Cert.Proto

end
-- ==== Proof.Out.lean ====
/-
  The context of a head and a device's result, element by element, over the extended reals.
-/
module

public import proofs.«01_k».proof.Proof.Pay
public import Idealize.ShloMosaic.Lib.Pointwise

@[expose] public section

set_option maxRecDepth 16384

noncomputable section

namespace Cert.Proto

open Cert.KernelIdeal Cert.KernelIdeal.Gen

open Idealize.ShloMosaic
open Idealize.ShloMosaic.TcCoe

/-- A sum over all devices, by their distance from `c`. -/
theorem rot_sum (c : Dev nD) (f : Dev nD → EReal) :
    f c + f (rot c 7) + f (rot c 6) + f (rot c 5) + f (rot c 4) + f (rot c 3) + f (rot c 2) + f (rot c 1) = ∑ h : Dev nD, f h := by
  have hb : Function.Bijective fun k : Fin 8 => rot c k.val :=
    Finite.injective_iff_bijective.mp fun j k h => Fin.ext (rot_inj c j.isLt k.isLt h)
  rw [← Function.Bijective.sum_comp hb f, Fin.sum_univ_eight]
  show _ = f (rot c 0) + f (rot c 1) + f (rot c 2) + f (rot c 3) + f (rot c 4) + f (rot c 5) + f (rot c 6) + f (rot c 7)
  rw [rot_zero]
  abel

theorem onehot (r x : Fin 128) :
    (FloatOps.sitofp (F := Ideal) FTy.f32 (BitVec.setWidth 32 (IntOp.cmpi CmpIPredicate.eq (BitVec.ofNat 32 r.val) (BitVec.ofNat 32 x.val))) : EReal)
      = if r = x then 1 else 0 := by
  by_cases h : r = x
  · subst h; simp [IntOp.cmpi, FloatOps.sitofp]
  · have hv : BitVec.ofNat 32 r.val ≠ BitVec.ofNat 32 x.val := fun e => h (Fin.ext (by
      have := congrArg BitVec.toNat e
      rw [BitVec.toNat_ofNat, BitVec.toNat_ofNat] at this
      omega))
    simp [IntOp.cmpi, FloatOps.sitofp, h, beq_eq_false_iff_ne.mpr hv]

/-- A product with the unit matrix picks an entry. -/
theorem sum_onehot (U : Fin 1032 → Fin 128 → EReal) (n : ℕ) (r : Fin 128) (hn : n = r.val) (b b' : Fin 1032) (hb : b.val = b'.val) :
    ∑ x : Fin 128, (FloatOps.sitofp (F := Ideal) FTy.f32
        (BitVec.setWidth 32 (IntOp.cmpi CmpIPredicate.eq (BitVec.ofNat 32 n) (BitVec.ofNat 32 x.val))) : EReal) * U b x = U b' r := by
  subst hn
  obtain rfl := Fin.ext hb
  simp only [onehot, ite_mul, one_mul, zero_mul, Finset.sum_ite_eq, Finset.mem_univ, if_true]

/-- A head's sums over all eight devices, once the last two pieces are in. -/
def allO (T : FVec Ideal S1032x128 .f32) (y y' : FVec Ideal S1x1032x128 .bf16) (r : Fin 1032) (d : Fin 128) : EReal :=
  T (ix2 r d) + y (ix3 0 r d) + y' (ix3 0 r d)

theorem pay81_at (T : FVec Ideal S1032x128 .f32) (y y' : FVec Ideal S1x1032x128 .bf16) (a : Fin 8) (r : Fin 128) (d : Fin 128) :
    (k0_pay81 (F := Ideal) (k0_pay36 (F := Ideal)) T y y' : FVec Ideal S1024x128 .bf16) (ix2 ⟨128 * a.val + r.val, by omega⟩ d)
      = Ideal.div (allO T y y' ⟨128 * a.val + r.val, by omega⟩ d) (allO T y y' ⟨1024 + a.val, by omega⟩ r) := by
  pointwise [k0_pay81, k0_pay36]
  refine congrArg (Ideal.div _) ?_
  split_ifs <;> refine sum_onehot (allO T y y') _ r (by omega) _ _ ?_
  all_goals simp only [Fin.coe_ofNat_eq_mod]
  all_goals omega

theorem rowsOf_at (X : FVec Ideal S1024x1024 .bf16) (h : Dev nD) (d : Fin 128) (n : Fin 1024) :
    (rowsOf (F := Ideal) X h : FVec Ideal S128x1024 .bf16) (ix2 d n) = X (ix2 ⟨128 * h.val + d.val, by have := dev_lt h; omega⟩ n) := by
  refine congrArg X ?_
  funext k
  fin_cases k <;> exact Fin.ext (by simp [Rect.emb, Rect.unit])

/-- The result of a device at an index: its own head's product, then those of the seven that arrive. -/
theorem outO_at (c : Dev nD) (X : FVec Ideal S1024x1024 .bf16) (t : FVec Ideal S1024x128 .bf16) (y : Dev nD → FVec Ideal S1x1024x128 .bf16)
    (i n : Fin 1024) (ht : ∀ d, t (ix2 i d) = y c (ix3 0 i d)) :
    (outO (F := Ideal) c X t y : FVec Ideal S1x1024x1024 .f32) (ix3 0 i n)
      = ∑ h : Dev nD, ∑ d : Fin 128, y h (ix3 0 i d) * X (ix2 ⟨128 * h.val + d.val, by have := dev_lt h; omega⟩ n) := by
  pointwise [outO, k0_pay89, k0_pay88, k0_pay87, k0_pay86, k0_pay85, k0_pay84, k0_pay83]
  simp only [ht, rowsOf_at]
  exact rot_sum c fun h => ∑ d : Fin 128, y h (ix3 0 i d) * X (ix2 ⟨128 * h.val + d.val, by have := dev_lt h; omega⟩ n)

end Cert.Proto

end
-- ==== Proof.Words.lean ====
/-
  The words both programs compute their masks of, in plain numbers: blocks of 64, by a division that rounds down, and the
  remainder by three.
-/
module

public import Idealize.ShloMosaic.Lib.Pointwise

@[expose] public section

set_option maxRecDepth 16384

noncomputable section

namespace Cert.Words

open Idealize.ShloMosaic

/-- Whether query row `i` attends to key `j`: the blocks of 64 they lie in are the same, the key's is the first, or their sum
is a multiple of three. -/
def kept (i j : ℕ) : Prop := i / 64 = j / 64 ∨ j / 64 = 0 ∨ (i / 64 + j / 64) % 3 = 0
instance (i j : ℕ) : Decidable (kept i j) := inferInstanceAs (Decidable (_ ∨ _ ∨ _))

/-- A word divided by 64, rounding down, as the host computes it, -/
def floorH (x : BitVec 32) : BitVec 32 :=
  Scalar.select
    (IntOp.andi
      (IntOp.cmpi (w := 32) .ne (if x = 0 then 0 else if x.msb = true then -1 else 1) (if 64#32 = 0 then 0 else if (64#32).msb = true then -1 else 1))
      (IntOp.cmpi .ne (IntOp.remsi ArithUnit.host x 64#32) 0#32))
    (IntOp.subi (IntOp.divsi ArithUnit.host x 64#32) 1#32) (IntOp.divsi ArithUnit.host x 64#32)
/-- and as a device does. -/
def floorV (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32) (IntOp.divsi ArithUnit.vector x 64#32)

theorem floorH_at : ∀ i : Fin 8192, floorH (BitVec.ofNat 32 i.val) = BitVec.ofNat 32 (i.val / 64) := by decide +kernel
theorem floorV_at : ∀ i : Fin 8192, floorV (BitVec.ofNat 32 i.val) = BitVec.ofNat 32 (i.val / 64) := by decide +kernel

/-- The divisor three, as both compute it. -/
def three : BitVec 32 := Scalar.select (IntOp.cmpi .eq 3#32 0#32) 1#32 3#32

/-- The mask of a row of block `a` and a key of block `b`, as the host computes it, -/
def keptH (a b : BitVec 32) : BitVec 1 :=
  IntOp.ori (IntOp.ori (IntOp.cmpi .eq a b) (IntOp.cmpi .eq b 0#32))
    (IntOp.cmpi .eq
      (Scalar.select
        (IntOp.andi (IntOp.cmpi .ne (IntOp.cmpi .slt (IntOp.remsi ArithUnit.host (IntOp.addi a b) three) 0#32) (IntOp.cmpi .slt three 0#32))
          (IntOp.cmpi .ne (IntOp.remsi ArithUnit.host (IntOp.addi a b) three) 0#32))
        (IntOp.addi (IntOp.remsi ArithUnit.host (IntOp.addi a b) three) three) (IntOp.remsi ArithUnit.host (IntOp.addi a b) three))
      0#32)
/-- and as a device does. -/
def keptV (a b : BitVec 32) : BitVec 1 :=
  IntOp.ori (IntOp.ori (IntOp.cmpi .eq a b) (IntOp.cmpi .eq b 0#32))
    (IntOp.cmpi .eq
      (Scalar.select
        (IntOp.andi (IntOp.xori (IntOp.cmpi .slt (IntOp.remsi ArithUnit.vector (IntOp.addi a b) three) 0#32) (IntOp.cmpi .slt three 0#32))
          (IntOp.cmpi .ne (IntOp.remsi ArithUnit.vector (IntOp.addi a b) three) 0#32))
        (IntOp.addi (IntOp.remsi ArithUnit.vector (IntOp.addi a b) three) three) (IntOp.remsi ArithUnit.vector (IntOp.addi a b) three))
      0#32)

theorem keptH_blk : ∀ (a : Fin 16) (b : Fin 128), keptH (BitVec.ofNat 32 a.val) (BitVec.ofNat 32 b.val) = 1#1 ↔
    (a.val = b.val ∨ b.val = 0 ∨ (a.val + b.val) % 3 = 0) := by decide +kernel
theorem keptV_blk : ∀ (a : Fin 16) (b : Fin 128), keptV (BitVec.ofNat 32 a.val) (BitVec.ofNat 32 b.val) = 1#1 ↔
    (a.val = b.val ∨ b.val = 0 ∨ (a.val + b.val) % 3 = 0) := by decide +kernel

theorem keptH_at {i j : ℕ} (hi : i < 1024) (hj : j < 8192) : keptH (BitVec.ofNat 32 (i / 64)) (BitVec.ofNat 32 (j / 64)) = 1#1 ↔ kept i j :=
  keptH_blk ⟨i / 64, by omega⟩ ⟨j / 64, by omega⟩
theorem keptV_at {i j : ℕ} (hi : i < 1024) (hj : j < 8192) : keptV (BitVec.ofNat 32 (i / 64)) (BitVec.ofNat 32 (j / 64)) = 1#1 ↔ kept i j :=
  keptV_blk ⟨i / 64, by omega⟩ ⟨j / 64, by omega⟩

end Cert.Words

end
-- ==== Proof.MaskKer.lean ====
/-
  A device's mask in plain numbers.
-/
module

public import proofs.«01_k».proof.Proof.Vals
public import proofs.«01_k».proof.Proof.Words
public import Idealize.ShloMosaic.Lib.Pointwise

@[expose] public section

set_option maxRecDepth 16384

noncomputable section

namespace Cert.Proto

open Cert.KernelIdeal Cert.KernelIdeal.Gen

open Idealize.ShloMosaic
open Idealize.ShloMosaic.TcCoe
open Cert.Words

theorem rowBlk_at (i j : Fin 1024) : k0_pay28 k0_pay26 k0_pay27 1#32 (ix2 i j) = BitVec.ofNat 32 (i.val / 64) := by
  pointwise [k0_pay28, k0_pay26, k0_pay27]
  exact floorV_at ⟨i.val, by omega⟩
theorem wd_eq : ∀ c : Dev nD, wd c = BitVec.ofNat 32 c.val := by decide +kernel
theorem keyBlk_at (c : Dev nD) (i j : Fin 1024) : k0_pay29 (wd c) (ix2 i j) = BitVec.ofNat 32 ((1024 * c.val + j.val) / 64) := by
  rw [wd_eq]
  pointwise [k0_pay29]
  have e : IntOp.addi (BitVec.ofNat 32 j.val) (Scalar.muli (BitVec.ofNat 32 c.val) 1024#32) = BitVec.ofNat 32 (1024 * c.val + j.val) := by
    show BitVec.ofNat 32 j.val + BitVec.ofNat 32 c.val * BitVec.ofNat 32 1024 = _
    rw [← BitVec.ofNat_mul, ← BitVec.ofNat_add, Nat.add_comm, Nat.mul_comm]
  rw [e]
  exact floorV_at ⟨1024 * c.val + j.val, by have := dev_lt c; omega⟩
/-- The mask of device `c` at row `i` and its key `j`. -/
theorem maskF_at (c : Dev nD) (i : Fin 1024) (j : Fin 1024) : maskF c (ix2 i j) = 1#1 ↔ kept i.val (1024 * c.val + j.val) := by
  pointwise [maskF, k0_pay34, k0_pay30, k0_pay31, k0_pay32, k0_pay33]
  rw [rowBlk_at, keyBlk_at]
  exact keptV_at i.isLt (by have := dev_lt c; omega)

end Cert.Proto

end
-- ==== Proof.Inputs.lean ====
/-
  A device's arrays at its kernel's entry, element by element, out of the program's arguments, and the result array after it.
-/
module

public import proofs.«01_k».proof.Proof.Region
public import Idealize.ShloMosaic.Lib.Pipeline.ValueKit
public import Idealize.ShloMosaic.Lib.Pointwise
public import Idealize.ShloMosaic.Lib.Claim

@[expose] public section

set_option maxRecDepth 16384

noncomputable section

namespace Cert.Proto

open Cert.KernelIdeal Cert.KernelIdeal.Gen

open Idealize.ShloMosaic
open Idealize.ShloMosaic.TcCoe
open Idealize.SL.Sem

variable (m : (ℓ : Loc nD τ sig) → Buf (Elt Ideal) ℓ) (c : Dev nD)

/-- The arguments of device `c`. -/
abbrev A0 : FVec Ideal S1x1024x1024 .bf16 := m ((c : Thread nD τ).loc main_arg0)
abbrev A1 : FVec Ideal S1024x1024 .bf16 := m ((c : Thread nD τ).loc main_arg1)
abbrev A2 : FVec Ideal S1x1024x8x128 .bf16 := m ((c : Thread nD τ).loc main_arg2)
abbrev A3 : FVec Ideal S1x1024x8x128 .bf16 := m ((c : Thread nD τ).loc main_arg3)
abbrev A4 : FVec Ideal S1024x1024 .bf16 := m ((c : Thread nD τ).loc main_arg4)

/-- Every window is its whole array. -/
theorem idx : ∀ t : Fin cfg0.N, win0_0.index t = ![0, 0] ∧ win0_1.index t = ![0, 0] ∧ win0_2.index t = ![0, 0] ∧ win0_3.index t = ![0, 0]
    ∧ win0_4.index t = ![0, 0] := (by decide +kernel : ∀ t : Fin grid0.N, _)

theorem x0_eq : (x0 m c : FVec Ideal S1024x1024 .bf16) = V m c main_v1 := by
  unfold x0; funext j
  blk_ext [iblk, idx t0_0]
theorem x1_eq : (x1 m c : FVec Ideal S1024x1024 .bf16) = A1 m c := by
  unfold x1; funext j
  blk_ext [iblk, V, idx t0_0]
theorem x2_eq : (x2 m c : FVec Ideal S1024x1024 .bf16) = V m c main_v3 := by
  unfold x2; funext j
  blk_ext [iblk, idx t0_0]
theorem x3_eq : (x3 m c : FVec Ideal S1024x1024 .bf16) = V m c main_v5 := by
  unfold x3; funext j
  blk_ext [iblk, idx t0_0]
theorem x4_eq : (x4 m c : FVec Ideal S1024x1024 .bf16) = A4 m c := by
  unfold x4; funext j
  blk_ext [iblk, V, idx t0_0]

theorem x0_at (i k : Fin 1024) : (x0 m c : FVec Ideal S1024x1024 .bf16) (ix2 i k) = A0 m c (ix3 0 i k) := by
  rw [x0_eq]
  entry_read
  pointwise
theorem x2_at (j : Fin 1024) (h : Fin 8) (d : Fin 128) :
    (x2 m c : FVec Ideal S1024x1024 .bf16) (ix2 j ⟨128 * h.val + d.val, by omega⟩) = A2 m c (ix4 0 j h d) := by
  rw [x2_eq]
  entry_read
  pointwise
theorem x3_at (j : Fin 1024) (h : Fin 8) (d : Fin 128) :
    (x3 m c : FVec Ideal S1024x1024 .bf16) (ix2 j ⟨128 * h.val + d.val, by omega⟩) = A3 m c (ix4 0 j h d) := by
  rw [x3_eq]
  entry_read
  pointwise

/-- The result array holds what the body left. -/
theorem final : (dat m c).arrAt 5 cfg0.N = resV m c := by
  refine (dat m c).arrAt_eq_of_after_last 5 t0_0 (by decide +kernel) _ fun j => ?_
  blk_simp
  rfl

end Cert.Proto

end
-- ==== Proof.RefTerm.lean ====
/-
  The reference's result, named piece by piece: its mask, its scores, its weights and its output.
-/
module

public import proofs.«01_k».proof.Proof.Gen.ReferenceIdeal.Run
public import Idealize.ShloMosaic.Lib.Pointwise

@[expose] public section

set_option maxRecDepth 16384

noncomputable section

namespace Cert.RefTerm

open Cert.ReferenceIdeal Cert.ReferenceIdeal.Gen
open Idealize.ShloMosaic Idealize.ShloMosaic.TcCoe Idealize.SL.Sem Idealize.ShloMosaic.StableHlo

/-- The block of 64 each query row lies in, -/
def rowBlock : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))
/-- and each key. -/
def keyBlock : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

abbrev rowB : IVec S1024x8192 32 :=
  broadcastInDim S1024x8192 ![0, 1] bcast_S1024x1_S1024x8192_0_1 (broadcastInDim S1024x1 ![0] bcast_S1024_S1024x1_0 rowBlock)
abbrev keyB1 : IVec S1x8192 32 := broadcastInDim S1x8192 ![1] bcast_S8192_S1x8192_1 keyBlock
abbrev keyB : IVec S1024x8192 32 := broadcastInDim S1024x8192 ![0, 1] bcast_S1x8192_S1024x8192_0_1 keyB1
/-- The divisor three, as the remainder takes it. -/
abbrev three : IVec S_ 32 := select (cmpi .eq (id (constantI S_ 32 3#32)) (constantI S_ 32 0#32)) (constantI S_ 32 1#32) (id (constantI S_ 32 3#32))
abbrev remB : IVec S1024x8192 32 := Host.remsi (addi rowB keyB) (broadcastInDim S1024x8192 ![] bcast_S_S1024x8192 three)
/-- The sum of the two blocks, modulo three. -/
abbrev modB : IVec S1024x8192 32 :=
  select (andi (cmpi .ne (cmpi .slt remB (broadcastInDim S1024x8192 ![] bcast_S_S1024x8192 (constantI S_ 32 0#32)))
      (broadcastInDim S1024x8192 ![] bcast_S_S1024x8192 (cmpi .slt three (constantI S_ 32 0#32))))
      (cmpi .ne remB (broadcastInDim S1024x8192 ![] bcast_S_S1024x8192 (constantI S_ 32 0#32))))
    (addi remB (broadcastInDim S1024x8192 ![] bcast_S_S1024x8192 three)) remB
/-- Which keys each query row attends to. -/
def mask : IVec S1024x8192 1 :=
  ori (ori (cmpi .eq rowB keyB)
      (broadcastInDim S1024x8192 ![0, 1] bcast_S1x8192_S1024x8192_0_1 (cmpi .eq keyB1 (broadcastInDim S1x8192 ![] bcast_S_S1x8192 (constantI S_ 32 0#32)))))
    (cmpi .eq modB (broadcastInDim S1024x8192 ![] bcast_S_S1024x8192 (constantI S_ 32 0#32)))

/-- The scaled scores, before the mask. -/
def scores (X : FVec Ideal S1x1024x1024 .bf16) (Wq : FVec Ideal S1024x1024 .bf16) (K : FVec Ideal S1x8192x8x128 .bf16) : FVec Ideal S1x8x1024x8192 .f32 :=
  mulf (Host.dotGeneral dot_S1x1024x8x128_S1x8192x8x128_S1x8x1024x8192_3_3_1_1_02_02 none
      (shapeCast S1x1024x8x128 (Host.dotGeneral dot_S1x1024x1024_S1024x1024_S1x1024x1024_2_0_01_1_n_n none (extf .f32 X bitsLt_bf16_f32) (extf .f32 Wq bitsLt_bf16_f32))
        shapeCasts_S1x1024x1024_S1x1024x8x128 : FVec Ideal S1x1024x8x128 .f32) (extf .f32 K bitsLt_bf16_f32))
    (broadcastInDim S1x8x1024x8192 ![] bcast_S_S1x8x1024x8192 (constant S_ .f32 0x3DB504F3#32))
/-- The scores with minus infinity where the mask forbids. -/
def masked (k : IVec S1024x8192 1) (s : FVec Ideal S1x8x1024x8192 .f32) : FVec Ideal S1x8x1024x8192 .f32 :=
  select (broadcastInDim S1x8x1024x8192 ![0, 1, 2, 3] bcast_S1x1x1024x8192_S1x8x1024x8192_0_1_2_3 (broadcastInDim S1x1x1024x8192 ![2, 3] bcast_S1024x8192_S1x1x1024x8192_2_3 k)) s
    (broadcastInDim S1x8x1024x8192 ![] bcast_S_S1x8x1024x8192 (id (constant S_ .f32 0xFF800000#32)))
/-- Their exponentials, each row's maximum taken off first. -/
def powers (u : FVec Ideal S1x8x1024x8192 .f32) : FVec Ideal S1x8x1024x8192 .f32 :=
  Host.exp (subf u (broadcastInDim S1x8x1024x8192 ![0, 1, 2, 3] bcast_S1x8x1024x1_S1x8x1024x8192_0_1_2_3
    (broadcastInDim S1x8x1024x1 ![0, 1, 2] bcast_S1x8x1024_S1x8x1024x1_0_1_2
      (Host.reduce FloatOps.maximumf u (constant S_ .f32 0xFF800000#32) reducesTo_S1x8x1024x8192_S1x8x1024_d3 h_S_))))
/-- Which rows attend to anything. -/
def keep (k : IVec S1024x8192 1) : IVec S1024 1 := Host.reduce IntOp.ori k (constantI S_ 1 0#1) reducesTo_S1024x8192_S1024_d1 h_S_
/-- The sum of each row. -/
def rowSum (p : FVec Ideal S1x8x1024x8192 .f32) : FVec Ideal S1x8x1024 .f32 :=
  Host.reduceAdd p (constant S_ .f32 0x00000000#32) reducesTo_S1x8x1024x8192_S1x8x1024_d3 h_S_
abbrev keep4 (r : IVec S1024 1) : IVec S1x1x1024x1 1 := broadcastInDim S1x1x1024x1 ![2] bcast_S1024_S1x1x1024x1_2 r
/-- The weights: the exponentials `p` by their rows' sums `l`, in the rows that are kept. -/
def weights (r : IVec S1024 1) (l : FVec Ideal S1x8x1024 .f32) (p : FVec Ideal S1x8x1024x8192 .f32) : FVec Ideal S1x8x1024x8192 .f32 :=
  select (broadcastInDim S1x8x1024x8192 ![0, 1, 2, 3] bcast_S1x1x1024x1_S1x8x1024x8192_0_1_2_3 (keep4 r))
    (Host.divf p (broadcastInDim S1x8x1024x8192 ![0, 1, 2, 3] bcast_S1x8x1024x1_S1x8x1024x8192_0_1_2_3
      (select (broadcastInDim S1x8x1024x1 ![0, 1, 2, 3] bcast_S1x1x1024x1_S1x8x1024x1_0_1_2_3 (keep4 r))
        (broadcastInDim S1x8x1024x1 ![0, 1, 2] bcast_S1x8x1024_S1x8x1024x1_0_1_2 l)
        (broadcastInDim S1x8x1024x1 ![] bcast_S_S1x8x1024x1 (id (constant S_ .f32 0x3F800000#32))))))
    (broadcastInDim S1x8x1024x8192 ![] bcast_S_S1x8x1024x8192 (id (constant S_ .f32 0x00000000#32)))
/-- The output, of the weights. -/
def output (w : FVec Ideal S1x8x1024x8192 .f32) (V : FVec Ideal S1x8192x8x128 .bf16) (Wo : FVec Ideal S1024x1024 .bf16) : FVec Ideal S1x1024x1024 .f32 :=
  Host.dotGeneral dot_S1x1024x1024_S1024x1024_S1x1024x1024_2_0_01_1_n_n none
    (shapeCast S1x1024x1024 (transpose S1x1024x8x128 [0, 3, 1, 2]
      (Host.dotGeneral dot_S1x8192x8x128_S1x8x1024x8192_S1x8x128x1024_1_3_3_2_02_01 none (extf .f32 V bitsLt_bf16_f32) w)
      transposes_S1x8x128x1024_S1x1024x8x128_0_3_1_2) shapeCasts_S1x1024x8x128_S1x1024x1024 : FVec Ideal S1x1024x1024 .f32) (extf .f32 Wo bitsLt_bf16_f32)

/-- The reference's result as a function of its arguments. -/
def result (X : FVec Ideal S1x1024x1024 .bf16) (Wq : FVec Ideal S1024x1024 .bf16) (K V : FVec Ideal S1x8192x8x128 .bf16) (Wo : FVec Ideal S1024x1024 .bf16) :
    FVec Ideal S1x1024x1024 .f32 :=
  output (weights (keep mask) (rowSum (powers (masked mask (scores X Wq K)))) (powers (masked mask (scores X Wq K)))) V Wo

theorem result_eq (m : (ℓ : Loc nD τ sig) → Buf (Elt Ideal) ℓ) (c : Dev nD) :
    Value.res_main_v49 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v49
  rfl

end Cert.RefTerm

end
-- ==== Proof.RefAt.lean ====
/-
  The reference's result element by element, over the extended reals.
-/
module

public import proofs.«01_k».proof.Proof.RefTerm
public import Idealize.ShloMosaic.Lib.Routing.OpsOrder

@[expose] public section

set_option maxRecDepth 16384

noncomputable section

namespace Cert.RefTerm

open Cert.ReferenceIdeal Cert.ReferenceIdeal.Gen
open Idealize.ShloMosaic Idealize.ShloMosaic.TcCoe

/-- The query of head `h`, row `i`. -/
def qry (X : FVec Ideal S1x1024x1024 .bf16) (Wq : FVec Ideal S1024x1024 .bf16) (i : Fin 1024) (h : Fin 8) (d : Fin 128) : EReal :=
  ∑ k : Fin 1024, X (ix3 0 i k) * Wq (ix2 k ⟨128 * h.val + d.val, by omega⟩)
/-- The scaled score of key `j`. -/
def score (X : FVec Ideal S1x1024x1024 .bf16) (Wq : FVec Ideal S1024x1024 .bf16) (K : FVec Ideal S1x8192x8x128 .bf16) (i : Fin 1024) (h : Fin 8)
    (j : Fin 8192) : EReal := (∑ d : Fin 128, qry X Wq i h d * K (ix4 0 j h d)) * Ideal.ofBits .f32 0x3DB504F3#32

theorem scores_at (X : FVec Ideal S1x1024x1024 .bf16) (Wq : FVec Ideal S1024x1024 .bf16) (K : FVec Ideal S1x8192x8x128 .bf16) (h : Fin 8) (i : Fin 1024)
    (j : Fin 8192) : scores X Wq K (ix4 0 h i j) = score X Wq K i h j := by
  unfold score qry
  pointwise [scores]
  refine congrArg (· * _) (Finset.sum_congr rfl fun x _ => congrArg (· * _) (Finset.sum_congr rfl fun y _ => ?_))
  exact congrArg (fun z => _ * Wq (ix2 y z)) (Fin.ext (by show h.val * 128 + x.val = 128 * h.val + x.val; omega))

/-- The word of minus infinity. -/
theorem minf : Ideal.ofBits .f32 0xFF800000#32 = ⊥ := by
  simp [Ideal.ofBits, Ideal.ieee]

theorem masked_at (k : IVec S1024x8192 1) (s : FVec Ideal S1x8x1024x8192 .f32) (h : Fin 8) (i : Fin 1024) (j : Fin 8192) :
    masked k s (ix4 0 h i j) = if k (ix2 i j) = 1#1 then s (ix4 0 h i j) else ⊥ := by
  pointwise [masked]
  have e : (id (constant (F := Ideal) S_ FTy.f32 4286578688#32) ix0 : EReal) = ⊥ := minf
  rw [e]
  rfl

theorem powers_at (u : FVec Ideal S1x8x1024x8192 .f32) (h : Fin 8) (i : Fin 1024) (j : Fin 8192) :
    powers u (ix4 0 h i j) = Ideal.exp (u (ix4 0 h i j) - Finset.univ.fold max (⊥ : EReal) fun j' : Fin 8192 => u (ix4 0 h i j')) := by
  pointwise [powers]
  rw [minf]

theorem rowSum_at (p : FVec Ideal S1x8x1024x8192 .f32) (h : Fin 8) (i : Fin 1024) : rowSum p (ix3 0 h i) = ∑ j : Fin 8192, p (ix4 0 h i j) := by
  pointwise [rowSum]

theorem weights_at (r : IVec S1024 1) (l : FVec Ideal S1x8x1024 .f32) (p : FVec Ideal S1x8x1024x8192 .f32) (h : Fin 8) (i : Fin 1024) (j : Fin 8192)
    (hk : r (ix1 i) = 1#1) : weights r l p (ix4 0 h i j) = Ideal.div (p (ix4 0 h i j)) (l (ix3 0 h i)) := by
  pointwise [weights]
  rw [hk]
  rfl

theorem keep_at (k : IVec S1024x8192 1) (i : Fin 1024) (j : Fin 8192) (hk : k (ix2 i j) = 1#1) : keep k (ix1 i) = 1#1 := by
  pointwise [keep]
  exact (Idealize.ShloMosaic.Routing.fold_ori _ _).mpr ⟨j, Finset.mem_univ _, hk⟩

/-- A sum over 1024 columns, head by head. -/
theorem sum_split (f : Fin 1024 → EReal) : ∑ x, f x = ∑ h : Fin 8, ∑ d : Fin 128, f ⟨128 * h.val + d.val, by omega⟩ := by
  rw [← Fintype.sum_prod_type', ← Equiv.sum_comp (finProdFinEquiv (m := 8) (n := 128)) f]
  refine Finset.sum_congr rfl fun x _ => congrArg f (Fin.ext ?_)
  show x.2.val + 128 * x.1.val = 128 * x.1.val + x.2.val
  omega

theorem output_at (w : FVec Ideal S1x8x1024x8192 .f32) (V : FVec Ideal S1x8192x8x128 .bf16) (Wo : FVec Ideal S1024x1024 .bf16) (i n : Fin 1024) :
    output w V Wo (ix3 0 i n) = ∑ h : Fin 8, ∑ d : Fin 128, (∑ j : Fin 8192, V (ix4 0 j h d) * w (ix4 0 h i j)) * Wo (ix2 ⟨128 * h.val + d.val, by omega⟩ n) := by
  pointwise [output]
  rw [sum_split]
  refine Finset.sum_congr rfl fun h _ => Finset.sum_congr rfl fun d _ => ?_
  have e1 : (128 * h.val + d.val) / 128 = h.val := by omega
  have e2 : (128 * h.val + d.val) % 128 = d.val := by omega
  simp only [e1, e2]

end Cert.RefTerm

end
-- ==== Proof.Ker.lean ====
/-
  A device's result element by element, over the extended reals, out of the whole arrays the devices' arguments are cut from.
-/
module

public import proofs.«01_k».proof.Proof.Out
public import proofs.«01_k».proof.Proof.MaskKer
public import proofs.«01_k».proof.Proof.Inputs
public import proofs.«01_k».proof.Proof.RefAt

@[expose] public section

set_option maxRecDepth 16384

noncomputable section

namespace Cert.Proto

open Cert.KernelIdeal Cert.KernelIdeal.Gen

open Idealize.ShloMosaic
open Idealize.ShloMosaic.TcCoe
open Cert.Words Cert.RefTerm

theorem colsOf_at (X : FVec Ideal S1024x1024 .bf16) (h : Dev nD) (j : Fin 1024) (d : Fin 128) :
    (colsOf (F := Ideal) X h : FVec Ideal S1024x128 .bf16) (ix2 j d) = X (ix2 j ⟨128 * h.val + d.val, by have := dev_lt h; omega⟩) := by
  refine congrArg X ?_
  funext k
  fin_cases k <;> exact Fin.ext (by simp [Rect.emb, Rect.unit])
theorem allOf_at (X : FVec Ideal S1024x1024 .bf16) (i k : Fin 1024) :
    (allOf (F := Ideal) X : FVec Ideal S1024x1024 .bf16) (ix2 i k) = X (ix2 i k) := by
  refine congrArg X ?_
  funext k
  fin_cases k <;> exact Fin.ext (by simp [Rect.emb, Rect.unit])
theorem kF_at (X : FVec Ideal S1024x1024 .bf16) (h : Dev nD) (j : Fin 1024) (d : Fin 128) :
    (kF (F := Ideal) X h : FVec Ideal S1x1024x128 .bf16) (ix3 0 j d) = X (ix2 j ⟨128 * h.val + d.val, by have := dev_lt h; omega⟩) := by
  pointwise [k0_pay3]
  exact colsOf_at X h j d
theorem qF_at (v : FVec Ideal S1024x1024 .bf16) (h : Dev nD) (j : Fin 1024) (d : Fin 128) :
    (qF (F := Ideal) v h : FVec Ideal S1x1024x128 .bf16) (ix3 0 j d) = v (ix2 j ⟨128 * h.val + d.val, by have := dev_lt h; omega⟩) := by
  pointwise [qF]
theorem pay1_at (v w : FVec Ideal S1024x1024 .bf16) (i n : Fin 1024) :
    (k0_pay1 (F := Ideal) v w : FVec Ideal S1024x1024 .bf16) (ix2 i n) = ∑ k : Fin 1024, v (ix2 i k) * w (ix2 k n) := by
  pointwise [k0_pay1]

/-- The arguments of all devices come from these: the first two and the last whole, the others in eight blocks of keys. -/
structure Cut (m : (ℓ : Loc nD τ sig) → Buf (Elt Ideal) ℓ) (X : FVec Ideal S1x1024x1024 .bf16) (Wq : FVec Ideal S1024x1024 .bf16)
    (K V : FVec Ideal ⟨4, ![1, 8192, 8, 128]⟩ .bf16) (Wo : FVec Ideal S1024x1024 .bf16) : Prop where
  hX : ∀ c, A0 m c = X
  hWq : ∀ c, A1 m c = Wq
  hK : ∀ c (j : Fin 1024) (h : Fin 8) (d : Fin 128), A2 m c (ix4 0 j h d) = K (ix4 0 ⟨1024 * c.val + j.val, by have := dev_lt c; omega⟩ h d)
  hV : ∀ c (j : Fin 1024) (h : Fin 8) (d : Fin 128), A3 m c (ix4 0 j h d) = V (ix4 0 ⟨1024 * c.val + j.val, by have := dev_lt c; omega⟩ h d)
  hWo : ∀ c, A4 m c = Wo

/-- The unnormalised weight of key `j`. -/
def pw (X : FVec Ideal S1x1024x1024 .bf16) (Wq : FVec Ideal S1024x1024 .bf16) (K : FVec Ideal ⟨4, ![1, 8192, 8, 128]⟩ .bf16) (i : Fin 1024) (h : Fin 8)
    (j : Fin 8192) : EReal := if kept i.val j.val then Ideal.exp (score X Wq K i h j) else 0

variable {m : (ℓ : Loc nD τ sig) → Buf (Elt Ideal) ℓ} {X : FVec Ideal S1x1024x1024 .bf16} {Wq : FVec Ideal S1024x1024 .bf16}
  {K V : FVec Ideal ⟨4, ![1, 8192, 8, 128]⟩ .bf16} {Wo : FVec Ideal S1024x1024 .bf16} (H : Cut m X Wq K V Wo)

/-- The queries of head `h` as device `c` holds them, its keys and its values. -/
abbrev qD (m : (ℓ : Loc nD τ sig) → Buf (Elt Ideal) ℓ) (c h : Dev nD) : FVec Ideal S1x1024x128 .bf16 :=
  qF (F := Ideal) (k0_pay1 (allOf (x0 m c)) (allOf (x1 m c))) h
abbrev kD (m : (ℓ : Loc nD τ sig) → Buf (Elt Ideal) ℓ) (c h : Dev nD) : FVec Ideal S1x1024x128 .bf16 := kF (F := Ideal) (x2 m c) h
abbrev vD (m : (ℓ : Loc nD τ sig) → Buf (Elt Ideal) ℓ) (c h : Dev nD) : FVec Ideal S1x1024x128 .bf16 := kF (F := Ideal) (x3 m c) h

include H

theorem qD_at (c h : Dev nD) (i : Fin 1024) (d : Fin 128) : qD m c h (ix3 0 i d) = qry X Wq i h d := by
  refine (qF_at _ h i d).trans ((pay1_at _ _ _ _).trans (Finset.sum_congr rfl fun k _ => ?_))
  rw [allOf_at, allOf_at, x0_at, x1_eq, H.hX, H.hWq]
theorem kD_at (c h : Dev nD) (j : Fin 1024) (d : Fin 128) :
    kD m c h (ix3 0 j d) = K (ix4 0 ⟨1024 * c.val + j.val, by have := dev_lt c; omega⟩ h d) :=
  (kF_at _ h j d).trans ((x2_at m c j h d).trans (H.hK c j h d))
theorem vD_at (c h : Dev nD) (j : Fin 1024) (d : Fin 128) :
    vD m c h (ix3 0 j d) = V (ix4 0 ⟨1024 * c.val + j.val, by have := dev_lt c; omega⟩ h d) :=
  (kF_at _ h j d).trans ((x3_at m c j h d).trans (H.hV c j h d))

theorem wgt_at (c h : Dev nD) (i j : Fin 1024) :
    wgt (maskF c) (qD m c h) (kD m c h) i j = pw X Wq K i h ⟨1024 * c.val + j.val, by have := dev_lt c; omega⟩ := by
  unfold wgt pw score
  simp only [maskF_at, qD_at H, kD_at H]

/-- What device `c` computes of head `h`: the weighted sum of its values, -/
theorem part_lo (c h : Dev nD) (i : Fin 1024) (d : Fin 128) :
    partO (k0_pay72 (F := Ideal) (maskF c) (qD m c h) (kD m c h)) (vD m c h) (ix2 ⟨i.val, by omega⟩ d)
      = ∑ j : Fin 1024, pw X Wq K i h ⟨1024 * c.val + j.val, by have := dev_lt c; omega⟩ * V (ix4 0 ⟨1024 * c.val + j.val, by have := dev_lt c; omega⟩ h d) := by
  rw [partO_lo]
  refine Finset.sum_congr rfl fun j _ => ?_
  rw [pay72_at, wgt_at H, vD_at H]
/-- and the sum of its weights. -/
theorem part_hi (c h : Dev nD) (a : Fin 8) (r : Fin 128) :
    partO (k0_pay72 (F := Ideal) (maskF c) (qD m c h) (kD m c h)) (vD m c h) (ix2 ⟨1024 + a.val, by omega⟩ r)
      = ∑ j : Fin 1024, pw X Wq K ⟨128 * a.val + r.val, by omega⟩ h ⟨1024 * c.val + j.val, by have := dev_lt c; omega⟩ := by
  rw [partO_hi]
  refine Finset.sum_congr rfl fun j _ => ?_
  rw [pay72_at, wgt_at H]

omit H

/-- Device `c`'s part of head `h` as a matrix. -/
abbrev prt (m : (ℓ : Loc nD τ sig) → Buf (Elt Ideal) ℓ) (c h : Dev nD) (r : Fin 1032) (d : Fin 128) : EReal :=
  partO (k0_pay72 (F := Ideal) (maskF c) (qD m c h) (kD m c h)) (vD m c h) (ix2 r d)

theorem pieceV_at (c h : Dev nD) (r : Fin 1032) (d : Fin 128) : (pieceV (F := Ideal) m c h : FVec Ideal S1x1032x128 .bf16) (ix3 0 r d) = prt m c h r d := by
  have e : (pieceV (F := Ideal) m c h : FVec Ideal S1x1032x128 .bf16)
      = shapeCast S1x1032x128 (partO (k0_pay72 (F := Ideal) (maskF c) (qD m c h) (kD m c h)) (vD m c h)) shapeCasts_S1032x128_S1x1032x128 :=
    headO_eq (maskF c) (qD m c h) (kD m c h) (vD m c h)
  rw [e]
  unfold prt
  generalize partO (k0_pay72 (F := Ideal) (maskF c) (qD m c h) (kD m c h)) (vD m c h) = P
  pointwise

/-- The sums of device `c`'s own head, all parts but the last two in. -/
abbrev sixO (m : (ℓ : Loc nD τ sig) → Buf (Elt Ideal) ℓ) (c : Dev nD) : FVec Ideal S1032x128 .f32 :=
  k0_pay80 (F := Ideal) (k0_pay79 (ownO (maskF c) (qD m c c) (kD m c c) (vD m c c) (pieceV m (rot c 7) c)) (pieceV m (rot c 6) c) (pieceV m (rot c 5) c))
      (pieceV m (rot c 4) c) (pieceV m (rot c 3) c)

theorem allO_at (c : Dev nD) (r : Fin 1032) (d : Fin 128) :
    allO (sixO m c) (pieceV (F := Ideal) m (rot c 2) c) (pieceV (F := Ideal) m (rot c 1) c) r d = ∑ b : Dev nD, prt m b c r d := by
  rw [← rot_sum c fun b => prt m b c r d]
  unfold allO sixO
  rw [ownO_eq]
  simp only [← pieceV_at (m := m) (rot c _)]
  unfold prt
  generalize partO (k0_pay72 (F := Ideal) (maskF c) (qD m c c) (kD m c c)) (vD m c c) = P
  pointwise [k0_pay80, k0_pay79]

/-- The context of head `c`. -/
theorem ctxT_at (c : Dev nD) (a : Fin 8) (r d : Fin 128) :
    (ctxT (F := Ideal) c (x0 m c) (x1 m c) (x2 m c) (x3 m c) (fun h => pieceV m h c) : FVec Ideal S1024x128 .bf16) (ix2 ⟨128 * a.val + r.val, by omega⟩ d)
      = Ideal.div (∑ b : Dev nD, prt m b c ⟨128 * a.val + r.val, by omega⟩ d) (∑ b : Dev nD, prt m b c ⟨1024 + a.val, by omega⟩ r) := by
  rw [← allO_at, ← allO_at]
  exact pay81_at (sixO m c) (pieceV (F := Ideal) m (rot c 2) c) (pieceV (F := Ideal) m (rot c 1) c) a r d
theorem ctxV_at (c : Dev nD) (i : Fin 1024) (d : Fin 128) :
    (ctxV (F := Ideal) m c : FVec Ideal S1x1024x128 .bf16) (ix3 0 i d)
      = (ctxT (F := Ideal) c (x0 m c) (x1 m c) (x2 m c) (x3 m c) (fun h => pieceV m h c) : FVec Ideal S1024x128 .bf16) (ix2 i d) := by
  have e : (ctxV (F := Ideal) m c : FVec Ideal S1x1024x128 .bf16)
      = shapeCast S1x1024x128 (ctxT (F := Ideal) c (x0 m c) (x1 m c) (x2 m c) (x3 m c) (fun h => pieceV m h c) : FVec Ideal S1024x128 .bf16)
        shapeCasts_S1024x128_S1x1024x128 := rfl
  rw [e]
  generalize (ctxT (F := Ideal) c (x0 m c) (x1 m c) (x2 m c) (x3 m c) (fun h => pieceV m h c) : FVec Ideal S1024x128 .bf16) = T
  pointwise

/-- A sum over all keys, device by device. -/
theorem sum_keys (f : Fin 8192 → EReal) : ∑ x, f x = ∑ h : Dev nD, ∑ d : Fin 1024, f ⟨1024 * h.val + d.val, by have := dev_lt h; omega⟩ := by
  refine Eq.trans ?_ (Fintype.sum_prod_type' (fun (h : Fin 8) (d : Fin 1024) => f ⟨1024 * h.val + d.val, by omega⟩))
  rw [← Equiv.sum_comp (finProdFinEquiv (m := 8) (n := 1024)) f]
  refine Finset.sum_congr rfl fun x _ => congrArg f (Fin.ext ?_)
  show x.2.val + 1024 * x.1.val = 1024 * x.1.val + x.2.val
  omega

include H

/-- The context of head `h`: the weighted mean of the values over all keys. -/
theorem ctx_at (h : Dev nD) (i : Fin 1024) (d : Fin 128) :
    (ctxV (F := Ideal) m h : FVec Ideal S1x1024x128 .bf16) (ix3 0 i d)
      = Ideal.div (∑ j : Fin 8192, pw X Wq K i h j * V (ix4 0 j h d)) (∑ j : Fin 8192, pw X Wq K i h j) := by
  obtain ⟨a, r, rfl⟩ : ∃ (a : Fin 8) (r : Fin 128), i = ⟨128 * a.val + r.val, by omega⟩ :=
    ⟨⟨i.val / 128, by omega⟩, ⟨i.val % 128, by omega⟩, Fin.ext (by show i.val = 128 * (i.val / 128) + i.val % 128; omega)⟩
  rw [ctxV_at, ctxT_at, sum_keys, sum_keys]
  refine congrArg₂ Ideal.div (Finset.sum_congr rfl fun b _ => ?_) (Finset.sum_congr rfl fun b _ => ?_)
  · exact part_lo H b h ⟨128 * a.val + r.val, by omega⟩ d
  · exact part_hi H b h a r

/-- A device's result. -/
theorem resV_at (c : Dev nD) (i n : Fin 1024) :
    (resV (F := Ideal) m c : FVec Ideal S1x1024x1024 .f32) (ix3 0 i n)
      = ∑ h : Fin 8, ∑ d : Fin 128,
          Ideal.div (∑ j : Fin 8192, pw X Wq K i h j * V (ix4 0 j h d)) (∑ j : Fin 8192, pw X Wq K i h j) * Wo (ix2 ⟨128 * h.val + d.val, by omega⟩ n) := by
  refine (outO_at c (x4 m c) _ (ctxV m) i n fun d => (ctxV_at c i d).symm).trans ?_
  refine Finset.sum_congr rfl fun h _ => Finset.sum_congr rfl fun d _ => ?_
  rw [ctx_at H, x4_eq, H.hWo]

end Cert.Proto

end
-- ==== Proof.MaskRef.lean ====
/-
  The reference's mask in plain numbers.
-/
module

public import proofs.«01_k».proof.Proof.RefTerm
public import proofs.«01_k».proof.Proof.Words

@[expose] public section

set_option maxRecDepth 16384

noncomputable section

namespace Cert.RefTerm

open Cert.ReferenceIdeal Cert.ReferenceIdeal.Gen
open Idealize.ShloMosaic Idealize.ShloMosaic.TcCoe Cert.Words

theorem rowBlock_at (i : Fin 1024) : rowBlock (ix1 i) = BitVec.ofNat 32 (i.val / 64) := by
  pointwise [rowBlock]
  exact floorH_at ⟨i.val, by omega⟩
theorem keyBlock_at (j : Fin 8192) : keyBlock (ix1 j) = BitVec.ofNat 32 (j.val / 64) := by
  pointwise [keyBlock]
  exact floorH_at j
/-- The mask at row `i` and key `j`. -/
theorem mask_at (i : Fin 1024) (j : Fin 8192) : mask (ix2 i j) = 1#1 ↔ kept i.val j.val := by
  pointwise [mask]
  rw [rowBlock_at, keyBlock_at]
  exact keptH_at i.isLt j.isLt

end Cert.RefTerm

end
-- ==== Proof.Softmax.lean ====
/-
  A weighted mean with exponential weights is the same whether or not the scores are first lowered by their maximum, the
  values being any extended reals.
-/
module

public import Idealize.ShloMosaic.Lib.Pointwise
public import Mathlib.Data.EReal.Inv

@[expose] public section

noncomputable section

namespace Cert.Proto

open Idealize.ShloMosaic

theorem mul_sum_of_nonneg {ι : Type*} (S : Finset ι) (a : ℝ) (ha : 0 ≤ a) (f : ι → EReal) :
    (a : EReal) * ∑ j ∈ S, f j = ∑ j ∈ S, (a : EReal) * f j := by
  classical
  induction S using Finset.induction_on with
  | empty => simp
  | insert i S hi ih =>
    rw [Finset.sum_insert hi, Finset.sum_insert hi, EReal.left_distrib_of_nonneg_of_ne_top (by exact_mod_cast ha) (EReal.coe_ne_top a), ih]

theorem coe_sum {ι : Type*} (S : Finset ι) (f : ι → ℝ) : ((∑ j ∈ S, f j : ℝ) : EReal) = ∑ j ∈ S, (f j : EReal) := by
  classical
  induction S using Finset.induction_on with
  | empty => simp
  | insert i S hi ih => rw [Finset.sum_insert hi, Finset.sum_insert hi, EReal.coe_add, ih]

/-- The maximum of reals, some of them left out and at least one not, is a real. -/
theorem fold_max_real {ι : Type*} (S : Finset ι) (P : ι → Prop) [DecidablePred P] (s : ι → ℝ) :
    (∃ M : ℝ, S.fold max (⊥ : EReal) (fun j => if P j then (s j : EReal) else ⊥) = M) ∨
      (S.fold max (⊥ : EReal) (fun j => if P j then (s j : EReal) else ⊥) = ⊥ ∧ ∀ j ∈ S, ¬ P j) := by
  classical
  induction S using Finset.induction_on with
  | empty => right; simp
  | insert i S hi ih =>
    rw [Finset.fold_insert hi]
    by_cases hP : P i
    · left
      rw [if_pos hP]
      rcases ih with ⟨M, hM⟩ | ⟨hM, -⟩
      · exact ⟨max (s i) M, by rw [hM]; exact (EReal.coe_strictMono.monotone.map_max).symm⟩
      · exact ⟨s i, by rw [hM]; exact max_eq_left bot_le⟩
    · rw [if_neg hP, max_eq_right bot_le]
      rcases ih with h | ⟨hM, h⟩
      · exact .inl h
      · refine .inr ⟨hM, fun j hj => ?_⟩
        rcases Finset.mem_insert.mp hj with rfl | hj
        · exact hP
        · exact h j hj

theorem exp_real (r : ℝ) : Ideal.exp (r : EReal) = (Real.exp r : EReal) := rfl
theorem exp_bot : Ideal.exp (⊥ : EReal) = 0 := rfl
theorem div_real {y : EReal} (x : EReal) (h : y ≠ 0) : Ideal.div x y = x * y⁻¹ := if_neg h

/-- The two weighted means: with the maximum taken off and each weight divided, and plainly. -/
theorem softmax {ι : Type*} [Fintype ι] (P : ι → Prop) [DecidablePred P] (s : ι → ℝ) (V : ι → EReal) (hP : ∃ j, P j) :
    let u : ι → EReal := fun j => if P j then (s j : EReal) else ⊥
    let M := Finset.univ.fold max (⊥ : EReal) u
    ∑ j, V j * Ideal.div (Ideal.exp (u j - M)) (∑ j', Ideal.exp (u j' - M))
      = Ideal.div (∑ j, (if P j then Ideal.exp (s j) else 0) * V j) (∑ j, if P j then Ideal.exp (s j) else 0) := by
  intro u M
  obtain ⟨j₀, hj₀⟩ := hP
  obtain ⟨r, hr⟩ : ∃ r : ℝ, M = r := by
    rcases fold_max_real Finset.univ P s with h | ⟨-, h⟩
    · exact h
    · exact absurd hj₀ (h j₀ (Finset.mem_univ _))
  let w : ι → ℝ := fun j => if P j then Real.exp (s j) else 0
  have hw : ∀ j, 0 ≤ w j := fun j => by dsimp only [w]; split <;> positivity
  have hW : 0 < ∑ j, w j := Finset.sum_pos' (fun j _ => hw j) ⟨j₀, Finset.mem_univ _, by dsimp only [w]; rw [if_pos hj₀]; positivity⟩
  have hp : ∀ j, (if P j then Ideal.exp (s j) else 0) = (w j : EReal) := fun j => by
    dsimp only [w]; split
    · exact exp_real _
    · exact EReal.coe_zero.symm
  have hu : ∀ j, Ideal.exp (u j - M) = ((w j * Real.exp (-r) : ℝ) : EReal) := fun j => by
    dsimp only [w, u]; rw [hr]; split
    · rw [← EReal.coe_sub, exp_real, ← Real.exp_add, sub_eq_add_neg]
    · rw [EReal.bot_sub, exp_bot, zero_mul, EReal.coe_zero]
  have he := Real.exp_pos (-r)
  simp only [hu, hp]
  rw [← coe_sum, ← coe_sum, ← Finset.sum_mul, div_real _ (by exact_mod_cast hW.ne'), ← EReal.coe_inv, mul_comm _ ((_ : ℝ) : EReal),
    mul_sum_of_nonneg _ _ (inv_nonneg.mpr hW.le)]
  refine Finset.sum_congr rfl fun j _ => ?_
  rw [div_real _ (by exact_mod_cast (mul_pos hW he).ne'), ← EReal.coe_inv, ← EReal.coe_mul, ← mul_assoc, ← EReal.coe_mul, mul_comm (V j)]
  congr 2
  field_simp

end Cert.Proto

end
-- ==== Proof.Join.lean ====
/-
  The reference's result element by element, where the scores are real numbers; and both sides together.
-/
module

public import proofs.«01_k».proof.Proof.Ker
public import proofs.«01_k».proof.Proof.MaskRef
public import proofs.«01_k».proof.Proof.Softmax

@[expose] public section

set_option maxRecDepth 16384

noncomputable section

namespace Cert.Proto

open Cert.KernelIdeal Cert.KernelIdeal.Gen

open Idealize.ShloMosaic
open Idealize.ShloMosaic.TcCoe
open Cert.Words Cert.RefTerm

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.sum {ι : Type*} {S : Finset ι} {f : ι → EReal} (h : ∀ j, IsReal (f j)) : IsReal (∑ j ∈ S, f j) := by
  choose r hr using h
  exact ⟨∑ j ∈ S, r j, by rw [coe_sum]; exact Finset.sum_congr rfl fun j _ => hr j⟩
theorem scale_real : IsReal (Ideal.ofBits .f32 0x3DB504F3#32) := by
  unfold IsReal
  simp only [Ideal.ofBits, Ideal.ieee]
  simp
  exact ⟨_, (EReal.coe_mul _ _).symm⟩

/-- What lies strictly below plus infinity in absolute value is real. -/
theorem isReal_of_lt {x : EReal} (h : Ideal.cmp .olt (max x (-x)) (Ideal.ofBits .bf16 0x7F80#16) = 1#1) : IsReal x := by
  have ht : Ideal.ofBits .bf16 0x7F80#16 = ⊤ := by simp [Ideal.ofBits, Ideal.ieee]
  rw [ht] at h
  have h := max_lt_iff.mp ((Ideal.cmp_olt_eq_one _ _).mp h)
  refine ⟨x.toReal, (EReal.coe_toReal h.1.ne fun hb => ?_).symm⟩
  rw [hb] at h
  exact absurd h.2 (by simp)

variable {X : FVec Ideal S1x1024x1024 .bf16} {Wq : FVec Ideal S1024x1024 .bf16} {K V : FVec Ideal ⟨4, ![1, 8192, 8, 128]⟩ .bf16}
  {Wo : FVec Ideal S1024x1024 .bf16}

theorem score_real (hX : ∀ i k, IsReal (X (ix3 0 i k))) (hW : ∀ i k, IsReal (Wq (ix2 i k))) (hK : ∀ j h d, IsReal (K (ix4 0 j h d)))
    (i : Fin 1024) (h : Fin 8) (j : Fin 8192) : IsReal (score X Wq K i h j) :=
  (IsReal.sum fun _ => (IsReal.sum fun _ => (hX _ _).mul (hW _ _)).mul (hK _ _ _)).mul scale_real

/-- The first key is kept in every row. -/
theorem kept_zero (i : ℕ) : kept i 0 := .inr (.inl rfl)

/-- The reference's result. -/
theorem result_at (hs : ∀ i h j, IsReal (score X Wq K i h j)) (i n : Fin 1024) :
    (result X Wq K V Wo : FVec Ideal S1x1024x1024 .f32) (ix3 0 i n)
      = ∑ h : Fin 8, ∑ d : Fin 128,
          Ideal.div (∑ j : Fin 8192, pw X Wq K i h j * V (ix4 0 j h d)) (∑ j : Fin 8192, pw X Wq K i h j) * Wo (ix2 ⟨128 * h.val + d.val, by omega⟩ n) := by
  refine (output_at _ V Wo i n).trans ?_
  refine Finset.sum_congr rfl fun h _ => Finset.sum_congr rfl fun d _ => congrArg (· * _) ?_
  choose s hr using hs i h
  have hk : keep mask (ix1 i) = 1#1 := keep_at mask i 0 ((mask_at i 0).mpr (kept_zero i.val))
  have hp : ∀ j, powers (masked mask (scores X Wq K)) (ix4 0 h i j)
      = Ideal.exp ((if kept i.val j.val then (s j : EReal) else ⊥)
          - Finset.univ.fold max ⊥ fun j' : Fin 8192 => if kept i.val j'.val then (s j' : EReal) else ⊥) := fun j => by
    rw [powers_at]
    simp only [masked_at, scores_at, mask_at, hr]
  have hw : ∀ j, pw X Wq K i h j = if kept i.val j.val then Ideal.exp (s j) else 0 := fun j => by
    unfold pw; rw [hr]
  simp only [hw]
  refine Eq.trans ?_ (softmax (fun j : Fin 8192 => kept i.val j.val) s (fun j => V (ix4 0 j h d)) ⟨0, kept_zero i.val⟩)
  refine Finset.sum_congr rfl fun j _ => congrArg (V (ix4 0 j h d) * ·) ?_
  rw [weights_at _ _ _ _ _ _ hk, rowSum_at]
  simp only [hp]

/-- A device's result is the reference's. -/
theorem resV_eq {m : (ℓ : Loc nD τ sig) → Buf (Elt Ideal) ℓ} (H : Cut m X Wq K V Wo) (hs : ∀ i h j, IsReal (score X Wq K i h j)) (c : Dev nD) :
    (resV (F := Ideal) m c : FVec Ideal S1x1024x1024 .f32) = result X Wq K V Wo := by
  funext t
  obtain ⟨i, n, rfl⟩ : ∃ i n : Fin 1024, t = ix3 0 i n := ⟨t 1, t 2, by
    funext k; fin_cases k
    · exact Fin.ext (by have := (t 0).isLt; simp at this; simpa using this)
    · rfl
    · rfl⟩
  exact (resV_at H c i n).trans (result_at hs i n).symm

end Cert.Proto

end
-- ==== Proof.Algebraic.lean ====
/-
  The value claim: where the scores' operands are finite, every device's result is the reference's.
-/
module

public import proofs.«01_k».proof.Defs
public import proofs.«01_k».proof.Proof.Join
public import proofs.«01_k».proof.Proof.Launch
public import Idealize.ShloMosaic.Lib.LayoutAt

@[expose] public section

set_option maxRecDepth 16384

noncomputable section

namespace Cert.Proto

open Cert.KernelIdeal Cert.KernelIdeal.Gen

open Idealize.ShloMosaic Idealize.SL.Sem
open Idealize.ShloMosaic.TcCoe
open Cert.Words Cert.RefTerm

/-- The shape facts of the precondition, on a device's blocks -/
theorem pre_facts : Cert.Pre_scores_finite_KernelIdeal.Facts := ⟨by decide, by decide, by decide⟩
/-- and on the whole arrays. -/
theorem pre_facts_whole : Cert.Pre_scores_finite_ReferenceIdeal.Facts := ⟨by decide, by decide, by decide⟩

/-- The precondition, element by element. -/
theorem pre_real {m : (ℓ : Loc nD τ sig) → Buf (Elt Ideal) ℓ}
    (h : Cert.Pre_KernelIdeal_scores_finite_KernelIdeal (hPre_scores_finite_KernelIdeal := pre_facts) m) (c : Dev nD) :
    (∀ i, IsReal (A0 m c i)) ∧ (∀ i, IsReal (A1 m c i)) ∧ ∀ i, IsReal (A2 m c i) :=
  ⟨fun i => isReal_of_lt (congrFun (h c).1 i), fun i => isReal_of_lt (congrFun (h c).2.1 i), fun i => isReal_of_lt (congrFun (h c).2.2 i)⟩

/-- A block of keys at an index. -/
theorem block_keys (Y : FVec Ideal ⟨4, ![1, 8192, 8, 128]⟩ .bf16) (c : Dev nD) (j : Fin 1024) (h : Fin 8) (d : Fin 128) :
    Layout.block ⟨4, ![1, 1024, 8, 128]⟩ ⟨4, ![1, 8192, 8, 128]⟩ 1 8 c Y (by decide) (ix4 0 j h d)
      = Y (ix4 0 ⟨1024 * c.val + j.val, by have := dev_lt c; omega⟩ h d) := by
  rw [Layout.block_apply]
  shard_ext

theorem algebraic : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := pre_facts) := by
  intro m g m' g' hp ha
  have H : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hX := fun c => (ha c).1
      hWq := fun c => (ha c).2.1
      hK := fun c j h d => (congrFun (ha c).2.2.1 (ix4 0 j h d)).trans (block_keys _ c j h d)
      hV := fun c j h d => (congrFun (ha c).2.2.2.1 (ix4 0 j h d)).trans (block_keys _ c j h d)
      hWo := fun c => (ha c).2.2.2.2 }
  have hs := score_real (fun i k => by have := (pre_real hp 0).1 (ix3 0 i k); rwa [H.hX] at this)
    (fun i k => by have := (pre_real hp 0).2.1 (ix2 i k); rwa [H.hWq] at this)
    (fun j h d => by
      have e : j = ⟨1024 * (j.val / 1024) + j.val % 1024, by omega⟩ := Fin.ext (by show j.val = 1024 * (j.val / 1024) + j.val % 1024; omega)
      have := (pre_real hp ⟨j.val / 1024, by show j.val / 1024 < 8; omega⟩).2.2 (ix4 0 ⟨j.val % 1024, by omega⟩ h d)
      rw [H.hK] at this
      rw [e]
      exact this)
  refine ⟨Cert.ReferenceIdeal.Value.res_main_v49 (F := Ideal) m' 0, ?_, ?_⟩
  · refine (θ_run _ _ _).mono (fun r h c => ?_) (run_main (F := Ideal) m g)
    obtain ⟨h0, h1, h2, h3, h4, h5⟩ := h.1 c
    exact ⟨h5.trans ((final m c).trans ((resV_eq H hs c).trans (result_eq m' 0).symm)), h0, h1, h2, h3, h4⟩
  · exact (θ_run _ _ _).mono (fun r h => h 0) (Cert.ReferenceIdeal.Value.run (F := Ideal) m' g')

end Cert.Proto

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameProof
public import proofs.«01_k».proof.Proof.Algebraic
public import Idealize.ShloMosaic.Adequacy
public import Idealize.ShloMosaic.Init

@[expose] public section

noncomputable section

namespace Cert.Proof

open Idealize.ShloMosaic Idealize.SL.Sem

/-- The reference finishes and leaves its arguments as they were. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Proto.pre_facts, Cert.Proto.pre_facts_whole,
  Cert.Proto.frame_bits, Cert.Proto.frame_ideal, fun m g _ => Cert.Proto.frame_ideal m g trivial,
  frame_reference, fun m g _ => frame_reference m g trivial, trivial, Cert.Proto.algebraic⟩

end Cert.Proof

end
